-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1 : Shape := ⟨1, ![1]⟩
abbrev S4096x2048 : Shape := ⟨2, ![4096, 2048]⟩
abbrev S2x128x1024 : Shape := ⟨3, ![2, 128, 1024]⟩
abbrev S2 : Shape := ⟨1, ![2]⟩
abbrev S_ : Shape := ⟨0, ![]⟩
abbrev S1x128x1024 : Shape := ⟨3, ![1, 128, 1024]⟩
abbrev S128x1024 : Shape := ⟨2, ![128, 1024]⟩

abbrev nBuf : Space → Nat
  | .hbm => 5
  | .vmem => 5
  | .smem => 2
  | _ => 0

abbrev bufTy : (tb : Table) → Fin (tcTables nBuf tb) → BufTy
  | .hbm, ⟨0, _⟩ => ⟨S4096x128, .fp8e5m2⟩
  | .hbm, ⟨1, _⟩ => ⟨S128x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x128, .fp8e5m2⟩
  | .local _ .vmem, ⟨1, _⟩ => ⟨S128x2048, .fp8e5m2⟩
  | .local _ .vmem, ⟨2, _⟩ => ⟨S4096x2048, .f32⟩
  | .local _ .vmem, ⟨3, _⟩ => ⟨S2x128x1024, .f32⟩
  | .local _ .vmem, ⟨4, _⟩ => ⟨S2x128x1024, .f32⟩
  | .local _ .smem, ⟨0, _⟩ => ⟨S1, .f32⟩
  | .local _ .smem, ⟨1, _⟩ => ⟨S1, .f32⟩
  | _, _ => ⟨S4096x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 5 21 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32_171 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_170 : BitVec 32 := 1#32
  let v396 : BitVec 32 := Scalar.muli v386 c1_i32_170
  let v397 : BitVec 32 := Scalar.addi c0_i32_171 v396
  v397.toNat
def k0_dev2 (d0 : Dev nD) : Nat :=
  let c0_i32_174 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_173 : BitVec 32 := 1#32
  let v398 : BitVec 32 := Scalar.muli v258 c1_i32_173
  let v399 : BitVec 32 := Scalar.addi c0_i32_174 v398
  v399.toNat
def k0_off1 (d0 : Dev nD) (c0_i32_176 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c31_i32 : BitVec 32 := 31#32
  let c1_i32_2 : BitVec 32 := 1#32
  let v7 : BitVec 1 := Scalar.cmpi .eq v2 c1_i32_2
  let v8 : BitVec 32 := Scalar.extui v7
  let v9 : BitVec 32 := Scalar.muli c31_i32 v8
  let v10 : BitVec 32 := Scalar.addi v6 v9
  let c30_i32 : BitVec 32 := 30#32
  let c2_i32 : BitVec 32 := 2#32
  let v11 : BitVec 1 := Scalar.cmpi .eq v2 c2_i32
  let v12 : BitVec 32 := Scalar.extui v11
  let v13 : BitVec 32 := Scalar.muli c30_i32 v12
  let v14 : BitVec 32 := Scalar.addi v10 v13
  let c1_i32_3 : BitVec 32 := 1#32
  let c3_i32 : BitVec 32 := 3#32
  let v15 : BitVec 1 := Scalar.cmpi .eq v2 c3_i32
  let v16 : BitVec 32 := Scalar.extui v15
  let v17 : BitVec 32 := Scalar.muli c1_i32_3 v16
  let v18 : BitVec 32 := Scalar.addi v14 v17
  let c2_i32_4 : BitVec 32 := 2#32
  let c4_i32 : BitVec 32 := 4#32
  let v19 : BitVec 1 := Scalar.cmpi .eq v2 c4_i32
  let v20 : BitVec 32 := Scalar.extui v19
  let v21 : BitVec 32 := Scalar.muli c2_i32_4 v20
  let v22 : BitVec 32 := Scalar.addi v18 v21
  let c29_i32 : BitVec 32 := 29#32
  let c5_i32 : BitVec 32 := 5#32
  let v23 : BitVec 1 := Scalar.cmpi .eq v2 c5_i32
  let v24 : BitVec 32 := Scalar.extui v23
  let v25 : BitVec 32 := Scalar.muli c29_i32 v24
  let v26 : BitVec 32 := Scalar.addi v22 v25
  let c28_i32 : BitVec 32 := 28#32
  let c6_i32 : BitVec 32 := 6#32
  let v27 : BitVec 1 := Scalar.cmpi .eq v2 c6_i32
  let v28 : BitVec 32 := Scalar.extui v27
  let v29 : BitVec 32 := Scalar.muli c28_i32 v28
  let v30 : BitVec 32 := Scalar.addi v26 v29
  let c3_i32_5 : BitVec 32 := 3#32
  let c7_i32 : BitVec 32 := 7#32
  let v31 : BitVec 1 := Scalar.cmpi .eq v2 c7_i32
  let v32 : BitVec 32 := Scalar.extui v31
  let v33 : BitVec 32 := Scalar.muli c3_i32_5 v32
  let v34 : BitVec 32 := Scalar.addi v30 v33
  let c7_i32_6 : BitVec 32 := 7#32
  let c8_i32 : BitVec 32 := 8#32
  let v35 : BitVec 1 := Scalar.cmpi .eq v2 c8_i32
  let v36 : BitVec 32 := Scalar.extui v35
  let v37 : BitVec 32 := Scalar.muli c7_i32_6 v36
  let v38 : BitVec 32 := Scalar.addi v34 v37
  let c24_i32 : BitVec 32 := 24#32
  let c9_i32 : BitVec 32 := 9#32
  let v39 : BitVec 1 := Scalar.cmpi .eq v2 c9_i32
  let v40 : BitVec 32 := Scalar.extui v39
  let v41 : BitVec 32 := Scalar.muli c24_i32 v40
  let v42 : BitVec 32 := Scalar.addi v38 v41
  let c25_i32 : BitVec 32 := 25#32
  let c10_i32 : BitVec 32 := 10#32
  let v43 : BitVec 1 := Scalar.cmpi .eq v2 c10_i32
  let v44 : BitVec 32 := Scalar.extui v43
  let v45 : BitVec 32 := Scalar.muli c25_i32 v44
  let v46 : BitVec 32 := Scalar.addi v42 v45
  let c6_i32_7 : BitVec 32 := 6#32
  let c11_i32 : BitVec 32 := 11#32
  let v47 : BitVec 1 := Scalar.cmpi .eq v2 c11_i32
  let v48 : BitVec 32 := Scalar.extui v47
  let v49 : BitVec 32 := Scalar.muli c6_i32_7 v48
  let v50 : BitVec 32 := Scalar.addi v46 v49
  let c5_i32_8 : BitVec 32 := 5#32
  let c12_i32 : BitVec 32 := 12#32
  let v51 : BitVec 1 := Scalar.cmpi .eq v2 c12_i32
  let v52 : BitVec 32 := Scalar.extui v51
  let v53 : BitVec 32 := Scalar.muli c5_i32_8 v52
  let v54 : BitVec 32 := Scalar.addi v50 v53
  let c26_i32 : BitVec 32 := 26#32
  let c13_i32 : BitVec 32 := 13#32
  let v55 : BitVec 1 := Scalar.cmpi .eq v2 c13_i32
  let v56 : BitVec 32 := Scalar.extui v55
  let v57 : BitVec 32 := Scalar.muli c26_i32 v56
  let v58 : BitVec 32 := Scalar.addi v54 v57
  let c27_i32 : BitVec 32 := 27#32
  let c14_i32 : BitVec 32 := 14#32
  let v59 : BitVec 1 := Scalar.cmpi .eq v2 c14_i32
  let v60 : BitVec 32 := Scalar.extui v59
  let v61 : BitVec 32 := Scalar.muli c27_i32 v60
  let v62 : BitVec 32 := Scalar.addi v58 v61
  let c4_i32_9 : BitVec 32 := 4#32
  let c15_i32 : BitVec 32 := 15#32
  let v63 : BitVec 1 := Scalar.cmpi .eq v2 c15_i32
  let v64 : BitVec 32 := Scalar.extui v63
  let v65 : BitVec 32 := Scalar.muli c4_i32_9 v64
  let v66 : BitVec 32 := Scalar.addi v62 v65
  let c8_i32_10 : BitVec 32 := 8#32
  let c16_i32 : BitVec 32 := 16#32
  let v67 : BitVec 1 := Scalar.cmpi .eq v2 c16_i32
  let v68 : BitVec 32 := Scalar.extui v67
  let v69 : BitVec 32 := Scalar.muli c8_i32_10 v68
  let v70 : BitVec 32 := Scalar.addi v66 v69
  let c23_i32 : BitVec 32 := 23#32
  let c17_i32 : BitVec 32 := 17#32
  let v71 : BitVec 1 := Scalar.cmpi .eq v2 c17_i32
  let v72 : BitVec 32 := Scalar.extui v71
  let v73 : BitVec 32 := Scalar.muli c23_i32 v72
  let v74 : BitVec 32 := Scalar.addi v70 v73
  let c22_i32 : BitVec 32 := 22#32
  let c18_i32 : BitVec 32 := 18#32
  let v75 : BitVec 1 := Scalar.cmpi .eq v2 c18_i32
  let v76 : BitVec 32 := Scalar.extui v75
  let v77 : BitVec 32 := Scalar.muli c22_i32 v76
  let v78 : BitVec 32 := Scalar.addi v74 v77
  let c9_i32_11 : BitVec 32 := 9#32
  let c19_i32 : BitVec 32 := 19#32
  let v79 : BitVec 1 := Scalar.cmpi .eq v2 c19_i32
  let v80 : BitVec 32 := Scalar.extui v79
  let v81 : BitVec 32 := Scalar.muli c9_i32_11 v80
  let v82 : BitVec 32 := Scalar.addi v78 v81
  let c10_i32_12 : BitVec 32 := 10#32
  let c20_i32 : BitVec 32 := 20#32
  let v83 : BitVec 1 := Scalar.cmpi .eq v2 c20_i32
  let v84 : BitVec 32 := Scalar.extui v83
  let v85 : BitVec 32 := Scalar.muli c10_i32_12 v84
  let v86 : BitVec 32 := Scalar.addi v82 v85
  let c21_i32_13 : BitVec 32 := 21#32
  let c21_i32 : BitVec 32 := 21#32
  let v87 : BitVec 1 := Scalar.cmpi .eq v2 c21_i32
  let v88 : BitVec 32 := Scalar.extui v87
  let v89 : BitVec 32 := Scalar.muli c21_i32_13 v88
  let v90 : BitVec 32 := Scalar.addi v86 v89
  let c20_i32_15 : BitVec 32 := 20#32
  let c22_i32_14 : BitVec 32 := 22#32
  let v91 : BitVec 1 := Scalar.cmpi .eq v2 c22_i32_14
  let v92 : BitVec 32 := Scalar.extui v91
  let v93 : BitVec 32 := Scalar.muli c20_i32_15 v92
  let v94 : BitVec 32 := Scalar.addi v90 v93
  let c11_i32_17 : BitVec 32 := 11#32
  let c23_i32_16 : BitVec 32 := 23#32
  let v95 : BitVec 1 := Scalar.cmpi .eq v2 c23_i32_16
  let v96 : BitVec 32 := Scalar.extui v95
  let v97 : BitVec 32 := Scalar.muli c11_i32_17 v96
  let v98 : BitVec 32 := Scalar.addi v94 v97
  let c15_i32_19 : BitVec 32 := 15#32
  let c24_i32_18 : BitVec 32 := 24#32
  let v99 : BitVec 1 := Scalar.cmpi .eq v2 c24_i32_18
  let v100 : BitVec 32 := Scalar.extui v99
  let v101 : BitVec 32 := Scalar.muli c15_i32_19 v100
  let v102 : BitVec 32 := Scalar.addi v98 v101
  let c16_i32_21 : BitVec 32 := 16#32
  let c25_i32_20 : BitVec 32 := 25#32
  let v103 : BitVec 1 := Scalar.cmpi .eq v2 c25_i32_20
  let v104 : BitVec 32 := Scalar.extui v103
  let v105 : BitVec 32 := Scalar.muli c16_i32_21 v104
  let v106 : BitVec 32 := Scalar.addi v102 v105
  let c17_i32_23 : BitVec 32 := 17#32
  let c26_i32_22 : BitVec 32 := 26#32
  let v107 : BitVec 1 := Scalar.cmpi .eq v2 c26_i32_22
  let v108 : BitVec 32 := Scalar.extui v107
  let v109 : BitVec 32 := Scalar.muli c17_i32_23 v108
  let v110 : BitVec 32 := Scalar.addi v106 v109
  let c14_i32_25 : BitVec 32 := 14#32
  let c27_i32_24 : BitVec 32 := 27#32
  let v111 : BitVec 1 := Scalar.cmpi .eq v2 c27_i32_24
  let v112 : BitVec 32 := Scalar.extui v111
  let v113 : BitVec 32 := Scalar.muli c14_i32_25 v112
  let v114 : BitVec 32 := Scalar.addi v110 v113
  let c13_i32_27 : BitVec 32 := 13#32
  let c28_i32_26 : BitVec 32 := 28#32
  let v115 : BitVec 1 := Scalar.cmpi .eq v2 c28_i32_26
  let v116 : BitVec 32 := Scalar.extui v115
  let v117 : BitVec 32 := Scalar.muli c13_i32_27 v116
  let v118 : BitVec 32 := Scalar.addi v114 v117
  let c18_i32_29 : BitVec 32 := 18#32
  let c29_i32_28 : BitVec 32 := 29#32
  let v119 : BitVec 1 := Scalar.cmpi .eq v2 c29_i32_28
  let v120 : BitVec 32 := Scalar.extui v119
  let v121 : BitVec 32 := Scalar.muli c18_i32_29 v120
  let v122 : BitVec 32 := Scalar.addi v118 v121
  let c19_i32_31 : BitVec 32 := 19#32
  let c30_i32_30 : BitVec 32 := 30#32
  let v123 : BitVec 1 := Scalar.cmpi .eq v2 c30_i32_30
  let v124 : BitVec 32 := Scalar.extui v123
  let v125 : BitVec 32 := Scalar.muli c19_i32_31 v124
  let v126 : BitVec 32 := Scalar.addi v122 v125
  let c12_i32_33 : BitVec 32 := 12#32
  let c31_i32_32 : BitVec 32 := 31#32
  let v127 : BitVec 1 := Scalar.cmpi .eq v2 c31_i32_32
  let v128 : BitVec 32 := Scalar.extui v127
  let v129 : BitVec 32 := Scalar.muli c12_i32_33 v128
  let v130 : BitVec 32 := Scalar.addi v126 v129
  let v400 : BitVec 32 := Scalar.subi v130 c0_i32_176
  let c32_i32_177 : BitVec 32 := 32#32
  let c0_i32_178 : BitVec 32 := 0#32
  let v401 : BitVec 1 := Scalar.cmpi .eq c32_i32_177 c0_i32_178
  let c1_i32_179 : BitVec 32 := 1#32
  let v402 : BitVec 32 := Scalar.select v401 c1_i32_179 c32_i32_177
  let v403 : BitVec 32 := Scalar.remsi v400 v402
  let c0_i32_181 : BitVec 32 := 0#32
  let v405 : BitVec 1 := Scalar.cmpi .slt v403 c0_i32_181
  let c0_i32_182 : BitVec 32 := 0#32
  let v406 : BitVec 1 := Scalar.cmpi .slt v402 c0_i32_182
  let v407 : BitVec 1 := Scalar.xori v405 v406
  let c0_i32_180 : BitVec 32 := 0#32
  let v404 : BitVec 1 := Scalar.cmpi .ne v403 c0_i32_180
  let v408 : BitVec 1 := Scalar.andi v407 v404
  let v409 : BitVec 32 := Scalar.addi v403 v402
  let v410 : BitVec 32 := Scalar.select v408 v409 v403
  let c128_i32 : BitVec 32 := 128#32
  let v411 : BitVec 32 := Scalar.muli v410 c128_i32
  let c0_i32_193 : BitVec 32 := 0#32
  ![v411.toNat, 0]
def k0_dev3 (d0 : Dev nD) : Nat :=
  let c0_i32_190 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_189 : BitVec 32 := 1#32
  let v415 : BitVec 32 := Scalar.muli v258 c1_i32_189
  let v416 : BitVec 32 := Scalar.addi c0_i32_190 v415
  v416.toNat
def k0_off2 (d0 : Dev nD) (c0_i32_183 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c31_i32 : BitVec 32 := 31#32
  let c1_i32_2 : BitVec 32 := 1#32
  let v7 : BitVec 1 := Scalar.cmpi .eq v2 c1_i32_2
  let v8 : BitVec 32 := Scalar.extui v7
  let v9 : BitVec 32 := Scalar.muli c31_i32 v8
  let v10 : BitVec 32 := Scalar.addi v6 v9
  let c30_i32 : BitVec 32 := 30#32
  let c2_i32 : BitVec 32 := 2#32
  let v11 : BitVec 1 := Scalar.cmpi .eq v2 c2_i32
  let v12 : BitVec 32 := Scalar.extui v11
  let v13 : BitVec 32 := Scalar.muli c30_i32 v12
  let v14 : BitVec 32 := Scalar.addi v10 v13
  let c1_i32_3 : BitVec 32 := 1#32
  let c3_i32 : BitVec 32 := 3#32
  let v15 : BitVec 1 := Scalar.cmpi .eq v2 c3_i32
  let v16 : BitVec 32 := Scalar.extui v15
  let v17 : BitVec 32 := Scalar.muli c1_i32_3 v16
  let v18 : BitVec 32 := Scalar.addi v14 v17
  let c2_i32_4 : BitVec 32 := 2#32
  let c4_i32 : BitVec 32 := 4#32
  let v19 : BitVec 1 := Scalar.cmpi .eq v2 c4_i32
  let v20 : BitVec 32 := Scalar.extui v19
  let v21 : BitVec 32 := Scalar.muli c2_i32_4 v20
  let v22 : BitVec 32 := Scalar.addi v18 v21
  let c29_i32 : BitVec 32 := 29#32
  let c5_i32 : BitVec 32 := 5#32
  let v23 : BitVec 1 := Scalar.cmpi .eq v2 c5_i32
  let v24 : BitVec 32 := Scalar.extui v23
  let v25 : BitVec 32 := Scalar.muli c29_i32 v24
  let v26 : BitVec 32 := Scalar.addi v22 v25
  let c28_i32 : BitVec 32 := 28#32
  let c6_i32 : BitVec 32 := 6#32
  let v27 : BitVec 1 := Scalar.cmpi .eq v2 c6_i32
  let v28 : BitVec 32 := Scalar.extui v27
  let v29 : BitVec 32 := Scalar.muli c28_i32 v28
  let v30 : BitVec 32 := Scalar.addi v26 v29
  let c3_i32_5 : BitVec 32 := 3#32
  let c7_i32 : BitVec 32 := 7#32
  let v31 : BitVec 1 := Scalar.cmpi .eq v2 c7_i32
  let v32 : BitVec 32 := Scalar.extui v31
  let v33 : BitVec 32 := Scalar.muli c3_i32_5 v32
  let v34 : BitVec 32 := Scalar.addi v30 v33
  let c7_i32_6 : BitVec 32 := 7#32
  let c8_i32 : BitVec 32 := 8#32
  let v35 : BitVec 1 := Scalar.cmpi .eq v2 c8_i32
  let v36 : BitVec 32 := Scalar.extui v35
  let v37 : BitVec 32 := Scalar.muli c7_i32_6 v36
  let v38 : BitVec 32 := Scalar.addi v34 v37
  let c24_i32 : BitVec 32 := 24#32
  let c9_i32 : BitVec 32 := 9#32
  let v39 : BitVec 1 := Scalar.cmpi .eq v2 c9_i32
  let v40 : BitVec 32 := Scalar.extui v39
  let v41 : BitVec 32 := Scalar.muli c24_i32 v40
  let v42 : BitVec 32 := Scalar.addi v38 v41
  let c25_i32 : BitVec 32 := 25#32
  let c10_i32 : BitVec 32 := 10#32
  let v43 : BitVec 1 := Scalar.cmpi .eq v2 c10_i32
  let v44 : BitVec 32 := Scalar.extui v43
  let v45 : BitVec 32 := Scalar.muli c25_i32 v44
  let v46 : BitVec 32 := Scalar.addi v42 v45
  let c6_i32_7 : BitVec 32 := 6#32
  let c11_i32 : BitVec 32 := 11#32
  let v47 : BitVec 1 := Scalar.cmpi .eq v2 c11_i32
  let v48 : BitVec 32 := Scalar.extui v47
  let v49 : BitVec 32 := Scalar.muli c6_i32_7 v48
  let v50 : BitVec 32 := Scalar.addi v46 v49
  let c5_i32_8 : BitVec 32 := 5#32
  let c12_i32 : BitVec 32 := 12#32
  let v51 : BitVec 1 := Scalar.cmpi .eq v2 c12_i32
  let v52 : BitVec 32 := Scalar.extui v51
  let v53 : BitVec 32 := Scalar.muli c5_i32_8 v52
  let v54 : BitVec 32 := Scalar.addi v50 v53
  let c26_i32 : BitVec 32 := 26#32
  let c13_i32 : BitVec 32 := 13#32
  let v55 : BitVec 1 := Scalar.cmpi .eq v2 c13_i32
  let v56 : BitVec 32 := Scalar.extui v55
  let v57 : BitVec 32 := Scalar.muli c26_i32 v56
  let v58 : BitVec 32 := Scalar.addi v54 v57
  let c27_i32 : BitVec 32 := 27#32
  let c14_i32 : BitVec 32 := 14#32
  let v59 : BitVec 1 := Scalar.cmpi .eq v2 c14_i32
  let v60 : BitVec 32 := Scalar.extui v59
  let v61 : BitVec 32 := Scalar.muli c27_i32 v60
  let v62 : BitVec 32 := Scalar.addi v58 v61
  let c4_i32_9 : BitVec 32 := 4#32
  let c15_i32 : BitVec 32 := 15#32
  let v63 : BitVec 1 := Scalar.cmpi .eq v2 c15_i32
  let v64 : BitVec 32 := Scalar.extui v63
  let v65 : BitVec 32 := Scalar.muli c4_i32_9 v64
  let v66 : BitVec 32 := Scalar.addi v62 v65
  let c8_i32_10 : BitVec 32 := 8#32
  let c16_i32 : BitVec 32 := 16#32
  let v67 : BitVec 1 := Scalar.cmpi .eq v2 c16_i32
  let v68 : BitVec 32 := Scalar.extui v67
  let v69 : BitVec 32 := Scalar.muli c8_i32_10 v68
  let v70 : BitVec 32 := Scalar.addi v66 v69
  let c23_i32 : BitVec 32 := 23#32
  let c17_i32 : BitVec 32 := 17#32
  let v71 : BitVec 1 := Scalar.cmpi .eq v2 c17_i32
  let v72 : BitVec 32 := Scalar.extui v71
  let v73 : BitVec 32 := Scalar.muli c23_i32 v72
  let v74 : BitVec 32 := Scalar.addi v70 v73
  let c22_i32 : BitVec 32 := 22#32
  let c18_i32 : BitVec 32 := 18#32
  let v75 : BitVec 1 := Scalar.cmpi .eq v2 c18_i32
  let v76 : BitVec 32 := Scalar.extui v75
  let v77 : BitVec 32 := Scalar.muli c22_i32 v76
  let v78 : BitVec 32 := Scalar.addi v74 v77
  let c9_i32_11 : BitVec 32 := 9#32
  let c19_i32 : BitVec 32 := 19#32
  let v79 : BitVec 1 := Scalar.cmpi .eq v2 c19_i32
  let v80 : BitVec 32 := Scalar.extui v79
  let v81 : BitVec 32 := Scalar.muli c9_i32_11 v80
  let v82 : BitVec 32 := Scalar.addi v78 v81
  let c10_i32_12 : BitVec 32 := 10#32
  let c20_i32 : BitVec 32 := 20#32
  let v83 : BitVec 1 := Scalar.cmpi .eq v2 c20_i32
  let v84 : BitVec 32 := Scalar.extui v83
  let v85 : BitVec 32 := Scalar.muli c10_i32_12 v84
  let v86 : BitVec 32 := Scalar.addi v82 v85
  let c21_i32_13 : BitVec 32 := 21#32
  let c21_i32 : BitVec 32 := 21#32
  let v87 : BitVec 1 := Scalar.cmpi .eq v2 c21_i32
  let v88 : BitVec 32 := Scalar.extui v87
  let v89 : BitVec 32 := Scalar.muli c21_i32_13 v88
  let v90 : BitVec 32 := Scalar.addi v86 v89
  let c20_i32_15 : BitVec 32 := 20#32
  let c22_i32_14 : BitVec 32 := 22#32
  let v91 : BitVec 1 := Scalar.cmpi .eq v2 c22_i32_14
  let v92 : BitVec 32 := Scalar.extui v91
  let v93 : BitVec 32 := Scalar.muli c20_i32_15 v92
  let v94 : BitVec 32 := Scalar.addi v90 v93
  let c11_i32_17 : BitVec 32 := 11#32
  let c23_i32_16 : BitVec 32 := 23#32
  let v95 : BitVec 1 := Scalar.cmpi .eq v2 c23_i32_16
  let v96 : BitVec 32 := Scalar.extui v95
  let v97 : BitVec 32 := Scalar.muli c11_i32_17 v96
  let v98 : BitVec 32 := Scalar.addi v94 v97
  let c15_i32_19 : BitVec 32 := 15#32
  let c24_i32_18 : BitVec 32 := 24#32
  let v99 : BitVec 1 := Scalar.cmpi .eq v2 c24_i32_18
  let v100 : BitVec 32 := Scalar.extui v99
  let v101 : BitVec 32 := Scalar.muli c15_i32_19 v100
  let v102 : BitVec 32 := Scalar.addi v98 v101
  let c16_i32_21 : BitVec 32 := 16#32
  let c25_i32_20 : BitVec 32 := 25#32
  let v103 : BitVec 1 := Scalar.cmpi .eq v2 c25_i32_20
  let v104 : BitVec 32 := Scalar.extui v103
  let v105 : BitVec 32 := Scalar.muli c16_i32_21 v104
  let v106 : BitVec 32 := Scalar.addi v102 v105
  let c17_i32_23 : BitVec 32 := 17#32
  let c26_i32_22 : BitVec 32 := 26#32
  let v107 : BitVec 1 := Scalar.cmpi .eq v2 c26_i32_22
  let v108 : BitVec 32 := Scalar.extui v107
  let v109 : BitVec 32 := Scalar.muli c17_i32_23 v108
  let v110 : BitVec 32 := Scalar.addi v106 v109
  let c14_i32_25 : BitVec 32 := 14#32
  let c27_i32_24 : BitVec 32 := 27#32
  let v111 : BitVec 1 := Scalar.cmpi .eq v2 c27_i32_24
  let v112 : BitVec 32 := Scalar.extui v111
  let v113 : BitVec 32 := Scalar.muli c14_i32_25 v112
  let v114 : BitVec 32 := Scalar.addi v110 v113
  let c13_i32_27 : BitVec 32 := 13#32
  let c28_i32_26 : BitVec 32 := 28#32
  let v115 : BitVec 1 := Scalar.cmpi .eq v2 c28_i32_26
  let v116 : BitVec 32 := Scalar.extui v115
  let v117 : BitVec 32 := Scalar.muli c13_i32_27 v116
  let v118 : BitVec 32 := Scalar.addi v114 v117
  let c18_i32_29 : BitVec 32 := 18#32
  let c29_i32_28 : BitVec 32 := 29#32
  let v119 : BitVec 1 := Scalar.cmpi .eq v2 c29_i32_28
  let v120 : BitVec 32 := Scalar.extui v119
  let v121 : BitVec 32 := Scalar.muli c18_i32_29 v120
  let v122 : BitVec 32 := Scalar.addi v118 v121
  let c19_i32_31 : BitVec 32 := 19#32
  let c30_i32_30 : BitVec 32 := 30#32
  let v123 : BitVec 1 := Scalar.cmpi .eq v2 c30_i32_30
  let v124 : BitVec 32 := Scalar.extui v123
  let v125 : BitVec 32 := Scalar.muli c19_i32_31 v124
  let v126 : BitVec 32 := Scalar.addi v122 v125
  let c12_i32_33 : BitVec 32 := 12#32
  let c31_i32_32 : BitVec 32 := 31#32
  let v127 : BitVec 1 := Scalar.cmpi .eq v2 c31_i32_32
  let v128 : BitVec 32 := Scalar.extui v127
  let v129 : BitVec 32 := Scalar.muli c12_i32_33 v128
  let v130 : BitVec 32 := Scalar.addi v126 v129
  let v412 : BitVec 32 := Scalar.addi v130 c0_i32_183
  let c31_i32_184 : BitVec 32 := 31#32
  let v413 : BitVec 32 := Scalar.andi v412 c31_i32_184
  let c128_i32_185 : BitVec 32 := 128#32
  let v414 : BitVec 32 := Scalar.muli v413 c128_i32_185
  let c1024_i32 : BitVec 32 := 1024#32
  ![v414.toNat, 1024]
def k0_dev4 (d0 : Dev nD) : Nat :=
  let c0_i32_198 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_197 : BitVec 32 := 1#32
  let v424 : BitVec 32 := Scalar.muli v386 c1_i32_197
  let v425 : BitVec 32 := Scalar.addi c0_i32_198 v424
  v425.toNat
def k0_off3 (d0 : Dev nD) (c0_i32_201 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c31_i32 : BitVec 32 := 31#32
  let c1_i32_2 : BitVec 32 := 1#32
  let v7 : BitVec 1 := Scalar.cmpi .eq v2 c1_i32_2
  let v8 : BitVec 32 := Scalar.extui v7
  let v9 : BitVec 32 := Scalar.muli c31_i32 v8
  let v10 : BitVec 32 := Scalar.addi v6 v9
  let c30_i32 : BitVec 32 := 30#32
  let c2_i32 : BitVec 32 := 2#32
  let v11 : BitVec 1 := Scalar.cmpi .eq v2 c2_i32
  let v12 : BitVec 32 := Scalar.extui v11
  let v13 : BitVec 32 := Scalar.muli c30_i32 v12
  let v14 : BitVec 32 := Scalar.addi v10 v13
  let c1_i32_3 : BitVec 32 := 1#32
  let c3_i32 : BitVec 32 := 3#32
  let v15 : BitVec 1 := Scalar.cmpi .eq v2 c3_i32
  let v16 : BitVec 32 := Scalar.extui v15
  let v17 : BitVec 32 := Scalar.muli c1_i32_3 v16
  let v18 : BitVec 32 := Scalar.addi v14 v17
  let c2_i32_4 : BitVec 32 := 2#32
  let c4_i32 : BitVec 32 := 4#32
  let v19 : BitVec 1 := Scalar.cmpi .eq v2 c4_i32
  let v20 : BitVec 32 := Scalar.extui v19
  let v21 : BitVec 32 := Scalar.muli c2_i32_4 v20
  let v22 : BitVec 32 := Scalar.addi v18 v21
  let c29_i32 : BitVec 32 := 29#32
  let c5_i32 : BitVec 32 := 5#32
  let v23 : BitVec 1 := Scalar.cmpi .eq v2 c5_i32
  let v24 : BitVec 32 := Scalar.extui v23
  let v25 : BitVec 32 := Scalar.muli c29_i32 v24
  let v26 : BitVec 32 := Scalar.addi v22 v25
  let c28_i32 : BitVec 32 := 28#32
  let c6_i32 : BitVec 32 := 6#32
  let v27 : BitVec 1 := Scalar.cmpi .eq v2 c6_i32
  let v28 : BitVec 32 := Scalar.extui v27
  let v29 : BitVec 32 := Scalar.muli c28_i32 v28
  let v30 : BitVec 32 := Scalar.addi v26 v29
  let c3_i32_5 : BitVec 32 := 3#32
  let c7_i32 : BitVec 32 := 7#32
  let v31 : BitVec 1 := Scalar.cmpi .eq v2 c7_i32
  let v32 : BitVec 32 := Scalar.extui v31
  let v33 : BitVec 32 := Scalar.muli c3_i32_5 v32
  let v34 : BitVec 32 := Scalar.addi v30 v33
  let c7_i32_6 : BitVec 32 := 7#32
  let c8_i32 : BitVec 32 := 8#32
  let v35 : BitVec 1 := Scalar.cmpi .eq v2 c8_i32
  let v36 : BitVec 32 := Scalar.extui v35
  let v37 : BitVec 32 := Scalar.muli c7_i32_6 v36
  let v38 : BitVec 32 := Scalar.addi v34 v37
  let c24_i32 : BitVec 32 := 24#32
  let c9_i32 : BitVec 32 := 9#32
  let v39 : BitVec 1 := Scalar.cmpi .eq v2 c9_i32
  let v40 : BitVec 32 := Scalar.extui v39
  let v41 : BitVec 32 := Scalar.muli c24_i32 v40
  let v42 : BitVec 32 := Scalar.addi v38 v41
  let c25_i32 : BitVec 32 := 25#32
  let c10_i32 : BitVec 32 := 10#32
  let v43 : BitVec 1 := Scalar.cmpi .eq v2 c10_i32
  let v44 : BitVec 32 := Scalar.extui v43
  let v45 : BitVec 32 := Scalar.muli c25_i32 v44
  let v46 : BitVec 32 := Scalar.addi v42 v45
  let c6_i32_7 : BitVec 32 := 6#32
  let c11_i32 : BitVec 32 := 11#32
  let v47 : BitVec 1 := Scalar.cmpi .eq v2 c11_i32
  let v48 : BitVec 32 := Scalar.extui v47
  let v49 : BitVec 32 := Scalar.muli c6_i32_7 v48
  let v50 : BitVec 32 := Scalar.addi v46 v49
  let c5_i32_8 : BitVec 32 := 5#32
  let c12_i32 : BitVec 32 := 12#32
  let v51 : BitVec 1 := Scalar.cmpi .eq v2 c12_i32
  let v52 : BitVec 32 := Scalar.extui v51
  let v53 : BitVec 32 := Scalar.muli c5_i32_8 v52
  let v54 : BitVec 32 := Scalar.addi v50 v53
  let c26_i32 : BitVec 32 := 26#32
  let c13_i32 : BitVec 32 := 13#32
  let v55 : BitVec 1 := Scalar.cmpi .eq v2 c13_i32
  let v56 : BitVec 32 := Scalar.extui v55
  let v57 : BitVec 32 := Scalar.muli c26_i32 v56
  let v58 : BitVec 32 := Scalar.addi v54 v57
  let c27_i32 : BitVec 32 := 27#32
  let c14_i32 : BitVec 32 := 14#32
  let v59 : BitVec 1 := Scalar.cmpi .eq v2 c14_i32
  let v60 : BitVec 32 := Scalar.extui v59
  let v61 : BitVec 32 := Scalar.muli c27_i32 v60
  let v62 : BitVec 32 := Scalar.addi v58 v61
  let c4_i32_9 : BitVec 32 := 4#32
  let c15_i32 : BitVec 32 := 15#32
  let v63 : BitVec 1 := Scalar.cmpi .eq v2 c15_i32
  let v64 : BitVec 32 := Scalar.extui v63
  let v65 : BitVec 32 := Scalar.muli c4_i32_9 v64
  let v66 : BitVec 32 := Scalar.addi v62 v65
  let c8_i32_10 : BitVec 32 := 8#32
  let c16_i32 : BitVec 32 := 16#32
  let v67 : BitVec 1 := Scalar.cmpi .eq v2 c16_i32
  let v68 : BitVec 32 := Scalar.extui v67
  let v69 : BitVec 32 := Scalar.muli c8_i32_10 v68
  let v70 : BitVec 32 := Scalar.addi v66 v69
  let c23_i32 : BitVec 32 := 23#32
  let c17_i32 : BitVec 32 := 17#32
  let v71 : BitVec 1 := Scalar.cmpi .eq v2 c17_i32
  let v72 : BitVec 32 := Scalar.extui v71
  let v73 : BitVec 32 := Scalar.muli c23_i32 v72
  let v74 : BitVec 32 := Scalar.addi v70 v73
  let c22_i32 : BitVec 32 := 22#32
  let c18_i32 : BitVec 32 := 18#32
  let v75 : BitVec 1 := Scalar.cmpi .eq v2 c18_i32
  let v76 : BitVec 32 := Scalar.extui v75
  let v77 : BitVec 32 := Scalar.muli c22_i32 v76
  let v78 : BitVec 32 := Scalar.addi v74 v77
  let c9_i32_11 : BitVec 32 := 9#32
  let c19_i32 : BitVec 32 := 19#32
  let v79 : BitVec 1 := Scalar.cmpi .eq v2 c19_i32
  let v80 : BitVec 32 := Scalar.extui v79
  let v81 : BitVec 32 := Scalar.muli c9_i32_11 v80
  let v82 : BitVec 32 := Scalar.addi v78 v81
  let c10_i32_12 : BitVec 32 := 10#32
  let c20_i32 : BitVec 32 := 20#32
  let v83 : BitVec 1 := Scalar.cmpi .eq v2 c20_i32
  let v84 : BitVec 32 := Scalar.extui v83
  let v85 : BitVec 32 := Scalar.muli c10_i32_12 v84
  let v86 : BitVec 32 := Scalar.addi v82 v85
  let c21_i32_13 : BitVec 32 := 21#32
  let c21_i32 : BitVec 32 := 21#32
  let v87 : BitVec 1 := Scalar.cmpi .eq v2 c21_i32
  let v88 : BitVec 32 := Scalar.extui v87
  let v89 : BitVec 32 := Scalar.muli c21_i32_13 v88
  let v90 : BitVec 32 := Scalar.addi v86 v89
  let c20_i32_15 : BitVec 32 := 20#32
  let c22_i32_14 : BitVec 32 := 22#32
  let v91 : BitVec 1 := Scalar.cmpi .eq v2 c22_i32_14
  let v92 : BitVec 32 := Scalar.extui v91
  let v93 : BitVec 32 := Scalar.muli c20_i32_15 v92
  let v94 : BitVec 32 := Scalar.addi v90 v93
  let c11_i32_17 : BitVec 32 := 11#32
  let c23_i32_16 : BitVec 32 := 23#32
  let v95 : BitVec 1 := Scalar.cmpi .eq v2 c23_i32_16
  let v96 : BitVec 32 := Scalar.extui v95
  let v97 : BitVec 32 := Scalar.muli c11_i32_17 v96
  let v98 : BitVec 32 := Scalar.addi v94 v97
  let c15_i32_19 : BitVec 32 := 15#32
  let c24_i32_18 : BitVec 32 := 24#32
  let v99 : BitVec 1 := Scalar.cmpi .eq v2 c24_i32_18
  let v100 : BitVec 32 := Scalar.extui v99
  let v101 : BitVec 32 := Scalar.muli c15_i32_19 v100
  let v102 : BitVec 32 := Scalar.addi v98 v101
  let c16_i32_21 : BitVec 32 := 16#32
  let c25_i32_20 : BitVec 32 := 25#32
  let v103 : BitVec 1 := Scalar.cmpi .eq v2 c25_i32_20
  let v104 : BitVec 32 := Scalar.extui v103
  let v105 : BitVec 32 := Scalar.muli c16_i32_21 v104
  let v106 : BitVec 32 := Scalar.addi v102 v105
  let c17_i32_23 : BitVec 32 := 17#32
  let c26_i32_22 : BitVec 32 := 26#32
  let v107 : BitVec 1 := Scalar.cmpi .eq v2 c26_i32_22
  let v108 : BitVec 32 := Scalar.extui v107
  let v109 : BitVec 32 := Scalar.muli c17_i32_23 v108
  let v110 : BitVec 32 := Scalar.addi v106 v109
  let c14_i32_25 : BitVec 32 := 14#32
  let c27_i32_24 : BitVec 32 := 27#32
  let v111 : BitVec 1 := Scalar.cmpi .eq v2 c27_i32_24
  let v112 : BitVec 32 := Scalar.extui v111
  let v113 : BitVec 32 := Scalar.muli c14_i32_25 v112
  let v114 : BitVec 32 := Scalar.addi v110 v113
  let c13_i32_27 : BitVec 32 := 13#32
  let c28_i32_26 : BitVec 32 := 28#32
  let v115 : BitVec 1 := Scalar.cmpi .eq v2 c28_i32_26
  let v116 : BitVec 32 := Scalar.extui v115
  let v117 : BitVec 32 := Scalar.muli c13_i32_27 v116
  let v118 : BitVec 32 := Scalar.addi v114 v117
  let c18_i32_29 : BitVec 32 := 18#32
  let c29_i32_28 : BitVec 32 := 29#32
  let v119 : BitVec 1 := Scalar.cmpi .eq v2 c29_i32_28
  let v120 : BitVec 32 := Scalar.extui v119
  let v121 : BitVec 32 := Scalar.muli c18_i32_29 v120
  let v122 : BitVec 32 := Scalar.addi v118 v121
  let c19_i32_31 : BitVec 32 := 19#32
  let c30_i32_30 : BitVec 32 := 30#32
  let v123 : BitVec 1 := Scalar.cmpi .eq v2 c30_i32_30
  let v124 : BitVec 32 := Scalar.extui v123
  let v125 : BitVec 32 := Scalar.muli c19_i32_31 v124
  let v126 : BitVec 32 := Scalar.addi v122 v125
  let c12_i32_33 : BitVec 32 := 12#32
  let c31_i32_32 : BitVec 32 := 31#32
  let v127 : BitVec 1 := Scalar.cmpi .eq v2 c31_i32_32
  let v128 : BitVec 32 := Scalar.extui v127
  let v129 : BitVec 32 := Scalar.muli c12_i32_33 v128
  let v130 : BitVec 32 := Scalar.addi v126 v129
  let v433 : BitVec 32 := Scalar.subi v130 c0_i32_201
  let c1_i32_202 : BitVec 32 := 1#32
  let v434 : BitVec 32 := Scalar.subi v433 c1_i32_202
  let c32_i32_203 : BitVec 32 := 32#32
  let c0_i32_204 : BitVec 32 := 0#32
  let v435 : BitVec 1 := Scalar.cmpi .eq c32_i32_203 c0_i32_204
  let c1_i32_205 : BitVec 32 := 1#32
  let v436 : BitVec 32 := Scalar.select v435 c1_i32_205 c32_i32_203
  let v437 : BitVec 32 := Scalar.remsi v434 v436
  let c0_i32_207 : BitVec 32 := 0#32
  let v439 : BitVec 1 := Scalar.cmpi .slt v437 c0_i32_207
  let c0_i32_208 : BitVec 32 := 0#32
  let v440 : BitVec 1 := Scalar.cmpi .slt v436 c0_i32_208
  let v441 : BitVec 1 := Scalar.xori v439 v440
  let c0_i32_206 : BitVec 32 := 0#32
  let v438 : BitVec 1 := Scalar.cmpi .ne v437 c0_i32_206
  let v442 : BitVec 1 := Scalar.andi v441 v438
  let v443 : BitVec 32 := Scalar.addi v437 v436
  let v444 : BitVec 32 := Scalar.select v442 v443 v437
  let c128_i32_220 : BitVec 32 := 128#32
  let v455 : BitVec 32 := Scalar.muli v444 c128_i32_220
  let v456 : Index := Scalar.indexCast v455
  let c0_221 : Index := 0#32
  ![v456.toNat, 0]
def k0_dev5 (d0 : Dev nD) : Nat :=
  let c0_i32_229 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_228 : BitVec 32 := 1#32
  let v465 : BitVec 32 := Scalar.muli v386 c1_i32_228
  let v466 : BitVec 32 := Scalar.addi c0_i32_229 v465
  v466.toNat
def k0_dev6 (d0 : Dev nD) : Nat :=
  let c0_i32_242 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_241 : BitVec 32 := 1#32
  let v479 : BitVec 32 := Scalar.muli v258 c1_i32_241
  let v480 : BitVec 32 := Scalar.addi c0_i32_242 v479
  v480.toNat
def k0_off4 (d0 : Dev nD) (c0_i32_209 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c31_i32 : BitVec 32 := 31#32
  let c1_i32_2 : BitVec 32 := 1#32
  let v7 : BitVec 1 := Scalar.cmpi .eq v2 c1_i32_2
  let v8 : BitVec 32 := Scalar.extui v7
  let v9 : BitVec 32 := Scalar.muli c31_i32 v8
  let v10 : BitVec 32 := Scalar.addi v6 v9
  let c30_i32 : BitVec 32 := 30#32
  let c2_i32 : BitVec 32 := 2#32
  let v11 : BitVec 1 := Scalar.cmpi .eq v2 c2_i32
  let v12 : BitVec 32 := Scalar.extui v11
  let v13 : BitVec 32 := Scalar.muli c30_i32 v12
  let v14 : BitVec 32 := Scalar.addi v10 v13
  let c1_i32_3 : BitVec 32 := 1#32
  let c3_i32 : BitVec 32 := 3#32
  let v15 : BitVec 1 := Scalar.cmpi .eq v2 c3_i32
  let v16 : BitVec 32 := Scalar.extui v15
  let v17 : BitVec 32 := Scalar.muli c1_i32_3 v16
  let v18 : BitVec 32 := Scalar.addi v14 v17
  let c2_i32_4 : BitVec 32 := 2#32
  let c4_i32 : BitVec 32 := 4#32
  let v19 : BitVec 1 := Scalar.cmpi .eq v2 c4_i32
  let v20 : BitVec 32 := Scalar.extui v19
  let v21 : BitVec 32 := Scalar.muli c2_i32_4 v20
  let v22 : BitVec 32 := Scalar.addi v18 v21
  let c29_i32 : BitVec 32 := 29#32
  let c5_i32 : BitVec 32 := 5#32
  let v23 : BitVec 1 := Scalar.cmpi .eq v2 c5_i32
  let v24 : BitVec 32 := Scalar.extui v23
  let v25 : BitVec 32 := Scalar.muli c29_i32 v24
  let v26 : BitVec 32 := Scalar.addi v22 v25
  let c28_i32 : BitVec 32 := 28#32
  let c6_i32 : BitVec 32 := 6#32
  let v27 : BitVec 1 := Scalar.cmpi .eq v2 c6_i32
  let v28 : BitVec 32 := Scalar.extui v27
  let v29 : BitVec 32 := Scalar.muli c28_i32 v28
  let v30 : BitVec 32 := Scalar.addi v26 v29
  let c3_i32_5 : BitVec 32 := 3#32
  let c7_i32 : BitVec 32 := 7#32
  let v31 : BitVec 1 := Scalar.cmpi .eq v2 c7_i32
  let v32 : BitVec 32 := Scalar.extui v31
  let v33 : BitVec 32 := Scalar.muli c3_i32_5 v32
  let v34 : BitVec 32 := Scalar.addi v30 v33
  let c7_i32_6 : BitVec 32 := 7#32
  let c8_i32 : BitVec 32 := 8#32
  let v35 : BitVec 1 := Scalar.cmpi .eq v2 c8_i32
  let v36 : BitVec 32 := Scalar.extui v35
  let v37 : BitVec 32 := Scalar.muli c7_i32_6 v36
  let v38 : BitVec 32 := Scalar.addi v34 v37
  let c24_i32 : BitVec 32 := 24#32
  let c9_i32 : BitVec 32 := 9#32
  let v39 : BitVec 1 := Scalar.cmpi .eq v2 c9_i32
  let v40 : BitVec 32 := Scalar.extui v39
  let v41 : BitVec 32 := Scalar.muli c24_i32 v40
  let v42 : BitVec 32 := Scalar.addi v38 v41
  let c25_i32 : BitVec 32 := 25#32
  let c10_i32 : BitVec 32 := 10#32
  let v43 : BitVec 1 := Scalar.cmpi .eq v2 c10_i32
  let v44 : BitVec 32 := Scalar.extui v43
  let v45 : BitVec 32 := Scalar.muli c25_i32 v44
  let v46 : BitVec 32 := Scalar.addi v42 v45
  let c6_i32_7 : BitVec 32 := 6#32
  let c11_i32 : BitVec 32 := 11#32
  let v47 : BitVec 1 := Scalar.cmpi .eq v2 c11_i32
  let v48 : BitVec 32 := Scalar.extui v47
  let v49 : BitVec 32 := Scalar.muli c6_i32_7 v48
  let v50 : BitVec 32 := Scalar.addi v46 v49
  let c5_i32_8 : BitVec 32 := 5#32
  let c12_i32 : BitVec 32 := 12#32
  let v51 : BitVec 1 := Scalar.cmpi .eq v2 c12_i32
  let v52 : BitVec 32 := Scalar.extui v51
  let v53 : BitVec 32 := Scalar.muli c5_i32_8 v52
  let v54 : BitVec 32 := Scalar.addi v50 v53
  let c26_i32 : BitVec 32 := 26#32
  let c13_i32 : BitVec 32 := 13#32
  let v55 : BitVec 1 := Scalar.cmpi .eq v2 c13_i32
  let v56 : BitVec 32 := Scalar.extui v55
  let v57 : BitVec 32 := Scalar.muli c26_i32 v56
  let v58 : BitVec 32 := Scalar.addi v54 v57
  let c27_i32 : BitVec 32 := 27#32
  let c14_i32 : BitVec 32 := 14#32
  let v59 : BitVec 1 := Scalar.cmpi .eq v2 c14_i32
  let v60 : BitVec 32 := Scalar.extui v59
  let v61 : BitVec 32 := Scalar.muli c27_i32 v60
  let v62 : BitVec 32 := Scalar.addi v58 v61
  let c4_i32_9 : BitVec 32 := 4#32
  let c15_i32 : BitVec 32 := 15#32
  let v63 : BitVec 1 := Scalar.cmpi .eq v2 c15_i32
  let v64 : BitVec 32 := Scalar.extui v63
  let v65 : BitVec 32 := Scalar.muli c4_i32_9 v64
  let v66 : BitVec 32 := Scalar.addi v62 v65
  let c8_i32_10 : BitVec 32 := 8#32
  let c16_i32 : BitVec 32 := 16#32
  let v67 : BitVec 1 := Scalar.cmpi .eq v2 c16_i32
  let v68 : BitVec 32 := Scalar.extui v67
  let v69 : BitVec 32 := Scalar.muli c8_i32_10 v68
  let v70 : BitVec 32 := Scalar.addi v66 v69
  let c23_i32 : BitVec 32 := 23#32
  let c17_i32 : BitVec 32 := 17#32
  let v71 : BitVec 1 := Scalar.cmpi .eq v2 c17_i32
  let v72 : BitVec 32 := Scalar.extui v71
  let v73 : BitVec 32 := Scalar.muli c23_i32 v72
  let v74 : BitVec 32 := Scalar.addi v70 v73
  let c22_i32 : BitVec 32 := 22#32
  let c18_i32 : BitVec 32 := 18#32
  let v75 : BitVec 1 := Scalar.cmpi .eq v2 c18_i32
  let v76 : BitVec 32 := Scalar.extui v75
  let v77 : BitVec 32 := Scalar.muli c22_i32 v76
  let v78 : BitVec 32 := Scalar.addi v74 v77
  let c9_i32_11 : BitVec 32 := 9#32
  let c19_i32 : BitVec 32 := 19#32
  let v79 : BitVec 1 := Scalar.cmpi .eq v2 c19_i32
  let v80 : BitVec 32 := Scalar.extui v79
  let v81 : BitVec 32 := Scalar.muli c9_i32_11 v80
  let v82 : BitVec 32 := Scalar.addi v78 v81
  let c10_i32_12 : BitVec 32 := 10#32
  let c20_i32 : BitVec 32 := 20#32
  let v83 : BitVec 1 := Scalar.cmpi .eq v2 c20_i32
  let v84 : BitVec 32 := Scalar.extui v83
  let v85 : BitVec 32 := Scalar.muli c10_i32_12 v84
  let v86 : BitVec 32 := Scalar.addi v82 v85
  let c21_i32_13 : BitVec 32 := 21#32
  let c21_i32 : BitVec 32 := 21#32
  let v87 : BitVec 1 := Scalar.cmpi .eq v2 c21_i32
  let v88 : BitVec 32 := Scalar.extui v87
  let v89 : BitVec 32 := Scalar.muli c21_i32_13 v88
  let v90 : BitVec 32 := Scalar.addi v86 v89
  let c20_i32_15 : BitVec 32 := 20#32
  let c22_i32_14 : BitVec 32 := 22#32
  let v91 : BitVec 1 := Scalar.cmpi .eq v2 c22_i32_14
  let v92 : BitVec 32 := Scalar.extui v91
  let v93 : BitVec 32 := Scalar.muli c20_i32_15 v92
  let v94 : BitVec 32 := Scalar.addi v90 v93
  let c11_i32_17 : BitVec 32 := 11#32
  let c23_i32_16 : BitVec 32 := 23#32
  let v95 : BitVec 1 := Scalar.cmpi .eq v2 c23_i32_16
  let v96 : BitVec 32 := Scalar.extui v95
  let v97 : BitVec 32 := Scalar.muli c11_i32_17 v96
  let v98 : BitVec 32 := Scalar.addi v94 v97
  let c15_i32_19 : BitVec 32 := 15#32
  let c24_i32_18 : BitVec 32 := 24#32
  let v99 : BitVec 1 := Scalar.cmpi .eq v2 c24_i32_18
  let v100 : BitVec 32 := Scalar.extui v99
  let v101 : BitVec 32 := Scalar.muli c15_i32_19 v100
  let v102 : BitVec 32 := Scalar.addi v98 v101
  let c16_i32_21 : BitVec 32 := 16#32
  let c25_i32_20 : BitVec 32 := 25#32
  let v103 : BitVec 1 := Scalar.cmpi .eq v2 c25_i32_20
  let v104 : BitVec 32 := Scalar.extui v103
  let v105 : BitVec 32 := Scalar.muli c16_i32_21 v104
  let v106 : BitVec 32 := Scalar.addi v102 v105
  let c17_i32_23 : BitVec 32 := 17#32
  let c26_i32_22 : BitVec 32 := 26#32
  let v107 : BitVec 1 := Scalar.cmpi .eq v2 c26_i32_22
  let v108 : BitVec 32 := Scalar.extui v107
  let v109 : BitVec 32 := Scalar.muli c17_i32_23 v108
  let v110 : BitVec 32 := Scalar.addi v106 v109
  let c14_i32_25 : BitVec 32 := 14#32
  let c27_i32_24 : BitVec 32 := 27#32
  let v111 : BitVec 1 := Scalar.cmpi .eq v2 c27_i32_24
  let v112 : BitVec 32 := Scalar.extui v111
  let v113 : BitVec 32 := Scalar.muli c14_i32_25 v112
  let v114 : BitVec 32 := Scalar.addi v110 v113
  let c13_i32_27 : BitVec 32 := 13#32
  let c28_i32_26 : BitVec 32 := 28#32
  let v115 : BitVec 1 := Scalar.cmpi .eq v2 c28_i32_26
  let v116 : BitVec 32 := Scalar.extui v115
  let v117 : BitVec 32 := Scalar.muli c13_i32_27 v116
  let v118 : BitVec 32 := Scalar.addi v114 v117
  let c18_i32_29 : BitVec 32 := 18#32
  let c29_i32_28 : BitVec 32 := 29#32
  let v119 : BitVec 1 := Scalar.cmpi .eq v2 c29_i32_28
  let v120 : BitVec 32 := Scalar.extui v119
  let v121 : BitVec 32 := Scalar.muli c18_i32_29 v120
  let v122 : BitVec 32 := Scalar.addi v118 v121
  let c19_i32_31 : BitVec 32 := 19#32
  let c30_i32_30 : BitVec 32 := 30#32
  let v123 : BitVec 1 := Scalar.cmpi .eq v2 c30_i32_30
  let v124 : BitVec 32 := Scalar.extui v123
  let v125 : BitVec 32 := Scalar.muli c19_i32_31 v124
  let v126 : BitVec 32 := Scalar.addi v122 v125
  let c12_i32_33 : BitVec 32 := 12#32
  let c31_i32_32 : BitVec 32 := 31#32
  let v127 : BitVec 1 := Scalar.cmpi .eq v2 c31_i32_32
  let v128 : BitVec 32 := Scalar.extui v127
  let v129 : BitVec 32 := Scalar.muli c12_i32_33 v128
  let v130 : BitVec 32 := Scalar.addi v126 v129
  let v445 : BitVec 32 := Scalar.addi v130 c0_i32_209
  let c1_i32_210 : BitVec 32 := 1#32
  let v446 : BitVec 32 := Scalar.addi v445 c1_i32_210
  let c31_i32_211 : BitVec 32 := 31#32
  let v447 : BitVec 32 := Scalar.andi v446 c31_i32_211
  let c128_i32_254 : BitVec 32 := 128#32
  let v495 : BitVec 32 := Scalar.muli v447 c128_i32_254
  let v496 : Index := Scalar.indexCast v495
  let c1024 : Index := 1024#32
  ![v496.toNat, 1024]
def k0_dev7 (d0 : Dev nD) : Nat :=
  let c0_i32_262 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_261 : BitVec 32 := 1#32
  let v505 : BitVec 32 := Scalar.muli v258 c1_i32_261
  let v506 : BitVec 32 := Scalar.addi c0_i32_262 v505
  v506.toNat
def k0_dev8 (d0 : Dev nD) : Nat :=
  let c0_i32_270 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_269 : BitVec 32 := 1#32
  let v510 : BitVec 32 := Scalar.muli v386 c1_i32_269
  let v511 : BitVec 32 := Scalar.addi c0_i32_270 v510
  v511.toNat
def k0_dev9 (d0 : Dev nD) : Nat :=
  let c0_i32_301 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_300 : BitVec 32 := 1#32
  let v551 : BitVec 32 := Scalar.muli v386 c1_i32_300
  let v552 : BitVec 32 := Scalar.addi c0_i32_301 v551
  v552.toNat
def k0_dev10 (d0 : Dev nD) : Nat :=
  let c0_i32_323 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_322 : BitVec 32 := 1#32
  let v570 : BitVec 32 := Scalar.muli v258 c1_i32_322
  let v571 : BitVec 32 := Scalar.addi c0_i32_323 v570
  v571.toNat
def k0_dev11 (d0 : Dev nD) : Nat :=
  let c0_i32_344 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_343 : BitVec 32 := 1#32
  let v596 : BitVec 32 := Scalar.muli v258 c1_i32_343
  let v597 : BitVec 32 := Scalar.addi c0_i32_344 v596
  v597.toNat
def k0_dev12 (d0 : Dev nD) : Nat :=
  let c0_i32_361 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_360 : BitVec 32 := 1#32
  let v606 : BitVec 32 := Scalar.muli v386 c1_i32_360
  let v607 : BitVec 32 := Scalar.addi c0_i32_361 v606
  v607.toNat
def k0_dev13 (d0 : Dev nD) : Nat :=
  let c0_i32_393 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_392 : BitVec 32 := 1#32
  let v647 : BitVec 32 := Scalar.muli v386 c1_i32_392
  let v648 : BitVec 32 := Scalar.addi c0_i32_393 v647
  v648.toNat
def k0_dev14 (d0 : Dev nD) : Nat :=
  let c0_i32_415 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_414 : BitVec 32 := 1#32
  let v666 : BitVec 32 := Scalar.muli v258 c1_i32_414
  let v667 : BitVec 32 := Scalar.addi c0_i32_415 v666
  v667.toNat
def k0_dev15 (d0 : Dev nD) : Nat :=
  let c0_i32_436 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_435 : BitVec 32 := 1#32
  let v692 : BitVec 32 := Scalar.muli v258 c1_i32_435
  let v693 : BitVec 32 := Scalar.addi c0_i32_436 v692
  v693.toNat
def k0_dev16 (d0 : Dev nD) : Nat :=
  let c0_i32_453 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_452 : BitVec 32 := 1#32
  let v702 : BitVec 32 := Scalar.muli v386 c1_i32_452
  let v703 : BitVec 32 := Scalar.addi c0_i32_453 v702
  v703.toNat
def k0_dev17 (d0 : Dev nD) : Nat :=
  let c0_i32_485 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_484 : BitVec 32 := 1#32
  let v743 : BitVec 32 := Scalar.muli v386 c1_i32_484
  let v744 : BitVec 32 := Scalar.addi c0_i32_485 v743
  v744.toNat
def k0_dev18 (d0 : Dev nD) : Nat :=
  let c0_i32_507 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_506 : BitVec 32 := 1#32
  let v762 : BitVec 32 := Scalar.muli v258 c1_i32_506
  let v763 : BitVec 32 := Scalar.addi c0_i32_507 v762
  v763.toNat
def k0_dev19 (d0 : Dev nD) : Nat :=
  let c0_i32_528 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_527 : BitVec 32 := 1#32
  let v788 : BitVec 32 := Scalar.muli v258 c1_i32_527
  let v789 : BitVec 32 := Scalar.addi c0_i32_528 v788
  v789.toNat
def k0_dev20 (d0 : Dev nD) : Nat :=
  let c0_i32_545 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_544 : BitVec 32 := 1#32
  let v798 : BitVec 32 := Scalar.muli v386 c1_i32_544
  let v799 : BitVec 32 := Scalar.addi c0_i32_545 v798
  v799.toNat
def k0_dev21 (d0 : Dev nD) : Nat :=
  let c0_i32_577 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_576 : BitVec 32 := 1#32
  let v839 : BitVec 32 := Scalar.muli v386 c1_i32_576
  let v840 : BitVec 32 := Scalar.addi c0_i32_577 v839
  v840.toNat
def k0_dev22 (d0 : Dev nD) : Nat :=
  let c0_i32_599 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_598 : BitVec 32 := 1#32
  let v858 : BitVec 32 := Scalar.muli v258 c1_i32_598
  let v859 : BitVec 32 := Scalar.addi c0_i32_599 v858
  v859.toNat
def k0_dev23 (d0 : Dev nD) : Nat :=
  let c0_i32_620 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_619 : BitVec 32 := 1#32
  let v884 : BitVec 32 := Scalar.muli v258 c1_i32_619
  let v885 : BitVec 32 := Scalar.addi c0_i32_620 v884
  v885.toNat
def k0_dev24 (d0 : Dev nD) : Nat :=
  let c0_i32_637 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_636 : BitVec 32 := 1#32
  let v894 : BitVec 32 := Scalar.muli v386 c1_i32_636
  let v895 : BitVec 32 := Scalar.addi c0_i32_637 v894
  v895.toNat
def k0_dev25 (d0 : Dev nD) : Nat :=
  let c0_i32_669 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_668 : BitVec 32 := 1#32
  let v935 : BitVec 32 := Scalar.muli v386 c1_i32_668
  let v936 : BitVec 32 := Scalar.addi c0_i32_669 v935
  v936.toNat
def k0_dev26 (d0 : Dev nD) : Nat :=
  let c0_i32_691 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_690 : BitVec 32 := 1#32
  let v954 : BitVec 32 := Scalar.muli v258 c1_i32_690
  let v955 : BitVec 32 := Scalar.addi c0_i32_691 v954
  v955.toNat
def k0_dev27 (d0 : Dev nD) : Nat :=
  let c0_i32_712 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_711 : BitVec 32 := 1#32
  let v980 : BitVec 32 := Scalar.muli v258 c1_i32_711
  let v981 : BitVec 32 := Scalar.addi c0_i32_712 v980
  v981.toNat
def k0_dev28 (d0 : Dev nD) : Nat :=
  let c0_i32_729 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_728 : BitVec 32 := 1#32
  let v990 : BitVec 32 := Scalar.muli v386 c1_i32_728
  let v991 : BitVec 32 := Scalar.addi c0_i32_729 v990
  v991.toNat
def k0_dev29 (d0 : Dev nD) : Nat :=
  let c0_i32_761 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_760 : BitVec 32 := 1#32
  let v1031 : BitVec 32 := Scalar.muli v386 c1_i32_760
  let v1032 : BitVec 32 := Scalar.addi c0_i32_761 v1031
  v1032.toNat
def k0_dev30 (d0 : Dev nD) : Nat :=
  let c0_i32_783 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_782 : BitVec 32 := 1#32
  let v1050 : BitVec 32 := Scalar.muli v258 c1_i32_782
  let v1051 : BitVec 32 := Scalar.addi c0_i32_783 v1050
  v1051.toNat
def k0_dev31 (d0 : Dev nD) : Nat :=
  let c0_i32_804 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_803 : BitVec 32 := 1#32
  let v1076 : BitVec 32 := Scalar.muli v258 c1_i32_803
  let v1077 : BitVec 32 := Scalar.addi c0_i32_804 v1076
  v1077.toNat
def k0_dev32 (d0 : Dev nD) : Nat :=
  let c0_i32_821 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_820 : BitVec 32 := 1#32
  let v1086 : BitVec 32 := Scalar.muli v386 c1_i32_820
  let v1087 : BitVec 32 := Scalar.addi c0_i32_821 v1086
  v1087.toNat
def k0_dev33 (d0 : Dev nD) : Nat :=
  let c0_i32_853 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_852 : BitVec 32 := 1#32
  let v1127 : BitVec 32 := Scalar.muli v386 c1_i32_852
  let v1128 : BitVec 32 := Scalar.addi c0_i32_853 v1127
  v1128.toNat
def k0_dev34 (d0 : Dev nD) : Nat :=
  let c0_i32_875 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_874 : BitVec 32 := 1#32
  let v1146 : BitVec 32 := Scalar.muli v258 c1_i32_874
  let v1147 : BitVec 32 := Scalar.addi c0_i32_875 v1146
  v1147.toNat
def k0_dev35 (d0 : Dev nD) : Nat :=
  let c0_i32_896 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_895 : BitVec 32 := 1#32
  let v1172 : BitVec 32 := Scalar.muli v258 c1_i32_895
  let v1173 : BitVec 32 := Scalar.addi c0_i32_896 v1172
  v1173.toNat
def k0_dev36 (d0 : Dev nD) : Nat :=
  let c0_i32_913 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_912 : BitVec 32 := 1#32
  let v1182 : BitVec 32 := Scalar.muli v386 c1_i32_912
  let v1183 : BitVec 32 := Scalar.addi c0_i32_913 v1182
  v1183.toNat
def k0_dev37 (d0 : Dev nD) : Nat :=
  let c0_i32_945 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_944 : BitVec 32 := 1#32
  let v1223 : BitVec 32 := Scalar.muli v386 c1_i32_944
  let v1224 : BitVec 32 := Scalar.addi c0_i32_945 v1223
  v1224.toNat
def k0_dev38 (d0 : Dev nD) : Nat :=
  let c0_i32_967 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_966 : BitVec 32 := 1#32
  let v1242 : BitVec 32 := Scalar.muli v258 c1_i32_966
  let v1243 : BitVec 32 := Scalar.addi c0_i32_967 v1242
  v1243.toNat
def k0_dev39 (d0 : Dev nD) : Nat :=
  let c0_i32_988 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_987 : BitVec 32 := 1#32
  let v1268 : BitVec 32 := Scalar.muli v258 c1_i32_987
  let v1269 : BitVec 32 := Scalar.addi c0_i32_988 v1268
  v1269.toNat
def k0_dev40 (d0 : Dev nD) : Nat :=
  let c0_i32_1005 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1004 : BitVec 32 := 1#32
  let v1278 : BitVec 32 := Scalar.muli v386 c1_i32_1004
  let v1279 : BitVec 32 := Scalar.addi c0_i32_1005 v1278
  v1279.toNat
def k0_dev41 (d0 : Dev nD) : Nat :=
  let c0_i32_1037 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1036 : BitVec 32 := 1#32
  let v1319 : BitVec 32 := Scalar.muli v386 c1_i32_1036
  let v1320 : BitVec 32 := Scalar.addi c0_i32_1037 v1319
  v1320.toNat
def k0_dev42 (d0 : Dev nD) : Nat :=
  let c0_i32_1059 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1058 : BitVec 32 := 1#32
  let v1338 : BitVec 32 := Scalar.muli v258 c1_i32_1058
  let v1339 : BitVec 32 := Scalar.addi c0_i32_1059 v1338
  v1339.toNat
def k0_dev43 (d0 : Dev nD) : Nat :=
  let c0_i32_1080 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1079 : BitVec 32 := 1#32
  let v1364 : BitVec 32 := Scalar.muli v258 c1_i32_1079
  let v1365 : BitVec 32 := Scalar.addi c0_i32_1080 v1364
  v1365.toNat
def k0_dev44 (d0 : Dev nD) : Nat :=
  let c0_i32_1097 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1096 : BitVec 32 := 1#32
  let v1374 : BitVec 32 := Scalar.muli v386 c1_i32_1096
  let v1375 : BitVec 32 := Scalar.addi c0_i32_1097 v1374
  v1375.toNat
def k0_dev45 (d0 : Dev nD) : Nat :=
  let c0_i32_1129 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1128 : BitVec 32 := 1#32
  let v1415 : BitVec 32 := Scalar.muli v386 c1_i32_1128
  let v1416 : BitVec 32 := Scalar.addi c0_i32_1129 v1415
  v1416.toNat
def k0_dev46 (d0 : Dev nD) : Nat :=
  let c0_i32_1151 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1150 : BitVec 32 := 1#32
  let v1434 : BitVec 32 := Scalar.muli v258 c1_i32_1150
  let v1435 : BitVec 32 := Scalar.addi c0_i32_1151 v1434
  v1435.toNat
def k0_dev47 (d0 : Dev nD) : Nat :=
  let c0_i32_1172 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1171 : BitVec 32 := 1#32
  let v1460 : BitVec 32 := Scalar.muli v258 c1_i32_1171
  let v1461 : BitVec 32 := Scalar.addi c0_i32_1172 v1460
  v1461.toNat
def k0_dev48 (d0 : Dev nD) : Nat :=
  let c0_i32_1189 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1188 : BitVec 32 := 1#32
  let v1470 : BitVec 32 := Scalar.muli v386 c1_i32_1188
  let v1471 : BitVec 32 := Scalar.addi c0_i32_1189 v1470
  v1471.toNat
def k0_dev49 (d0 : Dev nD) : Nat :=
  let c0_i32_1221 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1220 : BitVec 32 := 1#32
  let v1511 : BitVec 32 := Scalar.muli v386 c1_i32_1220
  let v1512 : BitVec 32 := Scalar.addi c0_i32_1221 v1511
  v1512.toNat
def k0_dev50 (d0 : Dev nD) : Nat :=
  let c0_i32_1243 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1242 : BitVec 32 := 1#32
  let v1530 : BitVec 32 := Scalar.muli v258 c1_i32_1242
  let v1531 : BitVec 32 := Scalar.addi c0_i32_1243 v1530
  v1531.toNat
def k0_dev51 (d0 : Dev nD) : Nat :=
  let c0_i32_1264 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1263 : BitVec 32 := 1#32
  let v1556 : BitVec 32 := Scalar.muli v258 c1_i32_1263
  let v1557 : BitVec 32 := Scalar.addi c0_i32_1264 v1556
  v1557.toNat
def k0_dev52 (d0 : Dev nD) : Nat :=
  let c0_i32_1281 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1280 : BitVec 32 := 1#32
  let v1566 : BitVec 32 := Scalar.muli v386 c1_i32_1280
  let v1567 : BitVec 32 := Scalar.addi c0_i32_1281 v1566
  v1567.toNat
def k0_dev53 (d0 : Dev nD) : Nat :=
  let c0_i32_1313 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1312 : BitVec 32 := 1#32
  let v1607 : BitVec 32 := Scalar.muli v386 c1_i32_1312
  let v1608 : BitVec 32 := Scalar.addi c0_i32_1313 v1607
  v1608.toNat
def k0_dev54 (d0 : Dev nD) : Nat :=
  let c0_i32_1335 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1334 : BitVec 32 := 1#32
  let v1626 : BitVec 32 := Scalar.muli v258 c1_i32_1334
  let v1627 : BitVec 32 := Scalar.addi c0_i32_1335 v1626
  v1627.toNat
def k0_dev55 (d0 : Dev nD) : Nat :=
  let c0_i32_1356 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1355 : BitVec 32 := 1#32
  let v1652 : BitVec 32 := Scalar.muli v258 c1_i32_1355
  let v1653 : BitVec 32 := Scalar.addi c0_i32_1356 v1652
  v1653.toNat
def k0_dev56 (d0 : Dev nD) : Nat :=
  let c0_i32_1373 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1372 : BitVec 32 := 1#32
  let v1662 : BitVec 32 := Scalar.muli v386 c1_i32_1372
  let v1663 : BitVec 32 := Scalar.addi c0_i32_1373 v1662
  v1663.toNat
def k0_dev57 (d0 : Dev nD) : Nat :=
  let c0_i32_1405 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1404 : BitVec 32 := 1#32
  let v1703 : BitVec 32 := Scalar.muli v386 c1_i32_1404
  let v1704 : BitVec 32 := Scalar.addi c0_i32_1405 v1703
  v1704.toNat
def k0_dev58 (d0 : Dev nD) : Nat :=
  let c0_i32_1427 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1426 : BitVec 32 := 1#32
  let v1722 : BitVec 32 := Scalar.muli v258 c1_i32_1426
  let v1723 : BitVec 32 := Scalar.addi c0_i32_1427 v1722
  v1723.toNat
def k0_dev59 (d0 : Dev nD) : Nat :=
  let c0_i32_1448 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1447 : BitVec 32 := 1#32
  let v1748 : BitVec 32 := Scalar.muli v258 c1_i32_1447
  let v1749 : BitVec 32 := Scalar.addi c0_i32_1448 v1748
  v1749.toNat
def k0_dev60 (d0 : Dev nD) : Nat :=
  let c0_i32_1465 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1464 : BitVec 32 := 1#32
  let v1758 : BitVec 32 := Scalar.muli v386 c1_i32_1464
  let v1759 : BitVec 32 := Scalar.addi c0_i32_1465 v1758
  v1759.toNat
def k0_dev61 (d0 : Dev nD) : Nat :=
  let c0_i32_1497 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1496 : BitVec 32 := 1#32
  let v1799 : BitVec 32 := Scalar.muli v386 c1_i32_1496
  let v1800 : BitVec 32 := Scalar.addi c0_i32_1497 v1799
  v1800.toNat
def k0_dev62 (d0 : Dev nD) : Nat :=
  let c0_i32_1519 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1518 : BitVec 32 := 1#32
  let v1818 : BitVec 32 := Scalar.muli v258 c1_i32_1518
  let v1819 : BitVec 32 := Scalar.addi c0_i32_1519 v1818
  v1819.toNat
def k0_dev63 (d0 : Dev nD) : Nat :=
  let c0_i32_1540 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1539 : BitVec 32 := 1#32
  let v1844 : BitVec 32 := Scalar.muli v258 c1_i32_1539
  let v1845 : BitVec 32 := Scalar.addi c0_i32_1540 v1844
  v1845.toNat
def k0_dev64 (d0 : Dev nD) : Nat :=
  let c0_i32_1557 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1556 : BitVec 32 := 1#32
  let v1854 : BitVec 32 := Scalar.muli v386 c1_i32_1556
  let v1855 : BitVec 32 := Scalar.addi c0_i32_1557 v1854
  v1855.toNat
def k0_dev65 (d0 : Dev nD) : Nat :=
  let c0_i32_1589 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1588 : BitVec 32 := 1#32
  let v1895 : BitVec 32 := Scalar.muli v386 c1_i32_1588
  let v1896 : BitVec 32 := Scalar.addi c0_i32_1589 v1895
  v1896.toNat
def k0_dev66 (d0 : Dev nD) : Nat :=
  let c0_i32_1611 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1610 : BitVec 32 := 1#32
  let v1914 : BitVec 32 := Scalar.muli v258 c1_i32_1610
  let v1915 : BitVec 32 := Scalar.addi c0_i32_1611 v1914
  v1915.toNat
def k0_dev67 (d0 : Dev nD) : Nat :=
  let c0_i32_1632 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1631 : BitVec 32 := 1#32
  let v1940 : BitVec 32 := Scalar.muli v258 c1_i32_1631
  let v1941 : BitVec 32 := Scalar.addi c0_i32_1632 v1940
  v1941.toNat
def k0_dev68 (d0 : Dev nD) : Nat :=
  let c0_i32_1649 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1648 : BitVec 32 := 1#32
  let v1950 : BitVec 32 := Scalar.muli v386 c1_i32_1648
  let v1951 : BitVec 32 := Scalar.addi c0_i32_1649 v1950
  v1951.toNat
def k0_dev69 (d0 : Dev nD) : Nat :=
  let c0_i32_1681 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1680 : BitVec 32 := 1#32
  let v1991 : BitVec 32 := Scalar.muli v386 c1_i32_1680
  let v1992 : BitVec 32 := Scalar.addi c0_i32_1681 v1991
  v1992.toNat
def k0_dev70 (d0 : Dev nD) : Nat :=
  let c0_i32_1703 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1702 : BitVec 32 := 1#32
  let v2010 : BitVec 32 := Scalar.muli v258 c1_i32_1702
  let v2011 : BitVec 32 := Scalar.addi c0_i32_1703 v2010
  v2011.toNat
def k0_dev71 (d0 : Dev nD) : Nat :=
  let c0_i32_1724 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1723 : BitVec 32 := 1#32
  let v2036 : BitVec 32 := Scalar.muli v258 c1_i32_1723
  let v2037 : BitVec 32 := Scalar.addi c0_i32_1724 v2036
  v2037.toNat
def k0_dev72 (d0 : Dev nD) : Nat :=
  let c0_i32_1741 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1740 : BitVec 32 := 1#32
  let v2046 : BitVec 32 := Scalar.muli v386 c1_i32_1740
  let v2047 : BitVec 32 := Scalar.addi c0_i32_1741 v2046
  v2047.toNat
def k0_dev73 (d0 : Dev nD) : Nat :=
  let c0_i32_1773 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1772 : BitVec 32 := 1#32
  let v2087 : BitVec 32 := Scalar.muli v386 c1_i32_1772
  let v2088 : BitVec 32 := Scalar.addi c0_i32_1773 v2087
  v2088.toNat
def k0_dev74 (d0 : Dev nD) : Nat :=
  let c0_i32_1795 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1794 : BitVec 32 := 1#32
  let v2106 : BitVec 32 := Scalar.muli v258 c1_i32_1794
  let v2107 : BitVec 32 := Scalar.addi c0_i32_1795 v2106
  v2107.toNat
def k0_dev75 (d0 : Dev nD) : Nat :=
  let c0_i32_1816 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1815 : BitVec 32 := 1#32
  let v2132 : BitVec 32 := Scalar.muli v258 c1_i32_1815
  let v2133 : BitVec 32 := Scalar.addi c0_i32_1816 v2132
  v2133.toNat
def k0_dev76 (d0 : Dev nD) : Nat :=
  let c0_i32_1833 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1832 : BitVec 32 := 1#32
  let v2142 : BitVec 32 := Scalar.muli v386 c1_i32_1832
  let v2143 : BitVec 32 := Scalar.addi c0_i32_1833 v2142
  v2143.toNat
def k0_dev77 (d0 : Dev nD) : Nat :=
  let c0_i32_1865 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1864 : BitVec 32 := 1#32
  let v2183 : BitVec 32 := Scalar.muli v386 c1_i32_1864
  let v2184 : BitVec 32 := Scalar.addi c0_i32_1865 v2183
  v2184.toNat
def k0_dev78 (d0 : Dev nD) : Nat :=
  let c0_i32_1887 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1886 : BitVec 32 := 1#32
  let v2202 : BitVec 32 := Scalar.muli v258 c1_i32_1886
  let v2203 : BitVec 32 := Scalar.addi c0_i32_1887 v2202
  v2203.toNat
def k0_dev79 (d0 : Dev nD) : Nat :=
  let c0_i32_1908 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1907 : BitVec 32 := 1#32
  let v2228 : BitVec 32 := Scalar.muli v258 c1_i32_1907
  let v2229 : BitVec 32 := Scalar.addi c0_i32_1908 v2228
  v2229.toNat
def k0_dev80 (d0 : Dev nD) : Nat :=
  let c0_i32_1925 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1924 : BitVec 32 := 1#32
  let v2238 : BitVec 32 := Scalar.muli v386 c1_i32_1924
  let v2239 : BitVec 32 := Scalar.addi c0_i32_1925 v2238
  v2239.toNat
def k0_dev81 (d0 : Dev nD) : Nat :=
  let c0_i32_1957 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_1956 : BitVec 32 := 1#32
  let v2279 : BitVec 32 := Scalar.muli v386 c1_i32_1956
  let v2280 : BitVec 32 := Scalar.addi c0_i32_1957 v2279
  v2280.toNat
def k0_dev82 (d0 : Dev nD) : Nat :=
  let c0_i32_1979 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1978 : BitVec 32 := 1#32
  let v2298 : BitVec 32 := Scalar.muli v258 c1_i32_1978
  let v2299 : BitVec 32 := Scalar.addi c0_i32_1979 v2298
  v2299.toNat
def k0_dev83 (d0 : Dev nD) : Nat :=
  let c0_i32_2000 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_1999 : BitVec 32 := 1#32
  let v2324 : BitVec 32 := Scalar.muli v258 c1_i32_1999
  let v2325 : BitVec 32 := Scalar.addi c0_i32_2000 v2324
  v2325.toNat
def k0_dev84 (d0 : Dev nD) : Nat :=
  let c0_i32_2017 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2016 : BitVec 32 := 1#32
  let v2334 : BitVec 32 := Scalar.muli v386 c1_i32_2016
  let v2335 : BitVec 32 := Scalar.addi c0_i32_2017 v2334
  v2335.toNat
def k0_dev85 (d0 : Dev nD) : Nat :=
  let c0_i32_2049 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2048 : BitVec 32 := 1#32
  let v2375 : BitVec 32 := Scalar.muli v386 c1_i32_2048
  let v2376 : BitVec 32 := Scalar.addi c0_i32_2049 v2375
  v2376.toNat
def k0_dev86 (d0 : Dev nD) : Nat :=
  let c0_i32_2071 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2070 : BitVec 32 := 1#32
  let v2394 : BitVec 32 := Scalar.muli v258 c1_i32_2070
  let v2395 : BitVec 32 := Scalar.addi c0_i32_2071 v2394
  v2395.toNat
def k0_dev87 (d0 : Dev nD) : Nat :=
  let c0_i32_2092 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2091 : BitVec 32 := 1#32
  let v2420 : BitVec 32 := Scalar.muli v258 c1_i32_2091
  let v2421 : BitVec 32 := Scalar.addi c0_i32_2092 v2420
  v2421.toNat
def k0_dev88 (d0 : Dev nD) : Nat :=
  let c0_i32_2109 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2108 : BitVec 32 := 1#32
  let v2430 : BitVec 32 := Scalar.muli v386 c1_i32_2108
  let v2431 : BitVec 32 := Scalar.addi c0_i32_2109 v2430
  v2431.toNat
def k0_dev89 (d0 : Dev nD) : Nat :=
  let c0_i32_2141 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2140 : BitVec 32 := 1#32
  let v2471 : BitVec 32 := Scalar.muli v386 c1_i32_2140
  let v2472 : BitVec 32 := Scalar.addi c0_i32_2141 v2471
  v2472.toNat
def k0_dev90 (d0 : Dev nD) : Nat :=
  let c0_i32_2163 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2162 : BitVec 32 := 1#32
  let v2490 : BitVec 32 := Scalar.muli v258 c1_i32_2162
  let v2491 : BitVec 32 := Scalar.addi c0_i32_2163 v2490
  v2491.toNat
def k0_dev91 (d0 : Dev nD) : Nat :=
  let c0_i32_2184 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2183 : BitVec 32 := 1#32
  let v2516 : BitVec 32 := Scalar.muli v258 c1_i32_2183
  let v2517 : BitVec 32 := Scalar.addi c0_i32_2184 v2516
  v2517.toNat
def k0_dev92 (d0 : Dev nD) : Nat :=
  let c0_i32_2201 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2200 : BitVec 32 := 1#32
  let v2526 : BitVec 32 := Scalar.muli v386 c1_i32_2200
  let v2527 : BitVec 32 := Scalar.addi c0_i32_2201 v2526
  v2527.toNat
def k0_dev93 (d0 : Dev nD) : Nat :=
  let c0_i32_2233 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2232 : BitVec 32 := 1#32
  let v2567 : BitVec 32 := Scalar.muli v386 c1_i32_2232
  let v2568 : BitVec 32 := Scalar.addi c0_i32_2233 v2567
  v2568.toNat
def k0_dev94 (d0 : Dev nD) : Nat :=
  let c0_i32_2255 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2254 : BitVec 32 := 1#32
  let v2586 : BitVec 32 := Scalar.muli v258 c1_i32_2254
  let v2587 : BitVec 32 := Scalar.addi c0_i32_2255 v2586
  v2587.toNat
def k0_dev95 (d0 : Dev nD) : Nat :=
  let c0_i32_2276 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2275 : BitVec 32 := 1#32
  let v2612 : BitVec 32 := Scalar.muli v258 c1_i32_2275
  let v2613 : BitVec 32 := Scalar.addi c0_i32_2276 v2612
  v2613.toNat
def k0_dev96 (d0 : Dev nD) : Nat :=
  let c0_i32_2293 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2292 : BitVec 32 := 1#32
  let v2622 : BitVec 32 := Scalar.muli v386 c1_i32_2292
  let v2623 : BitVec 32 := Scalar.addi c0_i32_2293 v2622
  v2623.toNat
def k0_dev97 (d0 : Dev nD) : Nat :=
  let c0_i32_2325 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2324 : BitVec 32 := 1#32
  let v2663 : BitVec 32 := Scalar.muli v386 c1_i32_2324
  let v2664 : BitVec 32 := Scalar.addi c0_i32_2325 v2663
  v2664.toNat
def k0_dev98 (d0 : Dev nD) : Nat :=
  let c0_i32_2347 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2346 : BitVec 32 := 1#32
  let v2682 : BitVec 32 := Scalar.muli v258 c1_i32_2346
  let v2683 : BitVec 32 := Scalar.addi c0_i32_2347 v2682
  v2683.toNat
def k0_dev99 (d0 : Dev nD) : Nat :=
  let c0_i32_2368 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2367 : BitVec 32 := 1#32
  let v2708 : BitVec 32 := Scalar.muli v258 c1_i32_2367
  let v2709 : BitVec 32 := Scalar.addi c0_i32_2368 v2708
  v2709.toNat
def k0_dev100 (d0 : Dev nD) : Nat :=
  let c0_i32_2385 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2384 : BitVec 32 := 1#32
  let v2718 : BitVec 32 := Scalar.muli v386 c1_i32_2384
  let v2719 : BitVec 32 := Scalar.addi c0_i32_2385 v2718
  v2719.toNat
def k0_dev101 (d0 : Dev nD) : Nat :=
  let c0_i32_2417 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2416 : BitVec 32 := 1#32
  let v2759 : BitVec 32 := Scalar.muli v386 c1_i32_2416
  let v2760 : BitVec 32 := Scalar.addi c0_i32_2417 v2759
  v2760.toNat
def k0_dev102 (d0 : Dev nD) : Nat :=
  let c0_i32_2439 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2438 : BitVec 32 := 1#32
  let v2778 : BitVec 32 := Scalar.muli v258 c1_i32_2438
  let v2779 : BitVec 32 := Scalar.addi c0_i32_2439 v2778
  v2779.toNat
def k0_dev103 (d0 : Dev nD) : Nat :=
  let c0_i32_2460 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2459 : BitVec 32 := 1#32
  let v2804 : BitVec 32 := Scalar.muli v258 c1_i32_2459
  let v2805 : BitVec 32 := Scalar.addi c0_i32_2460 v2804
  v2805.toNat
def k0_dev104 (d0 : Dev nD) : Nat :=
  let c0_i32_2477 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2476 : BitVec 32 := 1#32
  let v2814 : BitVec 32 := Scalar.muli v386 c1_i32_2476
  let v2815 : BitVec 32 := Scalar.addi c0_i32_2477 v2814
  v2815.toNat
def k0_dev105 (d0 : Dev nD) : Nat :=
  let c0_i32_2509 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2508 : BitVec 32 := 1#32
  let v2855 : BitVec 32 := Scalar.muli v386 c1_i32_2508
  let v2856 : BitVec 32 := Scalar.addi c0_i32_2509 v2855
  v2856.toNat
def k0_dev106 (d0 : Dev nD) : Nat :=
  let c0_i32_2531 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2530 : BitVec 32 := 1#32
  let v2874 : BitVec 32 := Scalar.muli v258 c1_i32_2530
  let v2875 : BitVec 32 := Scalar.addi c0_i32_2531 v2874
  v2875.toNat
def k0_dev107 (d0 : Dev nD) : Nat :=
  let c0_i32_2552 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2551 : BitVec 32 := 1#32
  let v2900 : BitVec 32 := Scalar.muli v258 c1_i32_2551
  let v2901 : BitVec 32 := Scalar.addi c0_i32_2552 v2900
  v2901.toNat
def k0_dev108 (d0 : Dev nD) : Nat :=
  let c0_i32_2569 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2568 : BitVec 32 := 1#32
  let v2910 : BitVec 32 := Scalar.muli v386 c1_i32_2568
  let v2911 : BitVec 32 := Scalar.addi c0_i32_2569 v2910
  v2911.toNat
def k0_dev109 (d0 : Dev nD) : Nat :=
  let c0_i32_2601 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2600 : BitVec 32 := 1#32
  let v2951 : BitVec 32 := Scalar.muli v386 c1_i32_2600
  let v2952 : BitVec 32 := Scalar.addi c0_i32_2601 v2951
  v2952.toNat
def k0_dev110 (d0 : Dev nD) : Nat :=
  let c0_i32_2623 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2622 : BitVec 32 := 1#32
  let v2970 : BitVec 32 := Scalar.muli v258 c1_i32_2622
  let v2971 : BitVec 32 := Scalar.addi c0_i32_2623 v2970
  v2971.toNat
def k0_dev111 (d0 : Dev nD) : Nat :=
  let c0_i32_2644 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2643 : BitVec 32 := 1#32
  let v2996 : BitVec 32 := Scalar.muli v258 c1_i32_2643
  let v2997 : BitVec 32 := Scalar.addi c0_i32_2644 v2996
  v2997.toNat
def k0_dev112 (d0 : Dev nD) : Nat :=
  let c0_i32_2661 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2660 : BitVec 32 := 1#32
  let v3006 : BitVec 32 := Scalar.muli v386 c1_i32_2660
  let v3007 : BitVec 32 := Scalar.addi c0_i32_2661 v3006
  v3007.toNat
def k0_dev113 (d0 : Dev nD) : Nat :=
  let c0_i32_2693 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2692 : BitVec 32 := 1#32
  let v3047 : BitVec 32 := Scalar.muli v386 c1_i32_2692
  let v3048 : BitVec 32 := Scalar.addi c0_i32_2693 v3047
  v3048.toNat
def k0_dev114 (d0 : Dev nD) : Nat :=
  let c0_i32_2715 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2714 : BitVec 32 := 1#32
  let v3066 : BitVec 32 := Scalar.muli v258 c1_i32_2714
  let v3067 : BitVec 32 := Scalar.addi c0_i32_2715 v3066
  v3067.toNat
def k0_dev115 (d0 : Dev nD) : Nat :=
  let c0_i32_2736 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2735 : BitVec 32 := 1#32
  let v3092 : BitVec 32 := Scalar.muli v258 c1_i32_2735
  let v3093 : BitVec 32 := Scalar.addi c0_i32_2736 v3092
  v3093.toNat
def k0_dev116 (d0 : Dev nD) : Nat :=
  let c0_i32_2753 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2752 : BitVec 32 := 1#32
  let v3102 : BitVec 32 := Scalar.muli v386 c1_i32_2752
  let v3103 : BitVec 32 := Scalar.addi c0_i32_2753 v3102
  v3103.toNat
def k0_dev117 (d0 : Dev nD) : Nat :=
  let c0_i32_2785 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2784 : BitVec 32 := 1#32
  let v3143 : BitVec 32 := Scalar.muli v386 c1_i32_2784
  let v3144 : BitVec 32 := Scalar.addi c0_i32_2785 v3143
  v3144.toNat
def k0_dev118 (d0 : Dev nD) : Nat :=
  let c0_i32_2807 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2806 : BitVec 32 := 1#32
  let v3162 : BitVec 32 := Scalar.muli v258 c1_i32_2806
  let v3163 : BitVec 32 := Scalar.addi c0_i32_2807 v3162
  v3163.toNat
def k0_dev119 (d0 : Dev nD) : Nat :=
  let c0_i32_2828 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2827 : BitVec 32 := 1#32
  let v3188 : BitVec 32 := Scalar.muli v258 c1_i32_2827
  let v3189 : BitVec 32 := Scalar.addi c0_i32_2828 v3188
  v3189.toNat
def k0_dev120 (d0 : Dev nD) : Nat :=
  let c0_i32_2845 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2844 : BitVec 32 := 1#32
  let v3198 : BitVec 32 := Scalar.muli v386 c1_i32_2844
  let v3199 : BitVec 32 := Scalar.addi c0_i32_2845 v3198
  v3199.toNat
def k0_dev121 (d0 : Dev nD) : Nat :=
  let c0_i32_2896 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_2895 : BitVec 32 := 1#32
  let v3256 : BitVec 32 := Scalar.muli v258 c1_i32_2895
  let v3257 : BitVec 32 := Scalar.addi c0_i32_2896 v3256
  v3257.toNat
def k0_dev122 (d0 : Dev nD) : Nat :=
  let c0_i32_2931 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_2930 : BitVec 32 := 1#32
  let v3290 : BitVec 32 := Scalar.muli v386 c1_i32_2930
  let v3291 : BitVec 32 := Scalar.addi c0_i32_2931 v3290
  v3291.toNat
def k0_off5 (d0 : Dev nD) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c31_i32 : BitVec 32 := 31#32
  let c1_i32_2 : BitVec 32 := 1#32
  let v7 : BitVec 1 := Scalar.cmpi .eq v2 c1_i32_2
  let v8 : BitVec 32 := Scalar.extui v7
  let v9 : BitVec 32 := Scalar.muli c31_i32 v8
  let v10 : BitVec 32 := Scalar.addi v6 v9
  let c30_i32 : BitVec 32 := 30#32
  let c2_i32 : BitVec 32 := 2#32
  let v11 : BitVec 1 := Scalar.cmpi .eq v2 c2_i32
  let v12 : BitVec 32 := Scalar.extui v11
  let v13 : BitVec 32 := Scalar.muli c30_i32 v12
  let v14 : BitVec 32 := Scalar.addi v10 v13
  let c1_i32_3 : BitVec 32 := 1#32
  let c3_i32 : BitVec 32 := 3#32
  let v15 : BitVec 1 := Scalar.cmpi .eq v2 c3_i32
  let v16 : BitVec 32 := Scalar.extui v15
  let v17 : BitVec 32 := Scalar.muli c1_i32_3 v16
  let v18 : BitVec 32 := Scalar.addi v14 v17
  let c2_i32_4 : BitVec 32 := 2#32
  let c4_i32 : BitVec 32 := 4#32
  let v19 : BitVec 1 := Scalar.cmpi .eq v2 c4_i32
  let v20 : BitVec 32 := Scalar.extui v19
  let v21 : BitVec 32 := Scalar.muli c2_i32_4 v20
  let v22 : BitVec 32 := Scalar.addi v18 v21
  let c29_i32 : BitVec 32 := 29#32
  let c5_i32 : BitVec 32 := 5#32
  let v23 : BitVec 1 := Scalar.cmpi .eq v2 c5_i32
  let v24 : BitVec 32 := Scalar.extui v23
  let v25 : BitVec 32 := Scalar.muli c29_i32 v24
  let v26 : BitVec 32 := Scalar.addi v22 v25
  let c28_i32 : BitVec 32 := 28#32
  let c6_i32 : BitVec 32 := 6#32
  let v27 : BitVec 1 := Scalar.cmpi .eq v2 c6_i32
  let v28 : BitVec 32 := Scalar.extui v27
  let v29 : BitVec 32 := Scalar.muli c28_i32 v28
  let v30 : BitVec 32 := Scalar.addi v26 v29
  let c3_i32_5 : BitVec 32 := 3#32
  let c7_i32 : BitVec 32 := 7#32
  let v31 : BitVec 1 := Scalar.cmpi .eq v2 c7_i32
  let v32 : BitVec 32 := Scalar.extui v31
  let v33 : BitVec 32 := Scalar.muli c3_i32_5 v32
  let v34 : BitVec 32 := Scalar.addi v30 v33
  let c7_i32_6 : BitVec 32 := 7#32
  let c8_i32 : BitVec 32 := 8#32
  let v35 : BitVec 1 := Scalar.cmpi .eq v2 c8_i32
  let v36 : BitVec 32 := Scalar.extui v35
  let v37 : BitVec 32 := Scalar.muli c7_i32_6 v36
  let v38 : BitVec 32 := Scalar.addi v34 v37
  let c24_i32 : BitVec 32 := 24#32
  let c9_i32 : BitVec 32 := 9#32
  let v39 : BitVec 1 := Scalar.cmpi .eq v2 c9_i32
  let v40 : BitVec 32 := Scalar.extui v39
  let v41 : BitVec 32 := Scalar.muli c24_i32 v40
  let v42 : BitVec 32 := Scalar.addi v38 v41
  let c25_i32 : BitVec 32 := 25#32
  let c10_i32 : BitVec 32 := 10#32
  let v43 : BitVec 1 := Scalar.cmpi .eq v2 c10_i32
  let v44 : BitVec 32 := Scalar.extui v43
  let v45 : BitVec 32 := Scalar.muli c25_i32 v44
  let v46 : BitVec 32 := Scalar.addi v42 v45
  let c6_i32_7 : BitVec 32 := 6#32
  let c11_i32 : BitVec 32 := 11#32
  let v47 : BitVec 1 := Scalar.cmpi .eq v2 c11_i32
  let v48 : BitVec 32 := Scalar.extui v47
  let v49 : BitVec 32 := Scalar.muli c6_i32_7 v48
  let v50 : BitVec 32 := Scalar.addi v46 v49
  let c5_i32_8 : BitVec 32 := 5#32
  let c12_i32 : BitVec 32 := 12#32
  let v51 : BitVec 1 := Scalar.cmpi .eq v2 c12_i32
  let v52 : BitVec 32 := Scalar.extui v51
  let v53 : BitVec 32 := Scalar.muli c5_i32_8 v52
  let v54 : BitVec 32 := Scalar.addi v50 v53
  let c26_i32 : BitVec 32 := 26#32
  let c13_i32 : BitVec 32 := 13#32
  let v55 : BitVec 1 := Scalar.cmpi .eq v2 c13_i32
  let v56 : BitVec 32 := Scalar.extui v55
  let v57 : BitVec 32 := Scalar.muli c26_i32 v56
  let v58 : BitVec 32 := Scalar.addi v54 v57
  let c27_i32 : BitVec 32 := 27#32
  let c14_i32 : BitVec 32 := 14#32
  let v59 : BitVec 1 := Scalar.cmpi .eq v2 c14_i32
  let v60 : BitVec 32 := Scalar.extui v59
  let v61 : BitVec 32 := Scalar.muli c27_i32 v60
  let v62 : BitVec 32 := Scalar.addi v58 v61
  let c4_i32_9 : BitVec 32 := 4#32
  let c15_i32 : BitVec 32 := 15#32
  let v63 : BitVec 1 := Scalar.cmpi .eq v2 c15_i32
  let v64 : BitVec 32 := Scalar.extui v63
  let v65 : BitVec 32 := Scalar.muli c4_i32_9 v64
  let v66 : BitVec 32 := Scalar.addi v62 v65
  let c8_i32_10 : BitVec 32 := 8#32
  let c16_i32 : BitVec 32 := 16#32
  let v67 : BitVec 1 := Scalar.cmpi .eq v2 c16_i32
  let v68 : BitVec 32 := Scalar.extui v67
  let v69 : BitVec 32 := Scalar.muli c8_i32_10 v68
  let v70 : BitVec 32 := Scalar.addi v66 v69
  let c23_i32 : BitVec 32 := 23#32
  let c17_i32 : BitVec 32 := 17#32
  let v71 : BitVec 1 := Scalar.cmpi .eq v2 c17_i32
  let v72 : BitVec 32 := Scalar.extui v71
  let v73 : BitVec 32 := Scalar.muli c23_i32 v72
  let v74 : BitVec 32 := Scalar.addi v70 v73
  let c22_i32 : BitVec 32 := 22#32
  let c18_i32 : BitVec 32 := 18#32
  let v75 : BitVec 1 := Scalar.cmpi .eq v2 c18_i32
  let v76 : BitVec 32 := Scalar.extui v75
  let v77 : BitVec 32 := Scalar.muli c22_i32 v76
  let v78 : BitVec 32 := Scalar.addi v74 v77
  let c9_i32_11 : BitVec 32 := 9#32
  let c19_i32 : BitVec 32 := 19#32
  let v79 : BitVec 1 := Scalar.cmpi .eq v2 c19_i32
  let v80 : BitVec 32 := Scalar.extui v79
  let v81 : BitVec 32 := Scalar.muli c9_i32_11 v80
  let v82 : BitVec 32 := Scalar.addi v78 v81
  let c10_i32_12 : BitVec 32 := 10#32
  let c20_i32 : BitVec 32 := 20#32
  let v83 : BitVec 1 := Scalar.cmpi .eq v2 c20_i32
  let v84 : BitVec 32 := Scalar.extui v83
  let v85 : BitVec 32 := Scalar.muli c10_i32_12 v84
  let v86 : BitVec 32 := Scalar.addi v82 v85
  let c21_i32_13 : BitVec 32 := 21#32
  let c21_i32 : BitVec 32 := 21#32
  let v87 : BitVec 1 := Scalar.cmpi .eq v2 c21_i32
  let v88 : BitVec 32 := Scalar.extui v87
  let v89 : BitVec 32 := Scalar.muli c21_i32_13 v88
  let v90 : BitVec 32 := Scalar.addi v86 v89
  let c20_i32_15 : BitVec 32 := 20#32
  let c22_i32_14 : BitVec 32 := 22#32
  let v91 : BitVec 1 := Scalar.cmpi .eq v2 c22_i32_14
  let v92 : BitVec 32 := Scalar.extui v91
  let v93 : BitVec 32 := Scalar.muli c20_i32_15 v92
  let v94 : BitVec 32 := Scalar.addi v90 v93
  let c11_i32_17 : BitVec 32 := 11#32
  let c23_i32_16 : BitVec 32 := 23#32
  let v95 : BitVec 1 := Scalar.cmpi .eq v2 c23_i32_16
  let v96 : BitVec 32 := Scalar.extui v95
  let v97 : BitVec 32 := Scalar.muli c11_i32_17 v96
  let v98 : BitVec 32 := Scalar.addi v94 v97
  let c15_i32_19 : BitVec 32 := 15#32
  let c24_i32_18 : BitVec 32 := 24#32
  let v99 : BitVec 1 := Scalar.cmpi .eq v2 c24_i32_18
  let v100 : BitVec 32 := Scalar.extui v99
  let v101 : BitVec 32 := Scalar.muli c15_i32_19 v100
  let v102 : BitVec 32 := Scalar.addi v98 v101
  let c16_i32_21 : BitVec 32 := 16#32
  let c25_i32_20 : BitVec 32 := 25#32
  let v103 : BitVec 1 := Scalar.cmpi .eq v2 c25_i32_20
  let v104 : BitVec 32 := Scalar.extui v103
  let v105 : BitVec 32 := Scalar.muli c16_i32_21 v104
  let v106 : BitVec 32 := Scalar.addi v102 v105
  let c17_i32_23 : BitVec 32 := 17#32
  let c26_i32_22 : BitVec 32 := 26#32
  let v107 : BitVec 1 := Scalar.cmpi .eq v2 c26_i32_22
  let v108 : BitVec 32 := Scalar.extui v107
  let v109 : BitVec 32 := Scalar.muli c17_i32_23 v108
  let v110 : BitVec 32 := Scalar.addi v106 v109
  let c14_i32_25 : BitVec 32 := 14#32
  let c27_i32_24 : BitVec 32 := 27#32
  let v111 : BitVec 1 := Scalar.cmpi .eq v2 c27_i32_24
  let v112 : BitVec 32 := Scalar.extui v111
  let v113 : BitVec 32 := Scalar.muli c14_i32_25 v112
  let v114 : BitVec 32 := Scalar.addi v110 v113
  let c13_i32_27 : BitVec 32 := 13#32
  let c28_i32_26 : BitVec 32 := 28#32
  let v115 : BitVec 1 := Scalar.cmpi .eq v2 c28_i32_26
  let v116 : BitVec 32 := Scalar.extui v115
  let v117 : BitVec 32 := Scalar.muli c13_i32_27 v116
  let v118 : BitVec 32 := Scalar.addi v114 v117
  let c18_i32_29 : BitVec 32 := 18#32
  let c29_i32_28 : BitVec 32 := 29#32
  let v119 : BitVec 1 := Scalar.cmpi .eq v2 c29_i32_28
  let v120 : BitVec 32 := Scalar.extui v119
  let v121 : BitVec 32 := Scalar.muli c18_i32_29 v120
  let v122 : BitVec 32 := Scalar.addi v118 v121
  let c19_i32_31 : BitVec 32 := 19#32
  let c30_i32_30 : BitVec 32 := 30#32
  let v123 : BitVec 1 := Scalar.cmpi .eq v2 c30_i32_30
  let v124 : BitVec 32 := Scalar.extui v123
  let v125 : BitVec 32 := Scalar.muli c19_i32_31 v124
  let v126 : BitVec 32 := Scalar.addi v122 v125
  let c12_i32_33 : BitVec 32 := 12#32
  let c31_i32_32 : BitVec 32 := 31#32
  let v127 : BitVec 1 := Scalar.cmpi .eq v2 c31_i32_32
  let v128 : BitVec 32 := Scalar.extui v127
  let v129 : BitVec 32 := Scalar.muli c12_i32_33 v128
  let v130 : BitVec 32 := Scalar.addi v126 v129
  let c1_i32_3004 : BitVec 32 := 1#32
  let v3368 : BitVec 32 := Scalar.addi v130 c1_i32_3004
  let c32_i32_3005 : BitVec 32 := 32#32
  let c0_i32_3006 : BitVec 32 := 0#32
  let v3369 : BitVec 1 := Scalar.cmpi .eq c32_i32_3005 c0_i32_3006
  let c1_i32_3007 : BitVec 32 := 1#32
  let v3370 : BitVec 32 := Scalar.select v3369 c1_i32_3007 c32_i32_3005
  let v3371 : BitVec 32 := Scalar.remsi v3368 v3370
  let c0_i32_3009 : BitVec 32 := 0#32
  let v3373 : BitVec 1 := Scalar.cmpi .slt v3371 c0_i32_3009
  let c0_i32_3010 : BitVec 32 := 0#32
  let v3374 : BitVec 1 := Scalar.cmpi .slt v3370 c0_i32_3010
  let v3375 : BitVec 1 := Scalar.xori v3373 v3374
  let c0_i32_3008 : BitVec 32 := 0#32
  let v3372 : BitVec 1 := Scalar.cmpi .ne v3371 c0_i32_3008
  let v3376 : BitVec 1 := Scalar.andi v3375 v3372
  let v3377 : BitVec 32 := Scalar.addi v3371 v3370
  let v3378 : BitVec 32 := Scalar.select v3376 v3377 v3371
  let c128_i32_3020 : BitVec 32 := 128#32
  let v3393 : BitVec 32 := Scalar.muli v3378 c128_i32_3020
  let v3394 : Index := Scalar.indexCast v3393
  let c0_3021 : Index := 0#32
  ![v3394.toNat, 0]
def k0_off6 (d0 : Dev nD) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c31_i32 : BitVec 32 := 31#32
  let c1_i32_2 : BitVec 32 := 1#32
  let v7 : BitVec 1 := Scalar.cmpi .eq v2 c1_i32_2
  let v8 : BitVec 32 := Scalar.extui v7
  let v9 : BitVec 32 := Scalar.muli c31_i32 v8
  let v10 : BitVec 32 := Scalar.addi v6 v9
  let c30_i32 : BitVec 32 := 30#32
  let c2_i32 : BitVec 32 := 2#32
  let v11 : BitVec 1 := Scalar.cmpi .eq v2 c2_i32
  let v12 : BitVec 32 := Scalar.extui v11
  let v13 : BitVec 32 := Scalar.muli c30_i32 v12
  let v14 : BitVec 32 := Scalar.addi v10 v13
  let c1_i32_3 : BitVec 32 := 1#32
  let c3_i32 : BitVec 32 := 3#32
  let v15 : BitVec 1 := Scalar.cmpi .eq v2 c3_i32
  let v16 : BitVec 32 := Scalar.extui v15
  let v17 : BitVec 32 := Scalar.muli c1_i32_3 v16
  let v18 : BitVec 32 := Scalar.addi v14 v17
  let c2_i32_4 : BitVec 32 := 2#32
  let c4_i32 : BitVec 32 := 4#32
  let v19 : BitVec 1 := Scalar.cmpi .eq v2 c4_i32
  let v20 : BitVec 32 := Scalar.extui v19
  let v21 : BitVec 32 := Scalar.muli c2_i32_4 v20
  let v22 : BitVec 32 := Scalar.addi v18 v21
  let c29_i32 : BitVec 32 := 29#32
  let c5_i32 : BitVec 32 := 5#32
  let v23 : BitVec 1 := Scalar.cmpi .eq v2 c5_i32
  let v24 : BitVec 32 := Scalar.extui v23
  let v25 : BitVec 32 := Scalar.muli c29_i32 v24
  let v26 : BitVec 32 := Scalar.addi v22 v25
  let c28_i32 : BitVec 32 := 28#32
  let c6_i32 : BitVec 32 := 6#32
  let v27 : BitVec 1 := Scalar.cmpi .eq v2 c6_i32
  let v28 : BitVec 32 := Scalar.extui v27
  let v29 : BitVec 32 := Scalar.muli c28_i32 v28
  let v30 : BitVec 32 := Scalar.addi v26 v29
  let c3_i32_5 : BitVec 32 := 3#32
  let c7_i32 : BitVec 32 := 7#32
  let v31 : BitVec 1 := Scalar.cmpi .eq v2 c7_i32
  let v32 : BitVec 32 := Scalar.extui v31
  let v33 : BitVec 32 := Scalar.muli c3_i32_5 v32
  let v34 : BitVec 32 := Scalar.addi v30 v33
  let c7_i32_6 : BitVec 32 := 7#32
  let c8_i32 : BitVec 32 := 8#32
  let v35 : BitVec 1 := Scalar.cmpi .eq v2 c8_i32
  let v36 : BitVec 32 := Scalar.extui v35
  let v37 : BitVec 32 := Scalar.muli c7_i32_6 v36
  let v38 : BitVec 32 := Scalar.addi v34 v37
  let c24_i32 : BitVec 32 := 24#32
  let c9_i32 : BitVec 32 := 9#32
  let v39 : BitVec 1 := Scalar.cmpi .eq v2 c9_i32
  let v40 : BitVec 32 := Scalar.extui v39
  let v41 : BitVec 32 := Scalar.muli c24_i32 v40
  let v42 : BitVec 32 := Scalar.addi v38 v41
  let c25_i32 : BitVec 32 := 25#32
  let c10_i32 : BitVec 32 := 10#32
  let v43 : BitVec 1 := Scalar.cmpi .eq v2 c10_i32
  let v44 : BitVec 32 := Scalar.extui v43
  let v45 : BitVec 32 := Scalar.muli c25_i32 v44
  let v46 : BitVec 32 := Scalar.addi v42 v45
  let c6_i32_7 : BitVec 32 := 6#32
  let c11_i32 : BitVec 32 := 11#32
  let v47 : BitVec 1 := Scalar.cmpi .eq v2 c11_i32
  let v48 : BitVec 32 := Scalar.extui v47
  let v49 : BitVec 32 := Scalar.muli c6_i32_7 v48
  let v50 : BitVec 32 := Scalar.addi v46 v49
  let c5_i32_8 : BitVec 32 := 5#32
  let c12_i32 : BitVec 32 := 12#32
  let v51 : BitVec 1 := Scalar.cmpi .eq v2 c12_i32
  let v52 : BitVec 32 := Scalar.extui v51
  let v53 : BitVec 32 := Scalar.muli c5_i32_8 v52
  let v54 : BitVec 32 := Scalar.addi v50 v53
  let c26_i32 : BitVec 32 := 26#32
  let c13_i32 : BitVec 32 := 13#32
  let v55 : BitVec 1 := Scalar.cmpi .eq v2 c13_i32
  let v56 : BitVec 32 := Scalar.extui v55
  let v57 : BitVec 32 := Scalar.muli c26_i32 v56
  let v58 : BitVec 32 := Scalar.addi v54 v57
  let c27_i32 : BitVec 32 := 27#32
  let c14_i32 : BitVec 32 := 14#32
  let v59 : BitVec 1 := Scalar.cmpi .eq v2 c14_i32
  let v60 : BitVec 32 := Scalar.extui v59
  let v61 : BitVec 32 := Scalar.muli c27_i32 v60
  let v62 : BitVec 32 := Scalar.addi v58 v61
  let c4_i32_9 : BitVec 32 := 4#32
  let c15_i32 : BitVec 32 := 15#32
  let v63 : BitVec 1 := Scalar.cmpi .eq v2 c15_i32
  let v64 : BitVec 32 := Scalar.extui v63
  let v65 : BitVec 32 := Scalar.muli c4_i32_9 v64
  let v66 : BitVec 32 := Scalar.addi v62 v65
  let c8_i32_10 : BitVec 32 := 8#32
  let c16_i32 : BitVec 32 := 16#32
  let v67 : BitVec 1 := Scalar.cmpi .eq v2 c16_i32
  let v68 : BitVec 32 := Scalar.extui v67
  let v69 : BitVec 32 := Scalar.muli c8_i32_10 v68
  let v70 : BitVec 32 := Scalar.addi v66 v69
  let c23_i32 : BitVec 32 := 23#32
  let c17_i32 : BitVec 32 := 17#32
  let v71 : BitVec 1 := Scalar.cmpi .eq v2 c17_i32
  let v72 : BitVec 32 := Scalar.extui v71
  let v73 : BitVec 32 := Scalar.muli c23_i32 v72
  let v74 : BitVec 32 := Scalar.addi v70 v73
  let c22_i32 : BitVec 32 := 22#32
  let c18_i32 : BitVec 32 := 18#32
  let v75 : BitVec 1 := Scalar.cmpi .eq v2 c18_i32
  let v76 : BitVec 32 := Scalar.extui v75
  let v77 : BitVec 32 := Scalar.muli c22_i32 v76
  let v78 : BitVec 32 := Scalar.addi v74 v77
  let c9_i32_11 : BitVec 32 := 9#32
  let c19_i32 : BitVec 32 := 19#32
  let v79 : BitVec 1 := Scalar.cmpi .eq v2 c19_i32
  let v80 : BitVec 32 := Scalar.extui v79
  let v81 : BitVec 32 := Scalar.muli c9_i32_11 v80
  let v82 : BitVec 32 := Scalar.addi v78 v81
  let c10_i32_12 : BitVec 32 := 10#32
  let c20_i32 : BitVec 32 := 20#32
  let v83 : BitVec 1 := Scalar.cmpi .eq v2 c20_i32
  let v84 : BitVec 32 := Scalar.extui v83
  let v85 : BitVec 32 := Scalar.muli c10_i32_12 v84
  let v86 : BitVec 32 := Scalar.addi v82 v85
  let c21_i32_13 : BitVec 32 := 21#32
  let c21_i32 : BitVec 32 := 21#32
  let v87 : BitVec 1 := Scalar.cmpi .eq v2 c21_i32
  let v88 : BitVec 32 := Scalar.extui v87
  let v89 : BitVec 32 := Scalar.muli c21_i32_13 v88
  let v90 : BitVec 32 := Scalar.addi v86 v89
  let c20_i32_15 : BitVec 32 := 20#32
  let c22_i32_14 : BitVec 32 := 22#32
  let v91 : BitVec 1 := Scalar.cmpi .eq v2 c22_i32_14
  let v92 : BitVec 32 := Scalar.extui v91
  let v93 : BitVec 32 := Scalar.muli c20_i32_15 v92
  let v94 : BitVec 32 := Scalar.addi v90 v93
  let c11_i32_17 : BitVec 32 := 11#32
  let c23_i32_16 : BitVec 32 := 23#32
  let v95 : BitVec 1 := Scalar.cmpi .eq v2 c23_i32_16
  let v96 : BitVec 32 := Scalar.extui v95
  let v97 : BitVec 32 := Scalar.muli c11_i32_17 v96
  let v98 : BitVec 32 := Scalar.addi v94 v97
  let c15_i32_19 : BitVec 32 := 15#32
  let c24_i32_18 : BitVec 32 := 24#32
  let v99 : BitVec 1 := Scalar.cmpi .eq v2 c24_i32_18
  let v100 : BitVec 32 := Scalar.extui v99
  let v101 : BitVec 32 := Scalar.muli c15_i32_19 v100
  let v102 : BitVec 32 := Scalar.addi v98 v101
  let c16_i32_21 : BitVec 32 := 16#32
  let c25_i32_20 : BitVec 32 := 25#32
  let v103 : BitVec 1 := Scalar.cmpi .eq v2 c25_i32_20
  let v104 : BitVec 32 := Scalar.extui v103
  let v105 : BitVec 32 := Scalar.muli c16_i32_21 v104
  let v106 : BitVec 32 := Scalar.addi v102 v105
  let c17_i32_23 : BitVec 32 := 17#32
  let c26_i32_22 : BitVec 32 := 26#32
  let v107 : BitVec 1 := Scalar.cmpi .eq v2 c26_i32_22
  let v108 : BitVec 32 := Scalar.extui v107
  let v109 : BitVec 32 := Scalar.muli c17_i32_23 v108
  let v110 : BitVec 32 := Scalar.addi v106 v109
  let c14_i32_25 : BitVec 32 := 14#32
  let c27_i32_24 : BitVec 32 := 27#32
  let v111 : BitVec 1 := Scalar.cmpi .eq v2 c27_i32_24
  let v112 : BitVec 32 := Scalar.extui v111
  let v113 : BitVec 32 := Scalar.muli c14_i32_25 v112
  let v114 : BitVec 32 := Scalar.addi v110 v113
  let c13_i32_27 : BitVec 32 := 13#32
  let c28_i32_26 : BitVec 32 := 28#32
  let v115 : BitVec 1 := Scalar.cmpi .eq v2 c28_i32_26
  let v116 : BitVec 32 := Scalar.extui v115
  let v117 : BitVec 32 := Scalar.muli c13_i32_27 v116
  let v118 : BitVec 32 := Scalar.addi v114 v117
  let c18_i32_29 : BitVec 32 := 18#32
  let c29_i32_28 : BitVec 32 := 29#32
  let v119 : BitVec 1 := Scalar.cmpi .eq v2 c29_i32_28
  let v120 : BitVec 32 := Scalar.extui v119
  let v121 : BitVec 32 := Scalar.muli c18_i32_29 v120
  let v122 : BitVec 32 := Scalar.addi v118 v121
  let c19_i32_31 : BitVec 32 := 19#32
  let c30_i32_30 : BitVec 32 := 30#32
  let v123 : BitVec 1 := Scalar.cmpi .eq v2 c30_i32_30
  let v124 : BitVec 32 := Scalar.extui v123
  let v125 : BitVec 32 := Scalar.muli c19_i32_31 v124
  let v126 : BitVec 32 := Scalar.addi v122 v125
  let c12_i32_33 : BitVec 32 := 12#32
  let c31_i32_32 : BitVec 32 := 31#32
  let v127 : BitVec 1 := Scalar.cmpi .eq v2 c31_i32_32
  let v128 : BitVec 32 := Scalar.extui v127
  let v129 : BitVec 32 := Scalar.muli c12_i32_33 v128
  let v130 : BitVec 32 := Scalar.addi v126 v129
  let c1_i32_3011 : BitVec 32 := 1#32
  let v3379 : BitVec 32 := Scalar.subi v130 c1_i32_3011
  let c32_i32_3012 : BitVec 32 := 32#32
  let c0_i32_3013 : BitVec 32 := 0#32
  let v3380 : BitVec 1 := Scalar.cmpi .eq c32_i32_3012 c0_i32_3013
  let c1_i32_3014 : BitVec 32 := 1#32
  let v3381 : BitVec 32 := Scalar.select v3380 c1_i32_3014 c32_i32_3012
  let v3382 : BitVec 32 := Scalar.remsi v3379 v3381
  let c0_i32_3016 : BitVec 32 := 0#32
  let v3384 : BitVec 1 := Scalar.cmpi .slt v3382 c0_i32_3016
  let c0_i32_3017 : BitVec 32 := 0#32
  let v3385 : BitVec 1 := Scalar.cmpi .slt v3381 c0_i32_3017
  let v3386 : BitVec 1 := Scalar.xori v3384 v3385
  let c0_i32_3015 : BitVec 32 := 0#32
  let v3383 : BitVec 1 := Scalar.cmpi .ne v3382 c0_i32_3015
  let v3387 : BitVec 1 := Scalar.andi v3386 v3383
  let v3388 : BitVec 32 := Scalar.addi v3382 v3381
  let v3389 : BitVec 32 := Scalar.select v3387 v3388 v3382
  let c128_i32_3025 : BitVec 32 := 128#32
  let v3404 : BitVec 32 := Scalar.muli v3389 c128_i32_3025
  let v3405 : Index := Scalar.indexCast v3404
  let c1024_3026 : Index := 1024#32
  ![v3405.toNat, 1024]
def k0_off7 (d0 : Dev nD) (c0_i32_3031 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c31_i32 : BitVec 32 := 31#32
  let c1_i32_2 : BitVec 32 := 1#32
  let v7 : BitVec 1 := Scalar.cmpi .eq v2 c1_i32_2
  let v8 : BitVec 32 := Scalar.extui v7
  let v9 : BitVec 32 := Scalar.muli c31_i32 v8
  let v10 : BitVec 32 := Scalar.addi v6 v9
  let c30_i32 : BitVec 32 := 30#32
  let c2_i32 : BitVec 32 := 2#32
  let v11 : BitVec 1 := Scalar.cmpi .eq v2 c2_i32
  let v12 : BitVec 32 := Scalar.extui v11
  let v13 : BitVec 32 := Scalar.muli c30_i32 v12
  let v14 : BitVec 32 := Scalar.addi v10 v13
  let c1_i32_3 : BitVec 32 := 1#32
  let c3_i32 : BitVec 32 := 3#32
  let v15 : BitVec 1 := Scalar.cmpi .eq v2 c3_i32
  let v16 : BitVec 32 := Scalar.extui v15
  let v17 : BitVec 32 := Scalar.muli c1_i32_3 v16
  let v18 : BitVec 32 := Scalar.addi v14 v17
  let c2_i32_4 : BitVec 32 := 2#32
  let c4_i32 : BitVec 32 := 4#32
  let v19 : BitVec 1 := Scalar.cmpi .eq v2 c4_i32
  let v20 : BitVec 32 := Scalar.extui v19
  let v21 : BitVec 32 := Scalar.muli c2_i32_4 v20
  let v22 : BitVec 32 := Scalar.addi v18 v21
  let c29_i32 : BitVec 32 := 29#32
  let c5_i32 : BitVec 32 := 5#32
  let v23 : BitVec 1 := Scalar.cmpi .eq v2 c5_i32
  let v24 : BitVec 32 := Scalar.extui v23
  let v25 : BitVec 32 := Scalar.muli c29_i32 v24
  let v26 : BitVec 32 := Scalar.addi v22 v25
  let c28_i32 : BitVec 32 := 28#32
  let c6_i32 : BitVec 32 := 6#32
  let v27 : BitVec 1 := Scalar.cmpi .eq v2 c6_i32
  let v28 : BitVec 32 := Scalar.extui v27
  let v29 : BitVec 32 := Scalar.muli c28_i32 v28
  let v30 : BitVec 32 := Scalar.addi v26 v29
  let c3_i32_5 : BitVec 32 := 3#32
  let c7_i32 : BitVec 32 := 7#32
  let v31 : BitVec 1 := Scalar.cmpi .eq v2 c7_i32
  let v32 : BitVec 32 := Scalar.extui v31
  let v33 : BitVec 32 := Scalar.muli c3_i32_5 v32
  let v34 : BitVec 32 := Scalar.addi v30 v33
  let c7_i32_6 : BitVec 32 := 7#32
  let c8_i32 : BitVec 32 := 8#32
  let v35 : BitVec 1 := Scalar.cmpi .eq v2 c8_i32
  let v36 : BitVec 32 := Scalar.extui v35
  let v37 : BitVec 32 := Scalar.muli c7_i32_6 v36
  let v38 : BitVec 32 := Scalar.addi v34 v37
  let c24_i32 : BitVec 32 := 24#32
  let c9_i32 : BitVec 32 := 9#32
  let v39 : BitVec 1 := Scalar.cmpi .eq v2 c9_i32
  let v40 : BitVec 32 := Scalar.extui v39
  let v41 : BitVec 32 := Scalar.muli c24_i32 v40
  let v42 : BitVec 32 := Scalar.addi v38 v41
  let c25_i32 : BitVec 32 := 25#32
  let c10_i32 : BitVec 32 := 10#32
  let v43 : BitVec 1 := Scalar.cmpi .eq v2 c10_i32
  let v44 : BitVec 32 := Scalar.extui v43
  let v45 : BitVec 32 := Scalar.muli c25_i32 v44
  let v46 : BitVec 32 := Scalar.addi v42 v45
  let c6_i32_7 : BitVec 32 := 6#32
  let c11_i32 : BitVec 32 := 11#32
  let v47 : BitVec 1 := Scalar.cmpi .eq v2 c11_i32
  let v48 : BitVec 32 := Scalar.extui v47
  let v49 : BitVec 32 := Scalar.muli c6_i32_7 v48
  let v50 : BitVec 32 := Scalar.addi v46 v49
  let c5_i32_8 : BitVec 32 := 5#32
  let c12_i32 : BitVec 32 := 12#32
  let v51 : BitVec 1 := Scalar.cmpi .eq v2 c12_i32
  let v52 : BitVec 32 := Scalar.extui v51
  let v53 : BitVec 32 := Scalar.muli c5_i32_8 v52
  let v54 : BitVec 32 := Scalar.addi v50 v53
  let c26_i32 : BitVec 32 := 26#32
  let c13_i32 : BitVec 32 := 13#32
  let v55 : BitVec 1 := Scalar.cmpi .eq v2 c13_i32
  let v56 : BitVec 32 := Scalar.extui v55
  let v57 : BitVec 32 := Scalar.muli c26_i32 v56
  let v58 : BitVec 32 := Scalar.addi v54 v57
  let c27_i32 : BitVec 32 := 27#32
  let c14_i32 : BitVec 32 := 14#32
  let v59 : BitVec 1 := Scalar.cmpi .eq v2 c14_i32
  let v60 : BitVec 32 := Scalar.extui v59
  let v61 : BitVec 32 := Scalar.muli c27_i32 v60
  let v62 : BitVec 32 := Scalar.addi v58 v61
  let c4_i32_9 : BitVec 32 := 4#32
  let c15_i32 : BitVec 32 := 15#32
  let v63 : BitVec 1 := Scalar.cmpi .eq v2 c15_i32
  let v64 : BitVec 32 := Scalar.extui v63
  let v65 : BitVec 32 := Scalar.muli c4_i32_9 v64
  let v66 : BitVec 32 := Scalar.addi v62 v65
  let c8_i32_10 : BitVec 32 := 8#32
  let c16_i32 : BitVec 32 := 16#32
  let v67 : BitVec 1 := Scalar.cmpi .eq v2 c16_i32
  let v68 : BitVec 32 := Scalar.extui v67
  let v69 : BitVec 32 := Scalar.muli c8_i32_10 v68
  let v70 : BitVec 32 := Scalar.addi v66 v69
  let c23_i32 : BitVec 32 := 23#32
  let c17_i32 : BitVec 32 := 17#32
  let v71 : BitVec 1 := Scalar.cmpi .eq v2 c17_i32
  let v72 : BitVec 32 := Scalar.extui v71
  let v73 : BitVec 32 := Scalar.muli c23_i32 v72
  let v74 : BitVec 32 := Scalar.addi v70 v73
  let c22_i32 : BitVec 32 := 22#32
  let c18_i32 : BitVec 32 := 18#32
  let v75 : BitVec 1 := Scalar.cmpi .eq v2 c18_i32
  let v76 : BitVec 32 := Scalar.extui v75
  let v77 : BitVec 32 := Scalar.muli c22_i32 v76
  let v78 : BitVec 32 := Scalar.addi v74 v77
  let c9_i32_11 : BitVec 32 := 9#32
  let c19_i32 : BitVec 32 := 19#32
  let v79 : BitVec 1 := Scalar.cmpi .eq v2 c19_i32
  let v80 : BitVec 32 := Scalar.extui v79
  let v81 : BitVec 32 := Scalar.muli c9_i32_11 v80
  let v82 : BitVec 32 := Scalar.addi v78 v81
  let c10_i32_12 : BitVec 32 := 10#32
  let c20_i32 : BitVec 32 := 20#32
  let v83 : BitVec 1 := Scalar.cmpi .eq v2 c20_i32
  let v84 : BitVec 32 := Scalar.extui v83
  let v85 : BitVec 32 := Scalar.muli c10_i32_12 v84
  let v86 : BitVec 32 := Scalar.addi v82 v85
  let c21_i32_13 : BitVec 32 := 21#32
  let c21_i32 : BitVec 32 := 21#32
  let v87 : BitVec 1 := Scalar.cmpi .eq v2 c21_i32
  let v88 : BitVec 32 := Scalar.extui v87
  let v89 : BitVec 32 := Scalar.muli c21_i32_13 v88
  let v90 : BitVec 32 := Scalar.addi v86 v89
  let c20_i32_15 : BitVec 32 := 20#32
  let c22_i32_14 : BitVec 32 := 22#32
  let v91 : BitVec 1 := Scalar.cmpi .eq v2 c22_i32_14
  let v92 : BitVec 32 := Scalar.extui v91
  let v93 : BitVec 32 := Scalar.muli c20_i32_15 v92
  let v94 : BitVec 32 := Scalar.addi v90 v93
  let c11_i32_17 : BitVec 32 := 11#32
  let c23_i32_16 : BitVec 32 := 23#32
  let v95 : BitVec 1 := Scalar.cmpi .eq v2 c23_i32_16
  let v96 : BitVec 32 := Scalar.extui v95
  let v97 : BitVec 32 := Scalar.muli c11_i32_17 v96
  let v98 : BitVec 32 := Scalar.addi v94 v97
  let c15_i32_19 : BitVec 32 := 15#32
  let c24_i32_18 : BitVec 32 := 24#32
  let v99 : BitVec 1 := Scalar.cmpi .eq v2 c24_i32_18
  let v100 : BitVec 32 := Scalar.extui v99
  let v101 : BitVec 32 := Scalar.muli c15_i32_19 v100
  let v102 : BitVec 32 := Scalar.addi v98 v101
  let c16_i32_21 : BitVec 32 := 16#32
  let c25_i32_20 : BitVec 32 := 25#32
  let v103 : BitVec 1 := Scalar.cmpi .eq v2 c25_i32_20
  let v104 : BitVec 32 := Scalar.extui v103
  let v105 : BitVec 32 := Scalar.muli c16_i32_21 v104
  let v106 : BitVec 32 := Scalar.addi v102 v105
  let c17_i32_23 : BitVec 32 := 17#32
  let c26_i32_22 : BitVec 32 := 26#32
  let v107 : BitVec 1 := Scalar.cmpi .eq v2 c26_i32_22
  let v108 : BitVec 32 := Scalar.extui v107
  let v109 : BitVec 32 := Scalar.muli c17_i32_23 v108
  let v110 : BitVec 32 := Scalar.addi v106 v109
  let c14_i32_25 : BitVec 32 := 14#32
  let c27_i32_24 : BitVec 32 := 27#32
  let v111 : BitVec 1 := Scalar.cmpi .eq v2 c27_i32_24
  let v112 : BitVec 32 := Scalar.extui v111
  let v113 : BitVec 32 := Scalar.muli c14_i32_25 v112
  let v114 : BitVec 32 := Scalar.addi v110 v113
  let c13_i32_27 : BitVec 32 := 13#32
  let c28_i32_26 : BitVec 32 := 28#32
  let v115 : BitVec 1 := Scalar.cmpi .eq v2 c28_i32_26
  let v116 : BitVec 32 := Scalar.extui v115
  let v117 : BitVec 32 := Scalar.muli c13_i32_27 v116
  let v118 : BitVec 32 := Scalar.addi v114 v117
  let c18_i32_29 : BitVec 32 := 18#32
  let c29_i32_28 : BitVec 32 := 29#32
  let v119 : BitVec 1 := Scalar.cmpi .eq v2 c29_i32_28
  let v120 : BitVec 32 := Scalar.extui v119
  let v121 : BitVec 32 := Scalar.muli c18_i32_29 v120
  let v122 : BitVec 32 := Scalar.addi v118 v121
  let c19_i32_31 : BitVec 32 := 19#32
  let c30_i32_30 : BitVec 32 := 30#32
  let v123 : BitVec 1 := Scalar.cmpi .eq v2 c30_i32_30
  let v124 : BitVec 32 := Scalar.extui v123
  let v125 : BitVec 32 := Scalar.muli c19_i32_31 v124
  let v126 : BitVec 32 := Scalar.addi v122 v125
  let c12_i32_33 : BitVec 32 := 12#32
  let c31_i32_32 : BitVec 32 := 31#32
  let v127 : BitVec 1 := Scalar.cmpi .eq v2 c31_i32_32
  let v128 : BitVec 32 := Scalar.extui v127
  let v129 : BitVec 32 := Scalar.muli c12_i32_33 v128
  let v130 : BitVec 32 := Scalar.addi v126 v129
  let c1_i32_3030 : BitVec 32 := 1#32
  let v3415 : BitVec 32 := Scalar.addi v130 c1_i32_3030
  let v3416 : BitVec 32 := Scalar.subi v3415 c0_i32_3031
  let c32_i32_3032 : BitVec 32 := 32#32
  let c0_i32_3033 : BitVec 32 := 0#32
  let v3417 : BitVec 1 := Scalar.cmpi .eq c32_i32_3032 c0_i32_3033
  let c1_i32_3034 : BitVec 32 := 1#32
  let v3418 : BitVec 32 := Scalar.select v3417 c1_i32_3034 c32_i32_3032
  let v3419 : BitVec 32 := Scalar.remsi v3416 v3418
  let c0_i32_3036 : BitVec 32 := 0#32
  let v3421 : BitVec 1 := Scalar.cmpi .slt v3419 c0_i32_3036
  let c0_i32_3037 : BitVec 32 := 0#32
  let v3422 : BitVec 1 := Scalar.cmpi .slt v3418 c0_i32_3037
  let v3423 : BitVec 1 := Scalar.xori v3421 v3422
  let c0_i32_3035 : BitVec 32 := 0#32
  let v3420 : BitVec 1 := Scalar.cmpi .ne v3419 c0_i32_3035
  let v3424 : BitVec 1 := Scalar.andi v3423 v3420
  let v3425 : BitVec 32 := Scalar.addi v3419 v3418
  let v3426 : BitVec 32 := Scalar.select v3424 v3425 v3419
  let c128_i32_3038 : BitVec 32 := 128#32
  let v3427 : BitVec 32 := Scalar.muli v3426 c128_i32_3038
  let c0_i32_3052 : BitVec 32 := 0#32
  ![v3427.toNat, 0]
def k0_dev123 (d0 : Dev nD) : Nat :=
  let c0_i32_3051 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3050 : BitVec 32 := 1#32
  let v3441 : BitVec 32 := Scalar.muli v258 c1_i32_3050
  let v3442 : BitVec 32 := Scalar.addi c0_i32_3051 v3441
  v3442.toNat
def k0_off8 (d0 : Dev nD) (c0_i32_3040 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c31_i32 : BitVec 32 := 31#32
  let c1_i32_2 : BitVec 32 := 1#32
  let v7 : BitVec 1 := Scalar.cmpi .eq v2 c1_i32_2
  let v8 : BitVec 32 := Scalar.extui v7
  let v9 : BitVec 32 := Scalar.muli c31_i32 v8
  let v10 : BitVec 32 := Scalar.addi v6 v9
  let c30_i32 : BitVec 32 := 30#32
  let c2_i32 : BitVec 32 := 2#32
  let v11 : BitVec 1 := Scalar.cmpi .eq v2 c2_i32
  let v12 : BitVec 32 := Scalar.extui v11
  let v13 : BitVec 32 := Scalar.muli c30_i32 v12
  let v14 : BitVec 32 := Scalar.addi v10 v13
  let c1_i32_3 : BitVec 32 := 1#32
  let c3_i32 : BitVec 32 := 3#32
  let v15 : BitVec 1 := Scalar.cmpi .eq v2 c3_i32
  let v16 : BitVec 32 := Scalar.extui v15
  let v17 : BitVec 32 := Scalar.muli c1_i32_3 v16
  let v18 : BitVec 32 := Scalar.addi v14 v17
  let c2_i32_4 : BitVec 32 := 2#32
  let c4_i32 : BitVec 32 := 4#32
  let v19 : BitVec 1 := Scalar.cmpi .eq v2 c4_i32
  let v20 : BitVec 32 := Scalar.extui v19
  let v21 : BitVec 32 := Scalar.muli c2_i32_4 v20
  let v22 : BitVec 32 := Scalar.addi v18 v21
  let c29_i32 : BitVec 32 := 29#32
  let c5_i32 : BitVec 32 := 5#32
  let v23 : BitVec 1 := Scalar.cmpi .eq v2 c5_i32
  let v24 : BitVec 32 := Scalar.extui v23
  let v25 : BitVec 32 := Scalar.muli c29_i32 v24
  let v26 : BitVec 32 := Scalar.addi v22 v25
  let c28_i32 : BitVec 32 := 28#32
  let c6_i32 : BitVec 32 := 6#32
  let v27 : BitVec 1 := Scalar.cmpi .eq v2 c6_i32
  let v28 : BitVec 32 := Scalar.extui v27
  let v29 : BitVec 32 := Scalar.muli c28_i32 v28
  let v30 : BitVec 32 := Scalar.addi v26 v29
  let c3_i32_5 : BitVec 32 := 3#32
  let c7_i32 : BitVec 32 := 7#32
  let v31 : BitVec 1 := Scalar.cmpi .eq v2 c7_i32
  let v32 : BitVec 32 := Scalar.extui v31
  let v33 : BitVec 32 := Scalar.muli c3_i32_5 v32
  let v34 : BitVec 32 := Scalar.addi v30 v33
  let c7_i32_6 : BitVec 32 := 7#32
  let c8_i32 : BitVec 32 := 8#32
  let v35 : BitVec 1 := Scalar.cmpi .eq v2 c8_i32
  let v36 : BitVec 32 := Scalar.extui v35
  let v37 : BitVec 32 := Scalar.muli c7_i32_6 v36
  let v38 : BitVec 32 := Scalar.addi v34 v37
  let c24_i32 : BitVec 32 := 24#32
  let c9_i32 : BitVec 32 := 9#32
  let v39 : BitVec 1 := Scalar.cmpi .eq v2 c9_i32
  let v40 : BitVec 32 := Scalar.extui v39
  let v41 : BitVec 32 := Scalar.muli c24_i32 v40
  let v42 : BitVec 32 := Scalar.addi v38 v41
  let c25_i32 : BitVec 32 := 25#32
  let c10_i32 : BitVec 32 := 10#32
  let v43 : BitVec 1 := Scalar.cmpi .eq v2 c10_i32
  let v44 : BitVec 32 := Scalar.extui v43
  let v45 : BitVec 32 := Scalar.muli c25_i32 v44
  let v46 : BitVec 32 := Scalar.addi v42 v45
  let c6_i32_7 : BitVec 32 := 6#32
  let c11_i32 : BitVec 32 := 11#32
  let v47 : BitVec 1 := Scalar.cmpi .eq v2 c11_i32
  let v48 : BitVec 32 := Scalar.extui v47
  let v49 : BitVec 32 := Scalar.muli c6_i32_7 v48
  let v50 : BitVec 32 := Scalar.addi v46 v49
  let c5_i32_8 : BitVec 32 := 5#32
  let c12_i32 : BitVec 32 := 12#32
  let v51 : BitVec 1 := Scalar.cmpi .eq v2 c12_i32
  let v52 : BitVec 32 := Scalar.extui v51
  let v53 : BitVec 32 := Scalar.muli c5_i32_8 v52
  let v54 : BitVec 32 := Scalar.addi v50 v53
  let c26_i32 : BitVec 32 := 26#32
  let c13_i32 : BitVec 32 := 13#32
  let v55 : BitVec 1 := Scalar.cmpi .eq v2 c13_i32
  let v56 : BitVec 32 := Scalar.extui v55
  let v57 : BitVec 32 := Scalar.muli c26_i32 v56
  let v58 : BitVec 32 := Scalar.addi v54 v57
  let c27_i32 : BitVec 32 := 27#32
  let c14_i32 : BitVec 32 := 14#32
  let v59 : BitVec 1 := Scalar.cmpi .eq v2 c14_i32
  let v60 : BitVec 32 := Scalar.extui v59
  let v61 : BitVec 32 := Scalar.muli c27_i32 v60
  let v62 : BitVec 32 := Scalar.addi v58 v61
  let c4_i32_9 : BitVec 32 := 4#32
  let c15_i32 : BitVec 32 := 15#32
  let v63 : BitVec 1 := Scalar.cmpi .eq v2 c15_i32
  let v64 : BitVec 32 := Scalar.extui v63
  let v65 : BitVec 32 := Scalar.muli c4_i32_9 v64
  let v66 : BitVec 32 := Scalar.addi v62 v65
  let c8_i32_10 : BitVec 32 := 8#32
  let c16_i32 : BitVec 32 := 16#32
  let v67 : BitVec 1 := Scalar.cmpi .eq v2 c16_i32
  let v68 : BitVec 32 := Scalar.extui v67
  let v69 : BitVec 32 := Scalar.muli c8_i32_10 v68
  let v70 : BitVec 32 := Scalar.addi v66 v69
  let c23_i32 : BitVec 32 := 23#32
  let c17_i32 : BitVec 32 := 17#32
  let v71 : BitVec 1 := Scalar.cmpi .eq v2 c17_i32
  let v72 : BitVec 32 := Scalar.extui v71
  let v73 : BitVec 32 := Scalar.muli c23_i32 v72
  let v74 : BitVec 32 := Scalar.addi v70 v73
  let c22_i32 : BitVec 32 := 22#32
  let c18_i32 : BitVec 32 := 18#32
  let v75 : BitVec 1 := Scalar.cmpi .eq v2 c18_i32
  let v76 : BitVec 32 := Scalar.extui v75
  let v77 : BitVec 32 := Scalar.muli c22_i32 v76
  let v78 : BitVec 32 := Scalar.addi v74 v77
  let c9_i32_11 : BitVec 32 := 9#32
  let c19_i32 : BitVec 32 := 19#32
  let v79 : BitVec 1 := Scalar.cmpi .eq v2 c19_i32
  let v80 : BitVec 32 := Scalar.extui v79
  let v81 : BitVec 32 := Scalar.muli c9_i32_11 v80
  let v82 : BitVec 32 := Scalar.addi v78 v81
  let c10_i32_12 : BitVec 32 := 10#32
  let c20_i32 : BitVec 32 := 20#32
  let v83 : BitVec 1 := Scalar.cmpi .eq v2 c20_i32
  let v84 : BitVec 32 := Scalar.extui v83
  let v85 : BitVec 32 := Scalar.muli c10_i32_12 v84
  let v86 : BitVec 32 := Scalar.addi v82 v85
  let c21_i32_13 : BitVec 32 := 21#32
  let c21_i32 : BitVec 32 := 21#32
  let v87 : BitVec 1 := Scalar.cmpi .eq v2 c21_i32
  let v88 : BitVec 32 := Scalar.extui v87
  let v89 : BitVec 32 := Scalar.muli c21_i32_13 v88
  let v90 : BitVec 32 := Scalar.addi v86 v89
  let c20_i32_15 : BitVec 32 := 20#32
  let c22_i32_14 : BitVec 32 := 22#32
  let v91 : BitVec 1 := Scalar.cmpi .eq v2 c22_i32_14
  let v92 : BitVec 32 := Scalar.extui v91
  let v93 : BitVec 32 := Scalar.muli c20_i32_15 v92
  let v94 : BitVec 32 := Scalar.addi v90 v93
  let c11_i32_17 : BitVec 32 := 11#32
  let c23_i32_16 : BitVec 32 := 23#32
  let v95 : BitVec 1 := Scalar.cmpi .eq v2 c23_i32_16
  let v96 : BitVec 32 := Scalar.extui v95
  let v97 : BitVec 32 := Scalar.muli c11_i32_17 v96
  let v98 : BitVec 32 := Scalar.addi v94 v97
  let c15_i32_19 : BitVec 32 := 15#32
  let c24_i32_18 : BitVec 32 := 24#32
  let v99 : BitVec 1 := Scalar.cmpi .eq v2 c24_i32_18
  let v100 : BitVec 32 := Scalar.extui v99
  let v101 : BitVec 32 := Scalar.muli c15_i32_19 v100
  let v102 : BitVec 32 := Scalar.addi v98 v101
  let c16_i32_21 : BitVec 32 := 16#32
  let c25_i32_20 : BitVec 32 := 25#32
  let v103 : BitVec 1 := Scalar.cmpi .eq v2 c25_i32_20
  let v104 : BitVec 32 := Scalar.extui v103
  let v105 : BitVec 32 := Scalar.muli c16_i32_21 v104
  let v106 : BitVec 32 := Scalar.addi v102 v105
  let c17_i32_23 : BitVec 32 := 17#32
  let c26_i32_22 : BitVec 32 := 26#32
  let v107 : BitVec 1 := Scalar.cmpi .eq v2 c26_i32_22
  let v108 : BitVec 32 := Scalar.extui v107
  let v109 : BitVec 32 := Scalar.muli c17_i32_23 v108
  let v110 : BitVec 32 := Scalar.addi v106 v109
  let c14_i32_25 : BitVec 32 := 14#32
  let c27_i32_24 : BitVec 32 := 27#32
  let v111 : BitVec 1 := Scalar.cmpi .eq v2 c27_i32_24
  let v112 : BitVec 32 := Scalar.extui v111
  let v113 : BitVec 32 := Scalar.muli c14_i32_25 v112
  let v114 : BitVec 32 := Scalar.addi v110 v113
  let c13_i32_27 : BitVec 32 := 13#32
  let c28_i32_26 : BitVec 32 := 28#32
  let v115 : BitVec 1 := Scalar.cmpi .eq v2 c28_i32_26
  let v116 : BitVec 32 := Scalar.extui v115
  let v117 : BitVec 32 := Scalar.muli c13_i32_27 v116
  let v118 : BitVec 32 := Scalar.addi v114 v117
  let c18_i32_29 : BitVec 32 := 18#32
  let c29_i32_28 : BitVec 32 := 29#32
  let v119 : BitVec 1 := Scalar.cmpi .eq v2 c29_i32_28
  let v120 : BitVec 32 := Scalar.extui v119
  let v121 : BitVec 32 := Scalar.muli c18_i32_29 v120
  let v122 : BitVec 32 := Scalar.addi v118 v121
  let c19_i32_31 : BitVec 32 := 19#32
  let c30_i32_30 : BitVec 32 := 30#32
  let v123 : BitVec 1 := Scalar.cmpi .eq v2 c30_i32_30
  let v124 : BitVec 32 := Scalar.extui v123
  let v125 : BitVec 32 := Scalar.muli c19_i32_31 v124
  let v126 : BitVec 32 := Scalar.addi v122 v125
  let c12_i32_33 : BitVec 32 := 12#32
  let c31_i32_32 : BitVec 32 := 31#32
  let v127 : BitVec 1 := Scalar.cmpi .eq v2 c31_i32_32
  let v128 : BitVec 32 := Scalar.extui v127
  let v129 : BitVec 32 := Scalar.muli c12_i32_33 v128
  let v130 : BitVec 32 := Scalar.addi v126 v129
  let c1_i32_3039 : BitVec 32 := 1#32
  let v3428 : BitVec 32 := Scalar.subi v130 c1_i32_3039
  let v3429 : BitVec 32 := Scalar.addi v3428 c0_i32_3040
  let c32_i32_3041 : BitVec 32 := 32#32
  let c0_i32_3042 : BitVec 32 := 0#32
  let v3430 : BitVec 1 := Scalar.cmpi .eq c32_i32_3041 c0_i32_3042
  let c1_i32_3043 : BitVec 32 := 1#32
  let v3431 : BitVec 32 := Scalar.select v3430 c1_i32_3043 c32_i32_3041
  let v3432 : BitVec 32 := Scalar.remsi v3429 v3431
  let c0_i32_3045 : BitVec 32 := 0#32
  let v3434 : BitVec 1 := Scalar.cmpi .slt v3432 c0_i32_3045
  let c0_i32_3046 : BitVec 32 := 0#32
  let v3435 : BitVec 1 := Scalar.cmpi .slt v3431 c0_i32_3046
  let v3436 : BitVec 1 := Scalar.xori v3434 v3435
  let c0_i32_3044 : BitVec 32 := 0#32
  let v3433 : BitVec 1 := Scalar.cmpi .ne v3432 c0_i32_3044
  let v3437 : BitVec 1 := Scalar.andi v3436 v3433
  let v3438 : BitVec 32 := Scalar.addi v3432 v3431
  let v3439 : BitVec 32 := Scalar.select v3437 v3438 v3432
  let c128_i32_3047 : BitVec 32 := 128#32
  let v3440 : BitVec 32 := Scalar.muli v3439 c128_i32_3047
  let c1024_i32_3058 : BitVec 32 := 1024#32
  ![v3440.toNat, 1024]
def k0_dev124 (d0 : Dev nD) : Nat :=
  let c0_i32_3057 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3056 : BitVec 32 := 1#32
  let v3449 : BitVec 32 := Scalar.muli v386 c1_i32_3056
  let v3450 : BitVec 32 := Scalar.addi c0_i32_3057 v3449
  v3450.toNat
def k0_dev125 (d0 : Dev nD) : Nat :=
  let c0_i32_3068 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3067 : BitVec 32 := 1#32
  let v3463 : BitVec 32 := Scalar.muli v386 c1_i32_3067
  let v3464 : BitVec 32 := Scalar.addi c0_i32_3068 v3463
  v3464.toNat
def k0_dev126 (d0 : Dev nD) : Nat :=
  let c0_i32_3081 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3080 : BitVec 32 := 1#32
  let v3478 : BitVec 32 := Scalar.muli v258 c1_i32_3080
  let v3479 : BitVec 32 := Scalar.addi c0_i32_3081 v3478
  v3479.toNat
def k0_dev127 (d0 : Dev nD) : Nat :=
  let c0_i32_3092 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3091 : BitVec 32 := 1#32
  let v3492 : BitVec 32 := Scalar.muli v258 c1_i32_3091
  let v3493 : BitVec 32 := Scalar.addi c0_i32_3092 v3492
  v3493.toNat
def k0_dev128 (d0 : Dev nD) : Nat :=
  let c0_i32_3105 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3104 : BitVec 32 := 1#32
  let v3507 : BitVec 32 := Scalar.muli v386 c1_i32_3104
  let v3508 : BitVec 32 := Scalar.addi c0_i32_3105 v3507
  v3508.toNat
def k0_dev129 (d0 : Dev nD) : Nat :=
  let c0_i32_3116 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3115 : BitVec 32 := 1#32
  let v3521 : BitVec 32 := Scalar.muli v386 c1_i32_3115
  let v3522 : BitVec 32 := Scalar.addi c0_i32_3116 v3521
  v3522.toNat
def k0_dev130 (d0 : Dev nD) : Nat :=
  let c0_i32_3136 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3135 : BitVec 32 := 1#32
  let v3540 : BitVec 32 := Scalar.muli v258 c1_i32_3135
  let v3541 : BitVec 32 := Scalar.addi c0_i32_3136 v3540
  v3541.toNat
def k0_dev131 (d0 : Dev nD) : Nat :=
  let c0_i32_3147 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3146 : BitVec 32 := 1#32
  let v3554 : BitVec 32 := Scalar.muli v258 c1_i32_3146
  let v3555 : BitVec 32 := Scalar.addi c0_i32_3147 v3554
  v3555.toNat
def k0_dev132 (d0 : Dev nD) : Nat :=
  let c0_i32_3167 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3166 : BitVec 32 := 1#32
  let v3573 : BitVec 32 := Scalar.muli v386 c1_i32_3166
  let v3574 : BitVec 32 := Scalar.addi c0_i32_3167 v3573
  v3574.toNat
def k0_dev133 (d0 : Dev nD) : Nat :=
  let c0_i32_3178 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3177 : BitVec 32 := 1#32
  let v3587 : BitVec 32 := Scalar.muli v386 c1_i32_3177
  let v3588 : BitVec 32 := Scalar.addi c0_i32_3178 v3587
  v3588.toNat
def k0_dev134 (d0 : Dev nD) : Nat :=
  let c0_i32_3198 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3197 : BitVec 32 := 1#32
  let v3606 : BitVec 32 := Scalar.muli v258 c1_i32_3197
  let v3607 : BitVec 32 := Scalar.addi c0_i32_3198 v3606
  v3607.toNat
def k0_dev135 (d0 : Dev nD) : Nat :=
  let c0_i32_3209 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3208 : BitVec 32 := 1#32
  let v3620 : BitVec 32 := Scalar.muli v258 c1_i32_3208
  let v3621 : BitVec 32 := Scalar.addi c0_i32_3209 v3620
  v3621.toNat
def k0_dev136 (d0 : Dev nD) : Nat :=
  let c0_i32_3229 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3228 : BitVec 32 := 1#32
  let v3639 : BitVec 32 := Scalar.muli v386 c1_i32_3228
  let v3640 : BitVec 32 := Scalar.addi c0_i32_3229 v3639
  v3640.toNat
def k0_dev137 (d0 : Dev nD) : Nat :=
  let c0_i32_3240 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3239 : BitVec 32 := 1#32
  let v3653 : BitVec 32 := Scalar.muli v386 c1_i32_3239
  let v3654 : BitVec 32 := Scalar.addi c0_i32_3240 v3653
  v3654.toNat
def k0_dev138 (d0 : Dev nD) : Nat :=
  let c0_i32_3260 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3259 : BitVec 32 := 1#32
  let v3672 : BitVec 32 := Scalar.muli v258 c1_i32_3259
  let v3673 : BitVec 32 := Scalar.addi c0_i32_3260 v3672
  v3673.toNat
def k0_dev139 (d0 : Dev nD) : Nat :=
  let c0_i32_3271 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3270 : BitVec 32 := 1#32
  let v3686 : BitVec 32 := Scalar.muli v258 c1_i32_3270
  let v3687 : BitVec 32 := Scalar.addi c0_i32_3271 v3686
  v3687.toNat
def k0_dev140 (d0 : Dev nD) : Nat :=
  let c0_i32_3291 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3290 : BitVec 32 := 1#32
  let v3705 : BitVec 32 := Scalar.muli v386 c1_i32_3290
  let v3706 : BitVec 32 := Scalar.addi c0_i32_3291 v3705
  v3706.toNat
def k0_dev141 (d0 : Dev nD) : Nat :=
  let c0_i32_3302 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3301 : BitVec 32 := 1#32
  let v3719 : BitVec 32 := Scalar.muli v386 c1_i32_3301
  let v3720 : BitVec 32 := Scalar.addi c0_i32_3302 v3719
  v3720.toNat
def k0_dev142 (d0 : Dev nD) : Nat :=
  let c0_i32_3322 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3321 : BitVec 32 := 1#32
  let v3738 : BitVec 32 := Scalar.muli v258 c1_i32_3321
  let v3739 : BitVec 32 := Scalar.addi c0_i32_3322 v3738
  v3739.toNat
def k0_dev143 (d0 : Dev nD) : Nat :=
  let c0_i32_3333 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3332 : BitVec 32 := 1#32
  let v3752 : BitVec 32 := Scalar.muli v258 c1_i32_3332
  let v3753 : BitVec 32 := Scalar.addi c0_i32_3333 v3752
  v3753.toNat
def k0_dev144 (d0 : Dev nD) : Nat :=
  let c0_i32_3353 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3352 : BitVec 32 := 1#32
  let v3771 : BitVec 32 := Scalar.muli v386 c1_i32_3352
  let v3772 : BitVec 32 := Scalar.addi c0_i32_3353 v3771
  v3772.toNat
def k0_dev145 (d0 : Dev nD) : Nat :=
  let c0_i32_3364 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3363 : BitVec 32 := 1#32
  let v3785 : BitVec 32 := Scalar.muli v386 c1_i32_3363
  let v3786 : BitVec 32 := Scalar.addi c0_i32_3364 v3785
  v3786.toNat
def k0_dev146 (d0 : Dev nD) : Nat :=
  let c0_i32_3384 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3383 : BitVec 32 := 1#32
  let v3804 : BitVec 32 := Scalar.muli v258 c1_i32_3383
  let v3805 : BitVec 32 := Scalar.addi c0_i32_3384 v3804
  v3805.toNat
def k0_dev147 (d0 : Dev nD) : Nat :=
  let c0_i32_3395 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3394 : BitVec 32 := 1#32
  let v3818 : BitVec 32 := Scalar.muli v258 c1_i32_3394
  let v3819 : BitVec 32 := Scalar.addi c0_i32_3395 v3818
  v3819.toNat
def k0_dev148 (d0 : Dev nD) : Nat :=
  let c0_i32_3415 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3414 : BitVec 32 := 1#32
  let v3837 : BitVec 32 := Scalar.muli v386 c1_i32_3414
  let v3838 : BitVec 32 := Scalar.addi c0_i32_3415 v3837
  v3838.toNat
def k0_dev149 (d0 : Dev nD) : Nat :=
  let c0_i32_3426 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3425 : BitVec 32 := 1#32
  let v3851 : BitVec 32 := Scalar.muli v386 c1_i32_3425
  let v3852 : BitVec 32 := Scalar.addi c0_i32_3426 v3851
  v3852.toNat
def k0_dev150 (d0 : Dev nD) : Nat :=
  let c0_i32_3446 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3445 : BitVec 32 := 1#32
  let v3870 : BitVec 32 := Scalar.muli v258 c1_i32_3445
  let v3871 : BitVec 32 := Scalar.addi c0_i32_3446 v3870
  v3871.toNat
def k0_dev151 (d0 : Dev nD) : Nat :=
  let c0_i32_3457 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3456 : BitVec 32 := 1#32
  let v3884 : BitVec 32 := Scalar.muli v258 c1_i32_3456
  let v3885 : BitVec 32 := Scalar.addi c0_i32_3457 v3884
  v3885.toNat
def k0_dev152 (d0 : Dev nD) : Nat :=
  let c0_i32_3477 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3476 : BitVec 32 := 1#32
  let v3903 : BitVec 32 := Scalar.muli v386 c1_i32_3476
  let v3904 : BitVec 32 := Scalar.addi c0_i32_3477 v3903
  v3904.toNat
def k0_dev153 (d0 : Dev nD) : Nat :=
  let c0_i32_3488 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3487 : BitVec 32 := 1#32
  let v3917 : BitVec 32 := Scalar.muli v386 c1_i32_3487
  let v3918 : BitVec 32 := Scalar.addi c0_i32_3488 v3917
  v3918.toNat
def k0_dev154 (d0 : Dev nD) : Nat :=
  let c0_i32_3508 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3507 : BitVec 32 := 1#32
  let v3936 : BitVec 32 := Scalar.muli v258 c1_i32_3507
  let v3937 : BitVec 32 := Scalar.addi c0_i32_3508 v3936
  v3937.toNat
def k0_dev155 (d0 : Dev nD) : Nat :=
  let c0_i32_3519 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3518 : BitVec 32 := 1#32
  let v3950 : BitVec 32 := Scalar.muli v258 c1_i32_3518
  let v3951 : BitVec 32 := Scalar.addi c0_i32_3519 v3950
  v3951.toNat
def k0_dev156 (d0 : Dev nD) : Nat :=
  let c0_i32_3539 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3538 : BitVec 32 := 1#32
  let v3969 : BitVec 32 := Scalar.muli v386 c1_i32_3538
  let v3970 : BitVec 32 := Scalar.addi c0_i32_3539 v3969
  v3970.toNat
def k0_dev157 (d0 : Dev nD) : Nat :=
  let c0_i32_3550 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3549 : BitVec 32 := 1#32
  let v3983 : BitVec 32 := Scalar.muli v386 c1_i32_3549
  let v3984 : BitVec 32 := Scalar.addi c0_i32_3550 v3983
  v3984.toNat
def k0_dev158 (d0 : Dev nD) : Nat :=
  let c0_i32_3570 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3569 : BitVec 32 := 1#32
  let v4002 : BitVec 32 := Scalar.muli v258 c1_i32_3569
  let v4003 : BitVec 32 := Scalar.addi c0_i32_3570 v4002
  v4003.toNat
def k0_dev159 (d0 : Dev nD) : Nat :=
  let c0_i32_3581 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3580 : BitVec 32 := 1#32
  let v4016 : BitVec 32 := Scalar.muli v258 c1_i32_3580
  let v4017 : BitVec 32 := Scalar.addi c0_i32_3581 v4016
  v4017.toNat
def k0_dev160 (d0 : Dev nD) : Nat :=
  let c0_i32_3601 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3600 : BitVec 32 := 1#32
  let v4035 : BitVec 32 := Scalar.muli v386 c1_i32_3600
  let v4036 : BitVec 32 := Scalar.addi c0_i32_3601 v4035
  v4036.toNat
def k0_dev161 (d0 : Dev nD) : Nat :=
  let c0_i32_3612 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3611 : BitVec 32 := 1#32
  let v4049 : BitVec 32 := Scalar.muli v386 c1_i32_3611
  let v4050 : BitVec 32 := Scalar.addi c0_i32_3612 v4049
  v4050.toNat
def k0_dev162 (d0 : Dev nD) : Nat :=
  let c0_i32_3632 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3631 : BitVec 32 := 1#32
  let v4068 : BitVec 32 := Scalar.muli v258 c1_i32_3631
  let v4069 : BitVec 32 := Scalar.addi c0_i32_3632 v4068
  v4069.toNat
def k0_dev163 (d0 : Dev nD) : Nat :=
  let c0_i32_3643 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3642 : BitVec 32 := 1#32
  let v4082 : BitVec 32 := Scalar.muli v258 c1_i32_3642
  let v4083 : BitVec 32 := Scalar.addi c0_i32_3643 v4082
  v4083.toNat
def k0_dev164 (d0 : Dev nD) : Nat :=
  let c0_i32_3663 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3662 : BitVec 32 := 1#32
  let v4101 : BitVec 32 := Scalar.muli v386 c1_i32_3662
  let v4102 : BitVec 32 := Scalar.addi c0_i32_3663 v4101
  v4102.toNat
def k0_dev165 (d0 : Dev nD) : Nat :=
  let c0_i32_3674 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3673 : BitVec 32 := 1#32
  let v4115 : BitVec 32 := Scalar.muli v386 c1_i32_3673
  let v4116 : BitVec 32 := Scalar.addi c0_i32_3674 v4115
  v4116.toNat
def k0_dev166 (d0 : Dev nD) : Nat :=
  let c0_i32_3694 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3693 : BitVec 32 := 1#32
  let v4134 : BitVec 32 := Scalar.muli v258 c1_i32_3693
  let v4135 : BitVec 32 := Scalar.addi c0_i32_3694 v4134
  v4135.toNat
def k0_dev167 (d0 : Dev nD) : Nat :=
  let c0_i32_3705 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3704 : BitVec 32 := 1#32
  let v4148 : BitVec 32 := Scalar.muli v258 c1_i32_3704
  let v4149 : BitVec 32 := Scalar.addi c0_i32_3705 v4148
  v4149.toNat
def k0_dev168 (d0 : Dev nD) : Nat :=
  let c0_i32_3725 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3724 : BitVec 32 := 1#32
  let v4167 : BitVec 32 := Scalar.muli v386 c1_i32_3724
  let v4168 : BitVec 32 := Scalar.addi c0_i32_3725 v4167
  v4168.toNat
def k0_dev169 (d0 : Dev nD) : Nat :=
  let c0_i32_3736 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3735 : BitVec 32 := 1#32
  let v4181 : BitVec 32 := Scalar.muli v386 c1_i32_3735
  let v4182 : BitVec 32 := Scalar.addi c0_i32_3736 v4181
  v4182.toNat
def k0_dev170 (d0 : Dev nD) : Nat :=
  let c0_i32_3756 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3755 : BitVec 32 := 1#32
  let v4200 : BitVec 32 := Scalar.muli v258 c1_i32_3755
  let v4201 : BitVec 32 := Scalar.addi c0_i32_3756 v4200
  v4201.toNat
def k0_dev171 (d0 : Dev nD) : Nat :=
  let c0_i32_3767 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3766 : BitVec 32 := 1#32
  let v4214 : BitVec 32 := Scalar.muli v258 c1_i32_3766
  let v4215 : BitVec 32 := Scalar.addi c0_i32_3767 v4214
  v4215.toNat
def k0_dev172 (d0 : Dev nD) : Nat :=
  let c0_i32_3787 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3786 : BitVec 32 := 1#32
  let v4233 : BitVec 32 := Scalar.muli v386 c1_i32_3786
  let v4234 : BitVec 32 := Scalar.addi c0_i32_3787 v4233
  v4234.toNat
def k0_dev173 (d0 : Dev nD) : Nat :=
  let c0_i32_3798 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3797 : BitVec 32 := 1#32
  let v4247 : BitVec 32 := Scalar.muli v386 c1_i32_3797
  let v4248 : BitVec 32 := Scalar.addi c0_i32_3798 v4247
  v4248.toNat
def k0_dev174 (d0 : Dev nD) : Nat :=
  let c0_i32_3818 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3817 : BitVec 32 := 1#32
  let v4266 : BitVec 32 := Scalar.muli v258 c1_i32_3817
  let v4267 : BitVec 32 := Scalar.addi c0_i32_3818 v4266
  v4267.toNat
def k0_dev175 (d0 : Dev nD) : Nat :=
  let c0_i32_3829 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3828 : BitVec 32 := 1#32
  let v4280 : BitVec 32 := Scalar.muli v258 c1_i32_3828
  let v4281 : BitVec 32 := Scalar.addi c0_i32_3829 v4280
  v4281.toNat
def k0_dev176 (d0 : Dev nD) : Nat :=
  let c0_i32_3849 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3848 : BitVec 32 := 1#32
  let v4299 : BitVec 32 := Scalar.muli v386 c1_i32_3848
  let v4300 : BitVec 32 := Scalar.addi c0_i32_3849 v4299
  v4300.toNat
def k0_dev177 (d0 : Dev nD) : Nat :=
  let c0_i32_3860 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3859 : BitVec 32 := 1#32
  let v4313 : BitVec 32 := Scalar.muli v386 c1_i32_3859
  let v4314 : BitVec 32 := Scalar.addi c0_i32_3860 v4313
  v4314.toNat
def k0_dev178 (d0 : Dev nD) : Nat :=
  let c0_i32_3880 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3879 : BitVec 32 := 1#32
  let v4332 : BitVec 32 := Scalar.muli v258 c1_i32_3879
  let v4333 : BitVec 32 := Scalar.addi c0_i32_3880 v4332
  v4333.toNat
def k0_dev179 (d0 : Dev nD) : Nat :=
  let c0_i32_3891 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3890 : BitVec 32 := 1#32
  let v4346 : BitVec 32 := Scalar.muli v258 c1_i32_3890
  let v4347 : BitVec 32 := Scalar.addi c0_i32_3891 v4346
  v4347.toNat
def k0_dev180 (d0 : Dev nD) : Nat :=
  let c0_i32_3911 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3910 : BitVec 32 := 1#32
  let v4365 : BitVec 32 := Scalar.muli v386 c1_i32_3910
  let v4366 : BitVec 32 := Scalar.addi c0_i32_3911 v4365
  v4366.toNat
def k0_dev181 (d0 : Dev nD) : Nat :=
  let c0_i32_3922 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3921 : BitVec 32 := 1#32
  let v4379 : BitVec 32 := Scalar.muli v386 c1_i32_3921
  let v4380 : BitVec 32 := Scalar.addi c0_i32_3922 v4379
  v4380.toNat
def k0_dev182 (d0 : Dev nD) : Nat :=
  let c0_i32_3942 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3941 : BitVec 32 := 1#32
  let v4398 : BitVec 32 := Scalar.muli v258 c1_i32_3941
  let v4399 : BitVec 32 := Scalar.addi c0_i32_3942 v4398
  v4399.toNat
def k0_dev183 (d0 : Dev nD) : Nat :=
  let c0_i32_3953 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_3952 : BitVec 32 := 1#32
  let v4412 : BitVec 32 := Scalar.muli v258 c1_i32_3952
  let v4413 : BitVec 32 := Scalar.addi c0_i32_3953 v4412
  v4413.toNat
def k0_dev184 (d0 : Dev nD) : Nat :=
  let c0_i32_3973 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3972 : BitVec 32 := 1#32
  let v4431 : BitVec 32 := Scalar.muli v386 c1_i32_3972
  let v4432 : BitVec 32 := Scalar.addi c0_i32_3973 v4431
  v4432.toNat
def k0_dev185 (d0 : Dev nD) : Nat :=
  let c0_i32_3984 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_3983 : BitVec 32 := 1#32
  let v4445 : BitVec 32 := Scalar.muli v386 c1_i32_3983
  let v4446 : BitVec 32 := Scalar.addi c0_i32_3984 v4445
  v4446.toNat
def k0_dev186 (d0 : Dev nD) : Nat :=
  let c0_i32_4004 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4003 : BitVec 32 := 1#32
  let v4464 : BitVec 32 := Scalar.muli v258 c1_i32_4003
  let v4465 : BitVec 32 := Scalar.addi c0_i32_4004 v4464
  v4465.toNat
def k0_dev187 (d0 : Dev nD) : Nat :=
  let c0_i32_4015 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4014 : BitVec 32 := 1#32
  let v4478 : BitVec 32 := Scalar.muli v258 c1_i32_4014
  let v4479 : BitVec 32 := Scalar.addi c0_i32_4015 v4478
  v4479.toNat
def k0_dev188 (d0 : Dev nD) : Nat :=
  let c0_i32_4035 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4034 : BitVec 32 := 1#32
  let v4497 : BitVec 32 := Scalar.muli v386 c1_i32_4034
  let v4498 : BitVec 32 := Scalar.addi c0_i32_4035 v4497
  v4498.toNat
def k0_dev189 (d0 : Dev nD) : Nat :=
  let c0_i32_4046 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4045 : BitVec 32 := 1#32
  let v4511 : BitVec 32 := Scalar.muli v386 c1_i32_4045
  let v4512 : BitVec 32 := Scalar.addi c0_i32_4046 v4511
  v4512.toNat
def k0_dev190 (d0 : Dev nD) : Nat :=
  let c0_i32_4066 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4065 : BitVec 32 := 1#32
  let v4530 : BitVec 32 := Scalar.muli v258 c1_i32_4065
  let v4531 : BitVec 32 := Scalar.addi c0_i32_4066 v4530
  v4531.toNat
def k0_dev191 (d0 : Dev nD) : Nat :=
  let c0_i32_4077 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4076 : BitVec 32 := 1#32
  let v4544 : BitVec 32 := Scalar.muli v258 c1_i32_4076
  let v4545 : BitVec 32 := Scalar.addi c0_i32_4077 v4544
  v4545.toNat
def k0_dev192 (d0 : Dev nD) : Nat :=
  let c0_i32_4097 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4096 : BitVec 32 := 1#32
  let v4563 : BitVec 32 := Scalar.muli v386 c1_i32_4096
  let v4564 : BitVec 32 := Scalar.addi c0_i32_4097 v4563
  v4564.toNat
def k0_dev193 (d0 : Dev nD) : Nat :=
  let c0_i32_4108 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4107 : BitVec 32 := 1#32
  let v4577 : BitVec 32 := Scalar.muli v386 c1_i32_4107
  let v4578 : BitVec 32 := Scalar.addi c0_i32_4108 v4577
  v4578.toNat
def k0_dev194 (d0 : Dev nD) : Nat :=
  let c0_i32_4128 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4127 : BitVec 32 := 1#32
  let v4596 : BitVec 32 := Scalar.muli v258 c1_i32_4127
  let v4597 : BitVec 32 := Scalar.addi c0_i32_4128 v4596
  v4597.toNat
def k0_dev195 (d0 : Dev nD) : Nat :=
  let c0_i32_4139 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4138 : BitVec 32 := 1#32
  let v4610 : BitVec 32 := Scalar.muli v258 c1_i32_4138
  let v4611 : BitVec 32 := Scalar.addi c0_i32_4139 v4610
  v4611.toNat
def k0_dev196 (d0 : Dev nD) : Nat :=
  let c0_i32_4159 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4158 : BitVec 32 := 1#32
  let v4629 : BitVec 32 := Scalar.muli v386 c1_i32_4158
  let v4630 : BitVec 32 := Scalar.addi c0_i32_4159 v4629
  v4630.toNat
def k0_dev197 (d0 : Dev nD) : Nat :=
  let c0_i32_4170 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4169 : BitVec 32 := 1#32
  let v4643 : BitVec 32 := Scalar.muli v386 c1_i32_4169
  let v4644 : BitVec 32 := Scalar.addi c0_i32_4170 v4643
  v4644.toNat
def k0_dev198 (d0 : Dev nD) : Nat :=
  let c0_i32_4190 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4189 : BitVec 32 := 1#32
  let v4662 : BitVec 32 := Scalar.muli v258 c1_i32_4189
  let v4663 : BitVec 32 := Scalar.addi c0_i32_4190 v4662
  v4663.toNat
def k0_dev199 (d0 : Dev nD) : Nat :=
  let c0_i32_4201 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4200 : BitVec 32 := 1#32
  let v4676 : BitVec 32 := Scalar.muli v258 c1_i32_4200
  let v4677 : BitVec 32 := Scalar.addi c0_i32_4201 v4676
  v4677.toNat
def k0_dev200 (d0 : Dev nD) : Nat :=
  let c0_i32_4221 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4220 : BitVec 32 := 1#32
  let v4695 : BitVec 32 := Scalar.muli v386 c1_i32_4220
  let v4696 : BitVec 32 := Scalar.addi c0_i32_4221 v4695
  v4696.toNat
def k0_dev201 (d0 : Dev nD) : Nat :=
  let c0_i32_4232 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4231 : BitVec 32 := 1#32
  let v4709 : BitVec 32 := Scalar.muli v386 c1_i32_4231
  let v4710 : BitVec 32 := Scalar.addi c0_i32_4232 v4709
  v4710.toNat

variable {F : FTy → Type} [FloatOps F]

def k0_dev202 (d0 : Dev nD) : Nat :=
  let c0_i32_4252 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4251 : BitVec 32 := 1#32
  let v4728 : BitVec 32 := Scalar.muli v258 c1_i32_4251
  let v4729 : BitVec 32 := Scalar.addi c0_i32_4252 v4728
  v4729.toNat
def k0_dev203 (d0 : Dev nD) : Nat :=
  let c0_i32_4263 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4262 : BitVec 32 := 1#32
  let v4742 : BitVec 32 := Scalar.muli v258 c1_i32_4262
  let v4743 : BitVec 32 := Scalar.addi c0_i32_4263 v4742
  v4743.toNat
def k0_dev204 (d0 : Dev nD) : Nat :=
  let c0_i32_4283 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4282 : BitVec 32 := 1#32
  let v4761 : BitVec 32 := Scalar.muli v386 c1_i32_4282
  let v4762 : BitVec 32 := Scalar.addi c0_i32_4283 v4761
  v4762.toNat
def k0_dev205 (d0 : Dev nD) : Nat :=
  let c0_i32_4294 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4293 : BitVec 32 := 1#32
  let v4775 : BitVec 32 := Scalar.muli v386 c1_i32_4293
  let v4776 : BitVec 32 := Scalar.addi c0_i32_4294 v4775
  v4776.toNat
def k0_dev206 (d0 : Dev nD) : Nat :=
  let c0_i32_4314 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4313 : BitVec 32 := 1#32
  let v4794 : BitVec 32 := Scalar.muli v258 c1_i32_4313
  let v4795 : BitVec 32 := Scalar.addi c0_i32_4314 v4794
  v4795.toNat
def k0_dev207 (d0 : Dev nD) : Nat :=
  let c0_i32_4325 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4324 : BitVec 32 := 1#32
  let v4808 : BitVec 32 := Scalar.muli v258 c1_i32_4324
  let v4809 : BitVec 32 := Scalar.addi c0_i32_4325 v4808
  v4809.toNat
def k0_dev208 (d0 : Dev nD) : Nat :=
  let c0_i32_4345 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4344 : BitVec 32 := 1#32
  let v4827 : BitVec 32 := Scalar.muli v386 c1_i32_4344
  let v4828 : BitVec 32 := Scalar.addi c0_i32_4345 v4827
  v4828.toNat
def k0_dev209 (d0 : Dev nD) : Nat :=
  let c0_i32_4356 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4355 : BitVec 32 := 1#32
  let v4841 : BitVec 32 := Scalar.muli v386 c1_i32_4355
  let v4842 : BitVec 32 := Scalar.addi c0_i32_4356 v4841
  v4842.toNat
def k0_dev210 (d0 : Dev nD) : Nat :=
  let c0_i32_4376 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4375 : BitVec 32 := 1#32
  let v4860 : BitVec 32 := Scalar.muli v258 c1_i32_4375
  let v4861 : BitVec 32 := Scalar.addi c0_i32_4376 v4860
  v4861.toNat
def k0_dev211 (d0 : Dev nD) : Nat :=
  let c0_i32_4387 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4386 : BitVec 32 := 1#32
  let v4874 : BitVec 32 := Scalar.muli v258 c1_i32_4386
  let v4875 : BitVec 32 := Scalar.addi c0_i32_4387 v4874
  v4875.toNat
def k0_dev212 (d0 : Dev nD) : Nat :=
  let c0_i32_4407 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4406 : BitVec 32 := 1#32
  let v4893 : BitVec 32 := Scalar.muli v386 c1_i32_4406
  let v4894 : BitVec 32 := Scalar.addi c0_i32_4407 v4893
  v4894.toNat
def k0_dev213 (d0 : Dev nD) : Nat :=
  let c0_i32_4418 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4417 : BitVec 32 := 1#32
  let v4907 : BitVec 32 := Scalar.muli v386 c1_i32_4417
  let v4908 : BitVec 32 := Scalar.addi c0_i32_4418 v4907
  v4908.toNat
def k0_dev214 (d0 : Dev nD) : Nat :=
  let c0_i32_4438 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4437 : BitVec 32 := 1#32
  let v4926 : BitVec 32 := Scalar.muli v258 c1_i32_4437
  let v4927 : BitVec 32 := Scalar.addi c0_i32_4438 v4926
  v4927.toNat
def k0_dev215 (d0 : Dev nD) : Nat :=
  let c0_i32_4449 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4448 : BitVec 32 := 1#32
  let v4940 : BitVec 32 := Scalar.muli v258 c1_i32_4448
  let v4941 : BitVec 32 := Scalar.addi c0_i32_4449 v4940
  v4941.toNat
def k0_dev216 (d0 : Dev nD) : Nat :=
  let c0_i32_4469 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4468 : BitVec 32 := 1#32
  let v4959 : BitVec 32 := Scalar.muli v386 c1_i32_4468
  let v4960 : BitVec 32 := Scalar.addi c0_i32_4469 v4959
  v4960.toNat
def k0_dev217 (d0 : Dev nD) : Nat :=
  let c0_i32_4480 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4479 : BitVec 32 := 1#32
  let v4973 : BitVec 32 := Scalar.muli v386 c1_i32_4479
  let v4974 : BitVec 32 := Scalar.addi c0_i32_4480 v4973
  v4974.toNat
def k0_dev218 (d0 : Dev nD) : Nat :=
  let c0_i32_4500 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4499 : BitVec 32 := 1#32
  let v4992 : BitVec 32 := Scalar.muli v258 c1_i32_4499
  let v4993 : BitVec 32 := Scalar.addi c0_i32_4500 v4992
  v4993.toNat
def k0_dev219 (d0 : Dev nD) : Nat :=
  let c0_i32_4511 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4510 : BitVec 32 := 1#32
  let v5006 : BitVec 32 := Scalar.muli v258 c1_i32_4510
  let v5007 : BitVec 32 := Scalar.addi c0_i32_4511 v5006
  v5007.toNat
def k0_dev220 (d0 : Dev nD) : Nat :=
  let c0_i32_4531 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4530 : BitVec 32 := 1#32
  let v5025 : BitVec 32 := Scalar.muli v386 c1_i32_4530
  let v5026 : BitVec 32 := Scalar.addi c0_i32_4531 v5025
  v5026.toNat
def k0_dev221 (d0 : Dev nD) : Nat :=
  let c0_i32_4542 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4541 : BitVec 32 := 1#32
  let v5039 : BitVec 32 := Scalar.muli v386 c1_i32_4541
  let v5040 : BitVec 32 := Scalar.addi c0_i32_4542 v5039
  v5040.toNat
def k0_dev222 (d0 : Dev nD) : Nat :=
  let c0_i32_4562 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4561 : BitVec 32 := 1#32
  let v5058 : BitVec 32 := Scalar.muli v258 c1_i32_4561
  let v5059 : BitVec 32 := Scalar.addi c0_i32_4562 v5058
  v5059.toNat
def k0_dev223 (d0 : Dev nD) : Nat :=
  let c0_i32_4573 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4572 : BitVec 32 := 1#32
  let v5072 : BitVec 32 := Scalar.muli v258 c1_i32_4572
  let v5073 : BitVec 32 := Scalar.addi c0_i32_4573 v5072
  v5073.toNat
def k0_dev224 (d0 : Dev nD) : Nat :=
  let c0_i32_4593 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4592 : BitVec 32 := 1#32
  let v5091 : BitVec 32 := Scalar.muli v386 c1_i32_4592
  let v5092 : BitVec 32 := Scalar.addi c0_i32_4593 v5091
  v5092.toNat
def k0_dev225 (d0 : Dev nD) : Nat :=
  let c0_i32_4604 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4603 : BitVec 32 := 1#32
  let v5105 : BitVec 32 := Scalar.muli v386 c1_i32_4603
  let v5106 : BitVec 32 := Scalar.addi c0_i32_4604 v5105
  v5106.toNat
def k0_dev226 (d0 : Dev nD) : Nat :=
  let c0_i32_4624 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4623 : BitVec 32 := 1#32
  let v5124 : BitVec 32 := Scalar.muli v258 c1_i32_4623
  let v5125 : BitVec 32 := Scalar.addi c0_i32_4624 v5124
  v5125.toNat
def k0_dev227 (d0 : Dev nD) : Nat :=
  let c0_i32_4635 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4634 : BitVec 32 := 1#32
  let v5138 : BitVec 32 := Scalar.muli v258 c1_i32_4634
  let v5139 : BitVec 32 := Scalar.addi c0_i32_4635 v5138
  v5139.toNat
def k0_dev228 (d0 : Dev nD) : Nat :=
  let c0_i32_4655 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4654 : BitVec 32 := 1#32
  let v5157 : BitVec 32 := Scalar.muli v386 c1_i32_4654
  let v5158 : BitVec 32 := Scalar.addi c0_i32_4655 v5157
  v5158.toNat
def k0_dev229 (d0 : Dev nD) : Nat :=
  let c0_i32_4666 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4665 : BitVec 32 := 1#32
  let v5171 : BitVec 32 := Scalar.muli v386 c1_i32_4665
  let v5172 : BitVec 32 := Scalar.addi c0_i32_4666 v5171
  v5172.toNat
def k0_dev230 (d0 : Dev nD) : Nat :=
  let c0_i32_4686 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4685 : BitVec 32 := 1#32
  let v5190 : BitVec 32 := Scalar.muli v258 c1_i32_4685
  let v5191 : BitVec 32 := Scalar.addi c0_i32_4686 v5190
  v5191.toNat
def k0_dev231 (d0 : Dev nD) : Nat :=
  let c0_i32_4697 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4696 : BitVec 32 := 1#32
  let v5204 : BitVec 32 := Scalar.muli v258 c1_i32_4696
  let v5205 : BitVec 32 := Scalar.addi c0_i32_4697 v5204
  v5205.toNat
def k0_dev232 (d0 : Dev nD) : Nat :=
  let c0_i32_4717 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4716 : BitVec 32 := 1#32
  let v5223 : BitVec 32 := Scalar.muli v386 c1_i32_4716
  let v5224 : BitVec 32 := Scalar.addi c0_i32_4717 v5223
  v5224.toNat
def k0_dev233 (d0 : Dev nD) : Nat :=
  let c0_i32_4728 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4727 : BitVec 32 := 1#32
  let v5237 : BitVec 32 := Scalar.muli v386 c1_i32_4727
  let v5238 : BitVec 32 := Scalar.addi c0_i32_4728 v5237
  v5238.toNat
def k0_dev234 (d0 : Dev nD) : Nat :=
  let c0_i32_4748 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4747 : BitVec 32 := 1#32
  let v5256 : BitVec 32 := Scalar.muli v258 c1_i32_4747
  let v5257 : BitVec 32 := Scalar.addi c0_i32_4748 v5256
  v5257.toNat
def k0_dev235 (d0 : Dev nD) : Nat :=
  let c0_i32_4759 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4758 : BitVec 32 := 1#32
  let v5270 : BitVec 32 := Scalar.muli v258 c1_i32_4758
  let v5271 : BitVec 32 := Scalar.addi c0_i32_4759 v5270
  v5271.toNat
def k0_dev236 (d0 : Dev nD) : Nat :=
  let c0_i32_4779 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4778 : BitVec 32 := 1#32
  let v5289 : BitVec 32 := Scalar.muli v386 c1_i32_4778
  let v5290 : BitVec 32 := Scalar.addi c0_i32_4779 v5289
  v5290.toNat
def k0_dev237 (d0 : Dev nD) : Nat :=
  let c0_i32_4790 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4789 : BitVec 32 := 1#32
  let v5303 : BitVec 32 := Scalar.muli v386 c1_i32_4789
  let v5304 : BitVec 32 := Scalar.addi c0_i32_4790 v5303
  v5304.toNat
def k0_dev238 (d0 : Dev nD) : Nat :=
  let c0_i32_4810 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4809 : BitVec 32 := 1#32
  let v5322 : BitVec 32 := Scalar.muli v258 c1_i32_4809
  let v5323 : BitVec 32 := Scalar.addi c0_i32_4810 v5322
  v5323.toNat
def k0_dev239 (d0 : Dev nD) : Nat :=
  let c0_i32_4821 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4820 : BitVec 32 := 1#32
  let v5336 : BitVec 32 := Scalar.muli v258 c1_i32_4820
  let v5337 : BitVec 32 := Scalar.addi c0_i32_4821 v5336
  v5337.toNat
def k0_dev240 (d0 : Dev nD) : Nat :=
  let c0_i32_4841 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4840 : BitVec 32 := 1#32
  let v5355 : BitVec 32 := Scalar.muli v386 c1_i32_4840
  let v5356 : BitVec 32 := Scalar.addi c0_i32_4841 v5355
  v5356.toNat
def k0_dev241 (d0 : Dev nD) : Nat :=
  let c0_i32_4869 : BitVec 32 := 0#32
  let c0_i32_36 : BitVec 32 := 0#32
  let c3_i32_35 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v131 : BitVec 1 := Scalar.cmpi .eq v2 c0_i32_34
  let v132 : BitVec 32 := Scalar.extui v131
  let v133 : BitVec 32 := Scalar.muli c3_i32_35 v132
  let v134 : BitVec 32 := Scalar.addi c0_i32_36 v133
  let c0_i32_38 : BitVec 32 := 0#32
  let c1_i32_37 : BitVec 32 := 1#32
  let v135 : BitVec 1 := Scalar.cmpi .eq v2 c1_i32_37
  let v136 : BitVec 32 := Scalar.extui v135
  let v137 : BitVec 32 := Scalar.muli c0_i32_38 v136
  let v138 : BitVec 32 := Scalar.addi v134 v137
  let c1_i32_40 : BitVec 32 := 1#32
  let c2_i32_39 : BitVec 32 := 2#32
  let v139 : BitVec 1 := Scalar.cmpi .eq v2 c2_i32_39
  let v140 : BitVec 32 := Scalar.extui v139
  let v141 : BitVec 32 := Scalar.muli c1_i32_40 v140
  let v142 : BitVec 32 := Scalar.addi v138 v141
  let c4_i32_42 : BitVec 32 := 4#32
  let c3_i32_41 : BitVec 32 := 3#32
  let v143 : BitVec 1 := Scalar.cmpi .eq v2 c3_i32_41
  let v144 : BitVec 32 := Scalar.extui v143
  let v145 : BitVec 32 := Scalar.muli c4_i32_42 v144
  let v146 : BitVec 32 := Scalar.addi v142 v145
  let c7_i32_44 : BitVec 32 := 7#32
  let c4_i32_43 : BitVec 32 := 4#32
  let v147 : BitVec 1 := Scalar.cmpi .eq v2 c4_i32_43
  let v148 : BitVec 32 := Scalar.extui v147
  let v149 : BitVec 32 := Scalar.muli c7_i32_44 v148
  let v150 : BitVec 32 := Scalar.addi v146 v149
  let c2_i32_46 : BitVec 32 := 2#32
  let c5_i32_45 : BitVec 32 := 5#32
  let v151 : BitVec 1 := Scalar.cmpi .eq v2 c5_i32_45
  let v152 : BitVec 32 := Scalar.extui v151
  let v153 : BitVec 32 := Scalar.muli c2_i32_46 v152
  let v154 : BitVec 32 := Scalar.addi v150 v153
  let c5_i32_48 : BitVec 32 := 5#32
  let c6_i32_47 : BitVec 32 := 6#32
  let v155 : BitVec 1 := Scalar.cmpi .eq v2 c6_i32_47
  let v156 : BitVec 32 := Scalar.extui v155
  let v157 : BitVec 32 := Scalar.muli c5_i32_48 v156
  let v158 : BitVec 32 := Scalar.addi v154 v157
  let c15_i32_50 : BitVec 32 := 15#32
  let c7_i32_49 : BitVec 32 := 7#32
  let v159 : BitVec 1 := Scalar.cmpi .eq v2 c7_i32_49
  let v160 : BitVec 32 := Scalar.extui v159
  let v161 : BitVec 32 := Scalar.muli c15_i32_50 v160
  let v162 : BitVec 32 := Scalar.addi v158 v161
  let c16_i32_52 : BitVec 32 := 16#32
  let c8_i32_51 : BitVec 32 := 8#32
  let v163 : BitVec 1 := Scalar.cmpi .eq v2 c8_i32_51
  let v164 : BitVec 32 := Scalar.extui v163
  let v165 : BitVec 32 := Scalar.muli c16_i32_52 v164
  let v166 : BitVec 32 := Scalar.addi v162 v165
  let c10_i32_54 : BitVec 32 := 10#32
  let c9_i32_53 : BitVec 32 := 9#32
  let v167 : BitVec 1 := Scalar.cmpi .eq v2 c9_i32_53
  let v168 : BitVec 32 := Scalar.extui v167
  let v169 : BitVec 32 := Scalar.muli c10_i32_54 v168
  let v170 : BitVec 32 := Scalar.addi v166 v169
  let c13_i32_56 : BitVec 32 := 13#32
  let c10_i32_55 : BitVec 32 := 10#32
  let v171 : BitVec 1 := Scalar.cmpi .eq v2 c10_i32_55
  let v172 : BitVec 32 := Scalar.extui v171
  let v173 : BitVec 32 := Scalar.muli c13_i32_56 v172
  let v174 : BitVec 32 := Scalar.addi v170 v173
  let c8_i32_58 : BitVec 32 := 8#32
  let c11_i32_57 : BitVec 32 := 11#32
  let v175 : BitVec 1 := Scalar.cmpi .eq v2 c11_i32_57
  let v176 : BitVec 32 := Scalar.extui v175
  let v177 : BitVec 32 := Scalar.muli c8_i32_58 v176
  let v178 : BitVec 32 := Scalar.addi v174 v177
  let c11_i32_60 : BitVec 32 := 11#32
  let c12_i32_59 : BitVec 32 := 12#32
  let v179 : BitVec 1 := Scalar.cmpi .eq v2 c12_i32_59
  let v180 : BitVec 32 := Scalar.extui v179
  let v181 : BitVec 32 := Scalar.muli c11_i32_60 v180
  let v182 : BitVec 32 := Scalar.addi v178 v181
  let c14_i32_62 : BitVec 32 := 14#32
  let c13_i32_61 : BitVec 32 := 13#32
  let v183 : BitVec 1 := Scalar.cmpi .eq v2 c13_i32_61
  let v184 : BitVec 32 := Scalar.extui v183
  let v185 : BitVec 32 := Scalar.muli c14_i32_62 v184
  let v186 : BitVec 32 := Scalar.addi v182 v185
  let c6_i32_64 : BitVec 32 := 6#32
  let c14_i32_63 : BitVec 32 := 14#32
  let v187 : BitVec 1 := Scalar.cmpi .eq v2 c14_i32_63
  let v188 : BitVec 32 := Scalar.extui v187
  let v189 : BitVec 32 := Scalar.muli c6_i32_64 v188
  let v190 : BitVec 32 := Scalar.addi v186 v189
  let c12_i32_66 : BitVec 32 := 12#32
  let c15_i32_65 : BitVec 32 := 15#32
  let v191 : BitVec 1 := Scalar.cmpi .eq v2 c15_i32_65
  let v192 : BitVec 32 := Scalar.extui v191
  let v193 : BitVec 32 := Scalar.muli c12_i32_66 v192
  let v194 : BitVec 32 := Scalar.addi v190 v193
  let c19_i32_68 : BitVec 32 := 19#32
  let c16_i32_67 : BitVec 32 := 16#32
  let v195 : BitVec 1 := Scalar.cmpi .eq v2 c16_i32_67
  let v196 : BitVec 32 := Scalar.extui v195
  let v197 : BitVec 32 := Scalar.muli c19_i32_68 v196
  let v198 : BitVec 32 := Scalar.addi v194 v197
  let c9_i32_70 : BitVec 32 := 9#32
  let c17_i32_69 : BitVec 32 := 17#32
  let v199 : BitVec 1 := Scalar.cmpi .eq v2 c17_i32_69
  let v200 : BitVec 32 := Scalar.extui v199
  let v201 : BitVec 32 := Scalar.muli c9_i32_70 v200
  let v202 : BitVec 32 := Scalar.addi v198 v201
  let c17_i32_72 : BitVec 32 := 17#32
  let c18_i32_71 : BitVec 32 := 18#32
  let v203 : BitVec 1 := Scalar.cmpi .eq v2 c18_i32_71
  let v204 : BitVec 32 := Scalar.extui v203
  let v205 : BitVec 32 := Scalar.muli c17_i32_72 v204
  let v206 : BitVec 32 := Scalar.addi v202 v205
  let c20_i32_74 : BitVec 32 := 20#32
  let c19_i32_73 : BitVec 32 := 19#32
  let v207 : BitVec 1 := Scalar.cmpi .eq v2 c19_i32_73
  let v208 : BitVec 32 := Scalar.extui v207
  let v209 : BitVec 32 := Scalar.muli c20_i32_74 v208
  let v210 : BitVec 32 := Scalar.addi v206 v209
  let c23_i32_76 : BitVec 32 := 23#32
  let c20_i32_75 : BitVec 32 := 20#32
  let v211 : BitVec 1 := Scalar.cmpi .eq v2 c20_i32_75
  let v212 : BitVec 32 := Scalar.extui v211
  let v213 : BitVec 32 := Scalar.muli c23_i32_76 v212
  let v214 : BitVec 32 := Scalar.addi v210 v213
  let c18_i32_78 : BitVec 32 := 18#32
  let c21_i32_77 : BitVec 32 := 21#32
  let v215 : BitVec 1 := Scalar.cmpi .eq v2 c21_i32_77
  let v216 : BitVec 32 := Scalar.extui v215
  let v217 : BitVec 32 := Scalar.muli c18_i32_78 v216
  let v218 : BitVec 32 := Scalar.addi v214 v217
  let c21_i32_80 : BitVec 32 := 21#32
  let c22_i32_79 : BitVec 32 := 22#32
  let v219 : BitVec 1 := Scalar.cmpi .eq v2 c22_i32_79
  let v220 : BitVec 32 := Scalar.extui v219
  let v221 : BitVec 32 := Scalar.muli c21_i32_80 v220
  let v222 : BitVec 32 := Scalar.addi v218 v221
  let c31_i32_82 : BitVec 32 := 31#32
  let c23_i32_81 : BitVec 32 := 23#32
  let v223 : BitVec 1 := Scalar.cmpi .eq v2 c23_i32_81
  let v224 : BitVec 32 := Scalar.extui v223
  let v225 : BitVec 32 := Scalar.muli c31_i32_82 v224
  let v226 : BitVec 32 := Scalar.addi v222 v225
  let c25_i32_84 : BitVec 32 := 25#32
  let c24_i32_83 : BitVec 32 := 24#32
  let v227 : BitVec 1 := Scalar.cmpi .eq v2 c24_i32_83
  let v228 : BitVec 32 := Scalar.extui v227
  let v229 : BitVec 32 := Scalar.muli c25_i32_84 v228
  let v230 : BitVec 32 := Scalar.addi v226 v229
  let c26_i32_86 : BitVec 32 := 26#32
  let c25_i32_85 : BitVec 32 := 25#32
  let v231 : BitVec 1 := Scalar.cmpi .eq v2 c25_i32_85
  let v232 : BitVec 32 := Scalar.extui v231
  let v233 : BitVec 32 := Scalar.muli c26_i32_86 v232
  let v234 : BitVec 32 := Scalar.addi v230 v233
  let c29_i32_88 : BitVec 32 := 29#32
  let c26_i32_87 : BitVec 32 := 26#32
  let v235 : BitVec 1 := Scalar.cmpi .eq v2 c26_i32_87
  let v236 : BitVec 32 := Scalar.extui v235
  let v237 : BitVec 32 := Scalar.muli c29_i32_88 v236
  let v238 : BitVec 32 := Scalar.addi v234 v237
  let c24_i32_90 : BitVec 32 := 24#32
  let c27_i32_89 : BitVec 32 := 27#32
  let v239 : BitVec 1 := Scalar.cmpi .eq v2 c27_i32_89
  let v240 : BitVec 32 := Scalar.extui v239
  let v241 : BitVec 32 := Scalar.muli c24_i32_90 v240
  let v242 : BitVec 32 := Scalar.addi v238 v241
  let c27_i32_92 : BitVec 32 := 27#32
  let c28_i32_91 : BitVec 32 := 28#32
  let v243 : BitVec 1 := Scalar.cmpi .eq v2 c28_i32_91
  let v244 : BitVec 32 := Scalar.extui v243
  let v245 : BitVec 32 := Scalar.muli c27_i32_92 v244
  let v246 : BitVec 32 := Scalar.addi v242 v245
  let c30_i32_94 : BitVec 32 := 30#32
  let c29_i32_93 : BitVec 32 := 29#32
  let v247 : BitVec 1 := Scalar.cmpi .eq v2 c29_i32_93
  let v248 : BitVec 32 := Scalar.extui v247
  let v249 : BitVec 32 := Scalar.muli c30_i32_94 v248
  let v250 : BitVec 32 := Scalar.addi v246 v249
  let c22_i32_96 : BitVec 32 := 22#32
  let c30_i32_95 : BitVec 32 := 30#32
  let v251 : BitVec 1 := Scalar.cmpi .eq v2 c30_i32_95
  let v252 : BitVec 32 := Scalar.extui v251
  let v253 : BitVec 32 := Scalar.muli c22_i32_96 v252
  let v254 : BitVec 32 := Scalar.addi v250 v253
  let c28_i32_98 : BitVec 32 := 28#32
  let c31_i32_97 : BitVec 32 := 31#32
  let v255 : BitVec 1 := Scalar.cmpi .eq v2 c31_i32_97
  let v256 : BitVec 32 := Scalar.extui v255
  let v257 : BitVec 32 := Scalar.muli c28_i32_98 v256
  let v258 : BitVec 32 := Scalar.addi v254 v257
  let c1_i32_4868 : BitVec 32 := 1#32
  let v5386 : BitVec 32 := Scalar.muli v258 c1_i32_4868
  let v5387 : BitVec 32 := Scalar.addi c0_i32_4869 v5386
  v5387.toNat
def k0_dev242 (d0 : Dev nD) : Nat :=
  let c0_i32_4897 : BitVec 32 := 0#32
  let c0_i32_101 : BitVec 32 := 0#32
  let c1_i32_100 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_99 : BitVec 32 := 0#32
  let v259 : BitVec 1 := Scalar.cmpi .eq v2 c0_i32_99
  let v260 : BitVec 32 := Scalar.extui v259
  let v261 : BitVec 32 := Scalar.muli c1_i32_100 v260
  let v262 : BitVec 32 := Scalar.addi c0_i32_101 v261
  let c2_i32_103 : BitVec 32 := 2#32
  let c1_i32_102 : BitVec 32 := 1#32
  let v263 : BitVec 1 := Scalar.cmpi .eq v2 c1_i32_102
  let v264 : BitVec 32 := Scalar.extui v263
  let v265 : BitVec 32 := Scalar.muli c2_i32_103 v264
  let v266 : BitVec 32 := Scalar.addi v262 v265
  let c5_i32_105 : BitVec 32 := 5#32
  let c2_i32_104 : BitVec 32 := 2#32
  let v267 : BitVec 1 := Scalar.cmpi .eq v2 c2_i32_104
  let v268 : BitVec 32 := Scalar.extui v267
  let v269 : BitVec 32 := Scalar.muli c5_i32_105 v268
  let v270 : BitVec 32 := Scalar.addi v266 v269
  let c0_i32_107 : BitVec 32 := 0#32
  let c3_i32_106 : BitVec 32 := 3#32
  let v271 : BitVec 1 := Scalar.cmpi .eq v2 c3_i32_106
  let v272 : BitVec 32 := Scalar.extui v271
  let v273 : BitVec 32 := Scalar.muli c0_i32_107 v272
  let v274 : BitVec 32 := Scalar.addi v270 v273
  let c3_i32_109 : BitVec 32 := 3#32
  let c4_i32_108 : BitVec 32 := 4#32
  let v275 : BitVec 1 := Scalar.cmpi .eq v2 c4_i32_108
  let v276 : BitVec 32 := Scalar.extui v275
  let v277 : BitVec 32 := Scalar.muli c3_i32_109 v276
  let v278 : BitVec 32 := Scalar.addi v274 v277
  let c6_i32_111 : BitVec 32 := 6#32
  let c5_i32_110 : BitVec 32 := 5#32
  let v279 : BitVec 1 := Scalar.cmpi .eq v2 c5_i32_110
  let v280 : BitVec 32 := Scalar.extui v279
  let v281 : BitVec 32 := Scalar.muli c6_i32_111 v280
  let v282 : BitVec 32 := Scalar.addi v278 v281
  let c14_i32_113 : BitVec 32 := 14#32
  let c6_i32_112 : BitVec 32 := 6#32
  let v283 : BitVec 1 := Scalar.cmpi .eq v2 c6_i32_112
  let v284 : BitVec 32 := Scalar.extui v283
  let v285 : BitVec 32 := Scalar.muli c14_i32_113 v284
  let v286 : BitVec 32 := Scalar.addi v282 v285
  let c4_i32_115 : BitVec 32 := 4#32
  let c7_i32_114 : BitVec 32 := 7#32
  let v287 : BitVec 1 := Scalar.cmpi .eq v2 c7_i32_114
  let v288 : BitVec 32 := Scalar.extui v287
  let v289 : BitVec 32 := Scalar.muli c4_i32_115 v288
  let v290 : BitVec 32 := Scalar.addi v286 v289
  let c11_i32_117 : BitVec 32 := 11#32
  let c8_i32_116 : BitVec 32 := 8#32
  let v291 : BitVec 1 := Scalar.cmpi .eq v2 c8_i32_116
  let v292 : BitVec 32 := Scalar.extui v291
  let v293 : BitVec 32 := Scalar.muli c11_i32_117 v292
  let v294 : BitVec 32 := Scalar.addi v290 v293
  let c17_i32_119 : BitVec 32 := 17#32
  let c9_i32_118 : BitVec 32 := 9#32
  let v295 : BitVec 1 := Scalar.cmpi .eq v2 c9_i32_118
  let v296 : BitVec 32 := Scalar.extui v295
  let v297 : BitVec 32 := Scalar.muli c17_i32_119 v296
  let v298 : BitVec 32 := Scalar.addi v294 v297
  let c9_i32_121 : BitVec 32 := 9#32
  let c10_i32_120 : BitVec 32 := 10#32
  let v299 : BitVec 1 := Scalar.cmpi .eq v2 c10_i32_120
  let v300 : BitVec 32 := Scalar.extui v299
  let v301 : BitVec 32 := Scalar.muli c9_i32_121 v300
  let v302 : BitVec 32 := Scalar.addi v298 v301
  let c12_i32_123 : BitVec 32 := 12#32
  let c11_i32_122 : BitVec 32 := 11#32
  let v303 : BitVec 1 := Scalar.cmpi .eq v2 c11_i32_122
  let v304 : BitVec 32 := Scalar.extui v303
  let v305 : BitVec 32 := Scalar.muli c12_i32_123 v304
  let v306 : BitVec 32 := Scalar.addi v302 v305
  let c15_i32_125 : BitVec 32 := 15#32
  let c12_i32_124 : BitVec 32 := 12#32
  let v307 : BitVec 1 := Scalar.cmpi .eq v2 c12_i32_124
  let v308 : BitVec 32 := Scalar.extui v307
  let v309 : BitVec 32 := Scalar.muli c15_i32_125 v308
  let v310 : BitVec 32 := Scalar.addi v306 v309
  let c10_i32_127 : BitVec 32 := 10#32
  let c13_i32_126 : BitVec 32 := 13#32
  let v311 : BitVec 1 := Scalar.cmpi .eq v2 c13_i32_126
  let v312 : BitVec 32 := Scalar.extui v311
  let v313 : BitVec 32 := Scalar.muli c10_i32_127 v312
  let v314 : BitVec 32 := Scalar.addi v310 v313
  let c13_i32_129 : BitVec 32 := 13#32
  let c14_i32_128 : BitVec 32 := 14#32
  let v315 : BitVec 1 := Scalar.cmpi .eq v2 c14_i32_128
  let v316 : BitVec 32 := Scalar.extui v315
  let v317 : BitVec 32 := Scalar.muli c13_i32_129 v316
  let v318 : BitVec 32 := Scalar.addi v314 v317
  let c7_i32_131 : BitVec 32 := 7#32
  let c15_i32_130 : BitVec 32 := 15#32
  let v319 : BitVec 1 := Scalar.cmpi .eq v2 c15_i32_130
  let v320 : BitVec 32 := Scalar.extui v319
  let v321 : BitVec 32 := Scalar.muli c7_i32_131 v320
  let v322 : BitVec 32 := Scalar.addi v318 v321
  let c8_i32_133 : BitVec 32 := 8#32
  let c16_i32_132 : BitVec 32 := 16#32
  let v323 : BitVec 1 := Scalar.cmpi .eq v2 c16_i32_132
  let v324 : BitVec 32 := Scalar.extui v323
  let v325 : BitVec 32 := Scalar.muli c8_i32_133 v324
  let v326 : BitVec 32 := Scalar.addi v322 v325
  let c18_i32_135 : BitVec 32 := 18#32
  let c17_i32_134 : BitVec 32 := 17#32
  let v327 : BitVec 1 := Scalar.cmpi .eq v2 c17_i32_134
  let v328 : BitVec 32 := Scalar.extui v327
  let v329 : BitVec 32 := Scalar.muli c18_i32_135 v328
  let v330 : BitVec 32 := Scalar.addi v326 v329
  let c21_i32_137 : BitVec 32 := 21#32
  let c18_i32_136 : BitVec 32 := 18#32
  let v331 : BitVec 1 := Scalar.cmpi .eq v2 c18_i32_136
  let v332 : BitVec 32 := Scalar.extui v331
  let v333 : BitVec 32 := Scalar.muli c21_i32_137 v332
  let v334 : BitVec 32 := Scalar.addi v330 v333
  let c16_i32_139 : BitVec 32 := 16#32
  let c19_i32_138 : BitVec 32 := 19#32
  let v335 : BitVec 1 := Scalar.cmpi .eq v2 c19_i32_138
  let v336 : BitVec 32 := Scalar.extui v335
  let v337 : BitVec 32 := Scalar.muli c16_i32_139 v336
  let v338 : BitVec 32 := Scalar.addi v334 v337
  let c19_i32_141 : BitVec 32 := 19#32
  let c20_i32_140 : BitVec 32 := 20#32
  let v339 : BitVec 1 := Scalar.cmpi .eq v2 c20_i32_140
  let v340 : BitVec 32 := Scalar.extui v339
  let v341 : BitVec 32 := Scalar.muli c19_i32_141 v340
  let v342 : BitVec 32 := Scalar.addi v338 v341
  let c22_i32_143 : BitVec 32 := 22#32
  let c21_i32_142 : BitVec 32 := 21#32
  let v343 : BitVec 1 := Scalar.cmpi .eq v2 c21_i32_142
  let v344 : BitVec 32 := Scalar.extui v343
  let v345 : BitVec 32 := Scalar.muli c22_i32_143 v344
  let v346 : BitVec 32 := Scalar.addi v342 v345
  let c30_i32_145 : BitVec 32 := 30#32
  let c22_i32_144 : BitVec 32 := 22#32
  let v347 : BitVec 1 := Scalar.cmpi .eq v2 c22_i32_144
  let v348 : BitVec 32 := Scalar.extui v347
  let v349 : BitVec 32 := Scalar.muli c30_i32_145 v348
  let v350 : BitVec 32 := Scalar.addi v346 v349
  let c20_i32_147 : BitVec 32 := 20#32
  let c23_i32_146 : BitVec 32 := 23#32
  let v351 : BitVec 1 := Scalar.cmpi .eq v2 c23_i32_146
  let v352 : BitVec 32 := Scalar.extui v351
  let v353 : BitVec 32 := Scalar.muli c20_i32_147 v352
  let v354 : BitVec 32 := Scalar.addi v350 v353
  let c27_i32_149 : BitVec 32 := 27#32
  let c24_i32_148 : BitVec 32 := 24#32
  let v355 : BitVec 1 := Scalar.cmpi .eq v2 c24_i32_148
  let v356 : BitVec 32 := Scalar.extui v355
  let v357 : BitVec 32 := Scalar.muli c27_i32_149 v356
  let v358 : BitVec 32 := Scalar.addi v354 v357
  let c24_i32_151 : BitVec 32 := 24#32
  let c25_i32_150 : BitVec 32 := 25#32
  let v359 : BitVec 1 := Scalar.cmpi .eq v2 c25_i32_150
  let v360 : BitVec 32 := Scalar.extui v359
  let v361 : BitVec 32 := Scalar.muli c24_i32_151 v360
  let v362 : BitVec 32 := Scalar.addi v358 v361
  let c25_i32_153 : BitVec 32 := 25#32
  let c26_i32_152 : BitVec 32 := 26#32
  let v363 : BitVec 1 := Scalar.cmpi .eq v2 c26_i32_152
  let v364 : BitVec 32 := Scalar.extui v363
  let v365 : BitVec 32 := Scalar.muli c25_i32_153 v364
  let v366 : BitVec 32 := Scalar.addi v362 v365
  let c28_i32_155 : BitVec 32 := 28#32
  let c27_i32_154 : BitVec 32 := 27#32
  let v367 : BitVec 1 := Scalar.cmpi .eq v2 c27_i32_154
  let v368 : BitVec 32 := Scalar.extui v367
  let v369 : BitVec 32 := Scalar.muli c28_i32_155 v368
  let v370 : BitVec 32 := Scalar.addi v366 v369
  let c31_i32_157 : BitVec 32 := 31#32
  let c28_i32_156 : BitVec 32 := 28#32
  let v371 : BitVec 1 := Scalar.cmpi .eq v2 c28_i32_156
  let v372 : BitVec 32 := Scalar.extui v371
  let v373 : BitVec 32 := Scalar.muli c31_i32_157 v372
  let v374 : BitVec 32 := Scalar.addi v370 v373
  let c26_i32_159 : BitVec 32 := 26#32
  let c29_i32_158 : BitVec 32 := 29#32
  let v375 : BitVec 1 := Scalar.cmpi .eq v2 c29_i32_158
  let v376 : BitVec 32 := Scalar.extui v375
  let v377 : BitVec 32 := Scalar.muli c26_i32_159 v376
  let v378 : BitVec 32 := Scalar.addi v374 v377
  let c29_i32_161 : BitVec 32 := 29#32
  let c30_i32_160 : BitVec 32 := 30#32
  let v379 : BitVec 1 := Scalar.cmpi .eq v2 c30_i32_160
  let v380 : BitVec 32 := Scalar.extui v379
  let v381 : BitVec 32 := Scalar.muli c29_i32_161 v380
  let v382 : BitVec 32 := Scalar.addi v378 v381
  let c23_i32_163 : BitVec 32 := 23#32
  let c31_i32_162 : BitVec 32 := 31#32
  let v383 : BitVec 1 := Scalar.cmpi .eq v2 c31_i32_162
  let v384 : BitVec 32 := Scalar.extui v383
  let v385 : BitVec 32 := Scalar.muli c23_i32_163 v384
  let v386 : BitVec 32 := Scalar.addi v382 v385
  let c1_i32_4896 : BitVec 32 := 1#32
  let v5417 : BitVec 32 := Scalar.muli v386 c1_i32_4896
  let v5418 : BitVec 32 := Scalar.addi c0_i32_4897 v5417
  v5418.toNat
abbrev stage0_0 : Fin 1 → Memref sig .tc .vmem S4096x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Steps.lean ====
/-
  The kernel's body as a loop over ring steps.

  The printed body is one straight line of some 870 memory operations: the two rings' reduce-scatter and
  all-gather steps, unrolled. Here the same body is written with the step as one definition for both rings and
  both phases, and each phase as a loop over its thirty-one steps (`looped`). The proofs about the kernel are about the
  looped form, so each step is proved once, at a symbolic step number; `Chain.lean` shows that the printed body is it.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Looped

open Cert.KernelIdeal Cert.KernelIdeal.Gen
open Idealize.ShloMosaic Idealize.ShloMosaic.TcCoe Idealize.SL.Sem

variable {F : FTy → Type} [FloatOps F]

/-- A program of the kernel's body. -/
abbrev P (F : FTy → Type) (α : Type) : Type 1 := Prog (TpuEff nD τ sig (Elt F) Λ₀ .tc) α

/-- A block of 128 rows by 1024 columns, in VMEM. -/
abbrev Blk : Type := Memref sig .tc .vmem S128x1024 .f32

theorem sem_inb (s : ℕ) : ∀ a, (![s % 2] : Fin 1 → ℕ) a + S1.size a ≤ S2.size a := by
  intro a; have := Nat.mod_lt s (show 0 < 2 by decide)
  fin_cases a; show s % 2 + 1 ≤ 2; omega

theorem slot_inb (s : ℕ) : ∀ a, (![s % 2, 0, 0] : Fin 3 → ℕ) a + S1x128x1024.size a ≤ S2x128x1024.size a := by
  intro a; have := Nat.mod_lt s (show 0 < 2 by decide)
  fin_cases a
  · show s % 2 + 1 ≤ 2; omega
  · show 0 + 128 ≤ 128; decide
  · show 0 + 1024 ≤ 1024; decide

/-- The semaphore of step `s` in a pair of semaphores: the steps alternate between the two. -/
def semAt (A : DmaSems sig S2) (s : ℕ) : DmaSem sig :=
  ((A.slice (Rect.unit (s := S2) ![s % 2] S1.size (sem_inb s))).squeeze S_ squeezes_S1_S_).sem

/-- The landing slot of step `s` in a ring's pair of slots. -/
def slotAt (A : Memref sig .tc .vmem S2x128x1024 .f32) (s : ℕ) : Blk :=
  (A.slice (Rect.unit (s := S2x128x1024) ![s % 2, 0, 0] S1x128x1024.size (slot_inb s)) (fun _ => rfl)).squeeze S128x1024
    squeezes_S1x128x1024_S128x1024

/-- The block of the result at row and column offset `o`. -/
def blkAt (A : Memref sig .tc .vmem S4096x2048 .f32) (o : Fin 2 → ℕ) (h : ∀ a, o a + S128x1024.size a ≤ S4096x2048.size a) : Blk :=
  A.slice (Rect.unit (s := S4096x2048) o S128x1024.size h) (fun _ => rfl)

/-- What a ring uses in one phase: the device after and the device before, the send and receive semaphores, the credit
    semaphore, and at each step the block a transfer reads and the block of the next device it fills. -/
structure Wires where
  nxt : Dev nD
  prv : Dev nD
  snd : DmaSems sig S2
  rcv : DmaSems sig S2
  crd : Sems sig S_
  src : ℕ → Blk
  dst : ℕ → Blk
  hsrc : ∀ s, (src s).view.WordExact
  hdst : ∀ s, (dst s).view.WordExact
  hsc : ∀ s, (dst s).view.ref.isScScratch = false
  hok : ∀ s, DmaTarget.Typed (nD := nD) (τ := τ) (sig := sig) (p := .tc) .vmem (.dma (semAt rcv s)) (.remote (Dev.tc nxt) (dst s) (.dma (semAt snd s)) (hsc s))

variable (w : Wires)

/-- Start the transfer of step `s`. -/
def Wires.send (s : ℕ) : P F PUnit :=
  Prog.lift (.enqueueDma (w.src s) (.remote (Dev.tc w.nxt) (w.dst s) (.dma (semAt w.snd s)) (w.hsc s)) (.dma (semAt w.rcv s)) (w.hsrc s) (w.hdst s) (w.hok s))

/-- Wait until the device before's transfer of step `s` has landed. -/
def Wires.arrive (s : ℕ) : P F PUnit :=
  Prog.lift (.waitDma2 (semAt w.rcv s) (w.src s) (w.dst s) (w.hsrc s) (w.hdst s))

/-- Wait until this device's own transfer of step `s` has read its block. -/
def Wires.leave (s : ℕ) : P F PUnit :=
  Prog.lift (.waitDma2 (semAt w.snd s) (w.dst s) (w.src s) (w.hdst s) (w.hsrc s))

/-- What follows the landing of step `s`: the credit to the device before; from step 1 on the credit of the device after
    and the read-out of step `s - 1`; and the transfer of step `s + 1`. The last two steps send no credit, the last one
    starts nothing. -/
def Wires.relay (s : ℕ) : P F PUnit := do
  if s < 29 then semSignalWord w.prv w.crd.sem 1#32 else pure ⟨⟩
  if 1 ≤ s ∧ s < 30 then (do semWaitWord w.crd.sem 1#32; w.leave (s - 1)) else pure ⟨⟩
  if s < 30 then w.send (s + 1) else pure ⟨⟩

/-- Add what landed in slot `s` to the result's block at `o`. -/
def addIn (out : Memref sig .tc .vmem S4096x2048 .f32) (cm : Memref sig .tc .vmem S2x128x1024 .f32) (s : ℕ) (o : Fin 2 → ℕ)
    (h : ∀ a, o a + S128x1024.size a ≤ S4096x2048.size a) : P F PUnit := do
  let own : Vec F S128x1024 .f32 ← Prog.lift (.load out (Rect.unit (s := S4096x2048) o S128x1024.size h).toLoadRect (View.loadsAt_vmem h_S128x1024))
  let got : Vec F S1x128x1024 .f32 ← Prog.lift (.load cm (Rect.unit (s := S2x128x1024) ![s % 2, 0, 0] S1x128x1024.size (slot_inb s)).toLoadRect (View.loadsAt_vmem h_S1x128x1024))
  let _ : Vec F S128x1024 .f32 ← Prog.lift (.load out (Rect.unit (s := S4096x2048) o S128x1024.size h).toLoadRect (View.loadsAt_vmem h_S128x1024))
  Prog.lift (.store out (Rect.unit (s := S4096x2048) o S128x1024.size h) (k0_pay2 own got) Finset.univ (View.stores_vmem_bits_univ h_S128x1024 rfl) (.inl rfl))

/-- Scale the result's block at `o` and cut it off below zero. -/
def finish (out : Memref sig .tc .vmem S4096x2048 .f32) (scale : F .f32) (o : Fin 2 → ℕ)
    (h : ∀ a, o a + S128x1024.size a ≤ S4096x2048.size a) : P F PUnit := do
  let own : Vec F S128x1024 .f32 ← Prog.lift (.load out (Rect.unit (s := S4096x2048) o S128x1024.size h).toLoadRect (View.loadsAt_vmem h_S128x1024))
  let _ : Vec F S128x1024 .f32 ← Prog.lift (.load out (Rect.unit (s := S4096x2048) o S128x1024.size h).toLoadRect (View.loadsAt_vmem h_S128x1024))
  Prog.lift (.store out (Rect.unit (s := S4096x2048) o S128x1024.size h) (k0_pay87 scale own) Finset.univ (View.stores_vmem_bits_univ h_S128x1024 rfl) (.inl rfl))

/-- Run `f s`, `f (s + 1)`, … , `n` of them. -/
def loop (f : ℕ → P F PUnit) : ℕ → ℕ → P F PUnit
  | _, 0 => pure ⟨⟩
  | s, n + 1 => do f s; loop f (s + 1) n

theorem off_ofNat {p : BitVec 32 → Fin 2 → ℕ} (h : ∀ r : Fin 31, ∀ a, p (BitVec.ofNat 32 r.val) a + S128x1024.size a ≤ S4096x2048.size a) (s : ℕ) :
    ∀ a, p (BitVec.ofNat 32 (s % 31)) a + S128x1024.size a ≤ S4096x2048.size a := h ⟨s % 31, Nat.mod_lt _ (by decide)⟩

/-- The result's buffer. -/
abbrev outM : Memref sig .tc .vmem S4096x2048 .f32 := Memref.whole cc0_stg4_0

/-- The two landing slots of a ring. Ring `false` runs to the device after, ring `true` to the device before. -/
def comm : Bool → Memref sig .tc .vmem S2x128x1024 .f32
  | false => Memref.whole cc0_scratch0
  | true => Memref.whole cc0_scratch1

/-- The device a ring sends to, and the one it hears from. -/
def nxt (r : Bool) (c : Dev nD) : Dev nD := match r with
  | false => ⟨k0_dev3 c, k0_dev3_lt c⟩
  | true => ⟨k0_dev4 c, k0_dev4_lt c⟩
def prv (r : Bool) (c : Dev nD) : Dev nD := match r with
  | false => ⟨k0_dev5 c, k0_dev5_lt c⟩
  | true => ⟨k0_dev7 c, k0_dev7_lt c⟩

/-- The send, receive and credit semaphores of a phase (`false` the reduce-scatter, `true` the all-gather) on a ring. -/
def sndA (ph r : Bool) : DmaSems sig S2 := match ph, r with
  | false, false => cc0_scratch2 | false, true => cc0_scratch4 | true, false => cc0_scratch6 | true, true => cc0_scratch8
def rcvA (ph r : Bool) : DmaSems sig S2 := match ph, r with
  | false, false => cc0_scratch3 | false, true => cc0_scratch5 | true, false => cc0_scratch7 | true, true => cc0_scratch9
def crdA (ph r : Bool) : Sems sig S_ := match ph, r with
  | false, false => cc0_scratch10 | false, true => cc0_scratch11 | true, false => cc0_scratch12 | true, true => cc0_scratch13

/-- Where in the result the block that a step's transfer reads is. -/
def srcO (ph r : Bool) (c : Dev nD) : BitVec 32 → Fin 2 → ℕ := match ph, r with
  | false, false => k0_off1 c | false, true => k0_off2 c | true, false => k0_off7 c | true, true => k0_off8 c

theorem srcO_inb (ph r : Bool) (c : Dev nD) :
    ∀ i : Fin 31, ∀ a, srcO ph r c (BitVec.ofNat 32 i.val) a + S128x1024.size a ≤ S4096x2048.size a := match ph, r with
  | false, false => k0_off1_inb c | false, true => k0_off2_inb c | true, false => k0_off7_inb c | true, true => k0_off8_inb c

/-- Where in the result the block that a reduce-scatter step adds to is, and the block that the scaling completes. -/
def addO (r : Bool) (c : Dev nD) : BitVec 32 → Fin 2 → ℕ := match r with
  | false => k0_off3 c | true => k0_off4 c
theorem addO_inb (r : Bool) (c : Dev nD) :
    ∀ i : Fin 31, ∀ a, addO r c (BitVec.ofNat 32 i.val) a + S128x1024.size a ≤ S4096x2048.size a := match r with
  | false => k0_off3_inb c | true => k0_off4_inb c
def finO (r : Bool) (c : Dev nD) : Fin 2 → ℕ := match r with
  | false => k0_off5 c | true => k0_off6 c
theorem finO_inb (r : Bool) (c : Dev nD) : ∀ a, finO r c a + S128x1024.size a ≤ S4096x2048.size a := match r with
  | false => k0_off5_inb c | true => k0_off6_inb c

/-- The block a step's transfer reads, and the one it fills on the next device: in the reduce-scatter a landing slot, in
    the all-gather the same block of the next device's result. -/
def srcB (ph r : Bool) (c : Dev nD) (s : ℕ) : Blk := blkAt outM (srcO ph r c (BitVec.ofNat 32 (s % 31))) (off_ofNat (srcO_inb ph r c) s)
def dstB (ph r : Bool) (c : Dev nD) (s : ℕ) : Blk := match ph with
  | false => slotAt (comm r) s
  | true => blkAt outM (srcO true r c (BitVec.ofNat 32 (s % 31))) (off_ofNat (srcO_inb true r c) s)

theorem srcB_exact (ph r : Bool) (c : Dev nD) (s : ℕ) : (srcB ph r c s).view.WordExact := View.wordExact_bits rfl
theorem dstB_exact (ph r : Bool) (c : Dev nD) (s : ℕ) : (dstB ph r c s).view.WordExact := match ph with
  | false => (View.wordExact_bits rfl).reshape _ _
  | true => View.wordExact_bits rfl
theorem dstB_scratch (ph r : Bool) (c : Dev nD) (s : ℕ) : (dstB ph r c s).view.ref.isScScratch = false := match ph, r with
  | false, false => rfl
  | false, true => rfl
  | true, _ => rfl

/-- What a ring uses in a phase. -/
def wires (ph r : Bool) (c : Dev nD) : Wires where
  nxt := nxt r c
  prv := prv r c
  snd := sndA ph r
  rcv := rcvA ph r
  crd := crdA ph r
  src := srcB ph r c
  dst := dstB ph r c
  hsrc := srcB_exact ph r c
  hdst := dstB_exact ph r c
  hsc := dstB_scratch ph r c
  hok _ := ⟨⟨rfl, Or.inl rfl⟩, trivial⟩

/-- The landing of reduce-scatter step `s` on a ring, added to the result's block, and what follows it. -/
def rsHalf (r : Bool) (c : Dev nD) (s : ℕ) : P F PUnit := do
  (wires false r c).arrive s
  addIn outM (comm r) s (addO r c (BitVec.ofNat 32 (s % 31))) (off_ofNat (addO_inb r c) s)
  (wires false r c).relay s

/-- The landing of all-gather step `s` on a ring and what follows it. -/
def agHalf (r : Bool) (c : Dev nD) (s : ℕ) : P F PUnit := do
  (wires true r c).arrive s
  (wires true r c).relay s

/-- Step `s` of the reduce-scatter, on both rings. -/
def rsStep (c : Dev nD) (s : ℕ) : P F PUnit := do
  rsHalf false c s
  rsHalf true c s

/-- Step `s` of the all-gather, on both rings. -/
def agStep (c : Dev nD) (s : ℕ) : P F PUnit := do
  agHalf false c s
  agHalf true c s

/-- The last two read-outs of a phase, on both rings. -/
def drain (ph : Bool) (c : Dev nD) : P F PUnit := do
  (wires ph false c).leave 29
  (wires ph false c).leave 30
  (wires ph true c).leave 29
  (wires ph true c).leave 30

/-- The barrier semaphore. -/
abbrev barS : Sem sig := (SemArray.scalar (sig.barrier 0 rfl) : Sems sig S_).sem

/-- The product of the device's column block by its row block, and the barrier with both neighbours. -/
def opening (c : Dev nD) : P F PUnit := do
  let x : Vec F S4096x128 .fp8e5m2 ← Prog.lift (.load (Memref.whole cc0_stg0_0) (Rect.unit (s := S4096x128) ![0, 0] S4096x128.size inb_S4096x128_S4096x128_0_0).toLoadRect (View.loadsAt_vmem h_S4096x128))
  let w : Vec F S128x2048 .fp8e5m2 ← Prog.lift (.load (Memref.whole cc0_stg1_0) (Rect.unit (s := S128x2048) ![0, 0] S128x2048.size inb_S128x2048_S128x2048_0_0).toLoadRect (View.loadsAt_vmem h_S128x2048))
  let _ : Vec F S4096x2048 .f32 ← Prog.lift (.load outM (Rect.unit (s := S4096x2048) ![0, 0] S4096x2048.size inb_S4096x2048_S4096x2048_0_0).toLoadRect (View.loadsAt_vmem h_S4096x2048))
  Prog.lift (.store outM (Rect.unit (s := S4096x2048) ![0, 0] S4096x2048.size inb_S4096x2048_S4096x2048_0_0) (k0_pay1 x w) Finset.univ (View.stores_vmem_bits_univ h_S4096x2048 rfl) (.inl rfl))
  semSignalWord (⟨k0_dev1 c, k0_dev1_lt c⟩ : Dev nD) barS 1#32
  semSignalWord (⟨k0_dev2 c, k0_dev2_lt c⟩ : Dev nD) barS 1#32
  semWaitWord barS 2#32

/-- Between the phases: the device's own two blocks, now complete, are scaled and cut off. -/
def scaling (c : Dev nD) : P F PUnit := do
  let sx : Elt F .f32 ← smemLoad (Memref.whole cc0_stg2_0) (Rect.unit (s := S1) ![0] S1.size inb_S1_S1_0) numel1_S1 rfl
  let sw : Elt F .f32 ← smemLoad (Memref.whole cc0_stg3_0) (Rect.unit (s := S1) ![0] S1.size inb_S1_S1_0) numel1_S1 rfl
  finish outM (k0_pay85 sx sw) (finO false c) (finO_inb false c)
  finish outM (k0_pay85 sx sw) (finO true c) (finO_inb true c)

/-- The body as a loop. -/
def looped : P F PUnit := do
  let c : Dev nD ← Prog.lift .deviceId
  opening c
  (wires false false c).send 0
  (wires false true c).send 0
  loop (rsStep c) 0 31
  drain false c
  scaling c
  (wires true false c).send 0
  (wires true true c).send 0
  loop (agStep c) 0 31
  drain true c

end Cert.KernelIdeal.Looped

end
-- ==== Proof.Geometry.lean ====
/-
  The two rings' arithmetic: each device's place, the device after and before it, and the blocks of the result that
  each step names, counted backwards from the device's place.
-/
module

public import proofs.«01_k».proof.Proof.Steps
public import Idealize.ShloMosaic.Lib.Pipeline.Launch
public import Idealize.ShloMosaic.Lib.Pipeline.Kit
public import Idealize.ShloMosaic.Lib.Tactic

@[expose] public section

noncomputable section

namespace Cert.KernelIdeal.Looped

open Cert.KernelIdeal Cert.KernelIdeal.Gen
open Idealize.ShloMosaic Idealize.ShloMosaic.TcCoe Idealize.SL.Sem

/-! ## Places -/

/-- The place of a device on the ring: the row block it sends first. -/
def place (c : Dev nD) : ℕ := k0_off1 c 0#32 0 / 128

theorem place_lt : ∀ c : Dev nD, place c < 32 := by decide +kernel
theorem place_inj : ∀ c d : Dev nD, place c = place d → c = d := by decide +kernel
theorem place_after : ∀ c : Dev nD, place (nxt false c) = (place c + 1) % 32 := by decide +kernel
theorem place_before : ∀ c : Dev nD, place (nxt true c) = (place c + 31) % 32 := by decide +kernel
theorem prv_after : ∀ c : Dev nD, prv false c = nxt true c := by decide +kernel
theorem prv_before : ∀ c : Dev nD, prv true c = nxt false c := by decide +kernel

theorem prv_eq (r : Bool) (c : Dev nD) : prv r c = nxt (!r) c := by
  cases r
  · exact prv_after c
  · exact prv_before c

theorem nxt_not (r : Bool) (c : Dev nD) : nxt (!r) (nxt r c) = c := by
  have h := place_lt c
  cases r <;> refine place_inj _ _ ?_
  · show place (nxt true (nxt false c)) = _
    rw [place_before, place_after]; omega
  · show place (nxt false (nxt true c)) = _
    rw [place_after, place_before]; omega

theorem prv_nxt (r : Bool) (c : Dev nD) : prv r (nxt r c) = c := by rw [prv_eq, nxt_not]
theorem nxt_prv (r : Bool) (c : Dev nD) : nxt r (prv r c) = c := by
  rw [prv_eq]; simpa using nxt_not (!r) c
theorem nxt_eq_prv (r : Bool) (c : Dev nD) : nxt r c = prv (!r) c := by rw [prv_eq, Bool.not_not]

/-- The devices of a ring, moved on by one. -/
def turn (r : Bool) : Dev nD ≃ Dev nD := ⟨nxt r, prv r, prv_nxt r, nxt_prv r⟩

/-! ## Blocks -/

/-- The row block `k` steps back from a device's place, against the ring's direction. -/
def row (r : Bool) (c : Dev nD) (k : ℕ) : ℕ := (if r then place c + k else place c + 32 - k) % 32

theorem row_lt (r : Bool) (c : Dev nD) (k : ℕ) : row r c k < 32 := Nat.mod_lt _ (by decide)

theorem row_prv (r : Bool) (c : Dev nD) (k : ℕ) (hk : k < 32) : row r (prv r c) k = row r c (k + 1) := by
  have h := place_lt c
  rw [prv_eq]
  cases r
  · show (place (nxt true c) + 32 - k) % 32 = (place c + 32 - (k + 1)) % 32
    rw [place_before]; omega
  · show (place (nxt false c) + k) % 32 = (place c + (k + 1)) % 32
    rw [place_after]; omega

theorem row_32 (r : Bool) (c : Dev nD) : row r c 32 = row r c 0 := by
  have h := place_lt c
  cases r
  · show (place c + 32 - 32) % 32 = (place c + 32 - 0) % 32; omega
  · show (place c + 32) % 32 = (place c + 0) % 32; omega

theorem row_inj (r : Bool) (c : Dev nD) (k l : ℕ) (hk : k < 32) (hl : l < 32) (h : row r c k = row r c l) : k = l := by
  have hp := place_lt c
  cases r
  · have h : (place c + 32 - k) % 32 = (place c + 32 - l) % 32 := h; omega
  · have h : (place c + k) % 32 = (place c + l) % 32 := h; omega

theorem row_surj (r : Bool) (c : Dev nD) (j : ℕ) (hj : j < 32) : ∃ k < 32, row r c k = j := by
  have hp := place_lt c
  cases r
  · refine ⟨(place c + 32 - j) % 32, Nat.mod_lt _ (by decide), ?_⟩
    show (place c + 32 - (place c + 32 - j) % 32) % 32 = j; omega
  · refine ⟨(j + 32 - place c) % 32, Nat.mod_lt _ (by decide), ?_⟩
    show (place c + (j + 32 - place c) % 32) % 32 = j; omega

/-- Where that row block's columns on the ring are: the left half for ring `false`, the right half for ring `true`. -/
def chO (r : Bool) (c : Dev nD) (k : ℕ) : Fin 2 → ℕ := ![128 * row r c k, if r then 1024 else 0]

theorem chO_inb (r : Bool) (c : Dev nD) (k : ℕ) : ∀ a, chO r c k a + S128x1024.size a ≤ S4096x2048.size a := by
  have := row_lt r c k
  intro a; fin_cases a
  · show 128 * row r c k + 128 ≤ 4096; omega
  · show (if r then 1024 else 0) + 1024 ≤ 2048; cases r <;> decide

/-- The block of the result `k` steps back on the ring. -/
def chunk (r : Bool) (c : Dev nD) (k : ℕ) : Blk := blkAt outM (chO r c k) (chO_inb r c k)

theorem blkAt_congr (A : Memref sig .tc .vmem S4096x2048 .f32) {o o' : Fin 2 → ℕ} (h : ∀ a, o a + S128x1024.size a ≤ S4096x2048.size a)
    (h' : ∀ a, o' a + S128x1024.size a ≤ S4096x2048.size a) (e : o = o') : blkAt A o h = blkAt A o' h' := by subst e; rfl

theorem chO_prv (r : Bool) (c : Dev nD) (k : ℕ) (hk : k < 32) : chO r (prv r c) k = chO r c (k + 1) := by
  unfold chO; rw [row_prv r c k hk]
theorem chunk_prv (r : Bool) (c : Dev nD) (k : ℕ) (hk : k < 32) : chunk r (prv r c) k = chunk r c (k + 1) :=
  blkAt_congr _ _ _ (chO_prv r c k hk)
theorem chunk_32 (r : Bool) (c : Dev nD) : chunk r c 32 = chunk r c 0 :=
  blkAt_congr _ _ _ (by unfold chO; rw [row_32])

/-- How many steps back the block of a phase's transfer `s` is. -/
def back (ph : Bool) (s : ℕ) : ℕ := if ph then (if s = 0 then 31 else s - 1) else s

set_option maxRecDepth 8192 in
theorem srcO_eq : ∀ (ph r : Bool) (c : Dev nD) (s : Fin 31), srcO ph r c (BitVec.ofNat 32 s.val) = chO r c (back ph s.val) := by
  decide +kernel
set_option maxRecDepth 8192 in
theorem addO_eq : ∀ (r : Bool) (c : Dev nD) (s : Fin 31), addO r c (BitVec.ofNat 32 s.val) = chO r c (s.val + 1) := by decide +kernel
theorem finO_eq : ∀ (r : Bool) (c : Dev nD), finO r c = chO r c 31 := by decide +kernel

/-- The block transfer `s` of a phase reads on a device. -/
def sblk (ph r : Bool) (c : Dev nD) (s : ℕ) : Blk := chunk r c (back ph s)
/-- The block the transfer `s` from the device before fills on a device. -/
def rblk (ph r : Bool) (c : Dev nD) (s : ℕ) : Blk := match ph with
  | false => slotAt (comm r) s
  | true => chunk r c s

theorem srcB_eq (ph r : Bool) (c : Dev nD) (s : ℕ) (hs : s < 31) : srcB ph r c s = sblk ph r c s :=
  blkAt_congr _ _ _ (by
    have := srcO_eq ph r c ⟨s, hs⟩
    rw [Nat.mod_eq_of_lt hs]; exact this)

theorem dstB_eq (ph r : Bool) (c : Dev nD) (s : ℕ) (hs : s < 31) : dstB ph r c s = rblk ph r (nxt r c) s := by
  cases ph
  · rfl
  · refine blkAt_congr _ _ _ ?_
    have h := srcO_eq true r c ⟨s, hs⟩
    rw [Nat.mod_eq_of_lt hs]
    refine h.trans ?_
    have hb : chO r c (back true s) = chO r (nxt r c) s := by
      have e := fun k hk => chO_prv r (nxt r c) k hk
      rw [prv_nxt] at e
      unfold back
      by_cases h0 : s = 0
      · subst h0
        rw [if_pos rfl, if_pos rfl, e 31 (by decide)]
        unfold chO; rw [row_32]
      · rw [if_pos rfl, if_neg h0, e (s - 1) (by omega)]
        congr 1; omega
    exact hb

theorem slotAt_mod (A : Memref sig .tc .vmem S2x128x1024 .f32) (s t : ℕ) (h : s % 2 = t % 2) : slotAt A s = slotAt A t := by
  have key : ∀ (o o' : ℕ) (ho : ∀ a, (![o, 0, 0] : Fin 3 → ℕ) a + S1x128x1024.size a ≤ S2x128x1024.size a)
      (ho' : ∀ a, (![o', 0, 0] : Fin 3 → ℕ) a + S1x128x1024.size a ≤ S2x128x1024.size a), o = o' →
      (A.slice (Rect.unit (s := S2x128x1024) ![o, 0, 0] S1x128x1024.size ho) (fun _ => rfl)).squeeze S128x1024 squeezes_S1x128x1024_S128x1024
        = (A.slice (Rect.unit (s := S2x128x1024) ![o', 0, 0] S1x128x1024.size ho') (fun _ => rfl)).squeeze S128x1024 squeezes_S1x128x1024_S128x1024 := by
    intro o o' ho ho' e; subst e; rfl
  exact key _ _ _ _ h

theorem semAt_mod (A : DmaSems sig S2) (s t : ℕ) (h : s % 2 = t % 2) : semAt A s = semAt A t := by
  have key : ∀ (o o' : ℕ) (ho : ∀ a, (![o] : Fin 1 → ℕ) a + S1.size a ≤ S2.size a)
      (ho' : ∀ a, (![o'] : Fin 1 → ℕ) a + S1.size a ≤ S2.size a), o = o' →
      ((A.slice (Rect.unit (s := S2) ![o] S1.size ho)).squeeze S_ squeezes_S1_S_).sem
        = ((A.slice (Rect.unit (s := S2) ![o'] S1.size ho')).squeeze S_ squeezes_S1_S_).sem := by
    intro o o' ho ho' e; subst e; rfl
  exact key _ _ _ _ h

theorem rblk_two (r : Bool) (c : Dev nD) (s : ℕ) : rblk false r c (s + 2) = rblk false r c s := slotAt_mod _ _ _ (by omega)

/-! ## The elements of the blocks -/

theorem chunk_set (r : Bool) (c : Dev nD) (k : ℕ) :
    (chunk r c k).view.set = (Rect.unit (s := S4096x2048) (chO r c k) S128x1024.size (chO_inb r c k)).set := View.set_slice_whole _ _

theorem mem_chunk (r : Bool) (c : Dev nD) (k : ℕ) (i : S4096x2048.Idx) :
    i ∈ (chunk r c k).view.set ↔ (i 0).val / 128 = row r c k ∧ (i 1).val / 1024 = (if r then 1 else 0) := by
  have h0 : (i 0).val < 4096 := (i 0).isLt
  have h1 : (i 1).val < 2048 := (i 1).isLt
  refine (Iff.of_eq (congrArg (fun S : Finset S4096x2048.Idx => i ∈ S) (chunk_set r c k))).trans (Rect.mem_set_unit.trans ?_)
  rw [Fin.forall_fin_two]
  show (128 * row r c k ≤ (i 0).val ∧ (i 0).val < 128 * row r c k + 128) ∧ ((if r then 1024 else 0) ≤ (i 1).val ∧ (i 1).val < (if r then 1024 else 0) + 1024) ↔ _
  cases r
  · show (_ ∧ _) ∧ (0 ≤ _ ∧ _ < 0 + 1024) ↔ _ ∧ _ = 0; omega
  · show (_ ∧ _) ∧ (1024 ≤ _ ∧ _ < 1024 + 1024) ↔ _ ∧ _ = 1; omega

theorem chunk_disj (r : Bool) (c : Dev nD) {k l : ℕ} (hk : k < 32) (hl : l < 32) (h : k ≠ l) :
    Disjoint (chunk r c k).view.set (chunk r c l).view.set :=
  Finset.disjoint_left.mpr fun i hi hj => h (row_inj r c k l hk hl (((mem_chunk r c k i).mp hi).1.symm.trans ((mem_chunk r c l i).mp hj).1))

theorem half_disj (c : Dev nD) (k l : ℕ) : Disjoint (chunk false c k).view.set (chunk true c l).view.set :=
  Finset.disjoint_left.mpr fun i hi hj => by
    have h := (((mem_chunk false c k i).mp hi).2.symm.trans ((mem_chunk true c l i).mp hj).2)
    exact absurd h (by decide)

theorem chunk_cover (c : Dev nD) (i : S4096x2048.Idx) : ∃ r, ∃ k < 32, i ∈ (chunk r c k).view.set := by
  have h0 : (i 0).val < 4096 := (i 0).isLt
  have h1 : (i 1).val < 2048 := (i 1).isLt
  by_cases h : (i 1).val < 1024
  · obtain ⟨k, hk, e⟩ := row_surj false c ((i 0).val / 128) (by omega)
    exact ⟨false, k, hk, (mem_chunk _ _ _ _).mpr ⟨e.symm, by show _ = 0; omega⟩⟩
  · obtain ⟨k, hk, e⟩ := row_surj true c ((i 0).val / 128) (by omega)
    exact ⟨true, k, hk, (mem_chunk _ _ _ _).mpr ⟨e.symm, by show _ = 1; omega⟩⟩

theorem slot_set (r : Bool) (s : ℕ) : (slotAt (comm r) s).view.set =
    ((comm r).view.slice (Rect.unit (s := S2x128x1024) ![s % 2, 0, 0] S1x128x1024.size (slot_inb s))).set := View.set_reshape _ _

end Cert.KernelIdeal.Looped

end
-- ==== Proof.Cells.lean ====
/-
  The protocol of the kernel: for every semaphore of a device who pays it, how much, in which order, and what each payment
  hands to the device that waits.

  * The barrier: the device after on each ring pays one unit, handing its two landing slots of that ring.
  * A send semaphore (two per phase and ring, used in turn): transfer `s` pays it when its block has been read, handing the
    block back.
  * A receive semaphore (likewise): transfer `s` of the device before pays it, handing the filled block.
  * A credit semaphore: the device after pays one unit per step. The units of several steps may be on it at once and nothing
    says which of them a wait consumes, so a unit hands over only the fact that all blocks up to its step are free; the
    blocks themselves lie in shared invariants, one per step (`Release`), where the waiting device takes them with a token.
-/
module

public import proofs.«01_k».proof.Proof.Geometry
public import Idealize.ShloMosaic.Lib.Rounds
public import Idealize.ShloMosaic.Lib.Release
public import Mathlib.Algebra.BigOperators.Intervals

@[expose] public section

noncomputable section

namespace Cert.KernelIdeal.Looped

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The semaphores -/

/-- A device's semaphores: the barrier, and per phase and ring the two send, the two receive and the credit semaphore. -/
inductive Ce : Type
  | bar
  | snd (ph r : Bool) (k : Fin 2)
  | rcv (ph r : Bool) (k : Fin 2)
  | crd (ph r : Bool)
  deriving DecidableEq

instance : Fintype Ce where
  elems := {.bar} ∪ Finset.univ.image (fun x : Bool × Bool × Fin 2 => .snd x.1 x.2.1 x.2.2)
    ∪ Finset.univ.image (fun x : Bool × Bool × Fin 2 => .rcv x.1 x.2.1 x.2.2)
    ∪ Finset.univ.image (fun x : Bool × Bool => .crd x.1 x.2)
  complete k := by cases k <;> simp

def csem : Ce → SemLoc sig
  | .bar => .reg barS
  | .snd ph r k => .dma (semAt (sndA ph r) k.val)
  | .rcv ph r k => .dma (semAt (rcvA ph r) k.val)
  | .crd ph r => .reg (crdA ph r).sem

theorem csem_inj : ∀ a b : Ce, csem a = csem b → a = b := by decide +kernel

open Classical in
/-- Which of them a semaphore is. -/
def ofSem (s : SemLoc sig) : Option Ce := if h : ∃ k, csem k = s then some h.choose else none

theorem ofSem_csem (k : Ce) : ofSem (csem k) = some k := by
  have h : ∃ k', csem k' = csem k := ⟨k, rfl⟩
  unfold ofSem; rw [dif_pos h, csem_inj _ _ h.choose_spec]

theorem ofSem_none (s : SemLoc sig) (h : ∀ k, csem k ≠ s) : ofSem s = none := by
  unfold ofSem; rw [dif_neg fun ⟨k, e⟩ => h k e]

/-- A device's cell. -/
abbrev cell (c : Dev nD) (k : Ce) : GSem nD τ sig := ((c : Thread nD τ), csem k)

theorem cell_inj {c d : Dev nD} {k l : Ce} (h : cell c k = cell d l) : c = d ∧ k = l := by
  obtain ⟨h1, h2⟩ := Prod.mk.inj h
  exact ⟨(Prod.mk.inj h1).1, csem_inj _ _ h2⟩

/-- Which of a pair a step uses. -/
def par (s : ℕ) : Fin 2 := ⟨s % 2, Nat.mod_lt _ (by decide)⟩

theorem csem_snd (ph r : Bool) (s : ℕ) : csem (.snd ph r (par s)) = .dma (semAt (sndA ph r) s) :=
  congrArg SemLoc.dma (semAt_mod _ _ _ (Nat.mod_mod _ _))
theorem csem_rcv (ph r : Bool) (s : ℕ) : csem (.rcv ph r (par s)) = .dma (semAt (rcvA ph r) s) :=
  congrArg SemLoc.dma (semAt_mod _ _ _ (Nat.mod_mod _ _))

/-! ## Values -/

/-- What the devices' operand buffers hold. -/
structure Inp (F : FTy → Type) where
  x : Dev nD → Vec F S4096x128 .fp8e5m2
  w : Dev nD → Vec F S128x2048 .fp8e5m2
  scale : Dev nD → F .f32

variable (I : Inp F)

/-- A device's own product. -/
def own (c : Dev nD) : Vec F S4096x2048 .f32 := k0_pay1 (I.x c) (I.w c)
/-- Its block `k` steps back on a ring. -/
def ownC (r : Bool) (c : Dev nD) (k : ℕ) : Vec F S128x1024 .f32 := (chunk r c k).view.read (Elt F) (own I c)

/-- The partial sum that a device holds after `s` reduce-scatter steps, in the block `s` steps back. -/
def acc (r : Bool) (c : Dev nD) : ℕ → Vec F S128x1024 .f32
  | 0 => ownC I r c 0
  | s + 1 => addf (ownC I r c (s + 1)) (acc r (prv r c) s)

/-- The finished block that a device forwards as its all-gather transfer `t`. -/
def fin (r : Bool) (c : Dev nD) : ℕ → Vec F S128x1024 .f32
  | 0 => k0_pay87 (I.scale c) (acc I r c 31)
  | t + 1 => fin r (prv r c) t

/-- What transfer `s` of a phase carries. -/
def val (ph r : Bool) (c : Dev nD) (s : ℕ) : Vec F S128x1024 .f32 := if ph then fin I r c s else acc I r c s

/-! ## Ghost state -/

/-- A step's hand-over of a block: by device, phase, ring, step. -/
abbrev Key : Type := Dev nD × Bool × Bool × ℕ
abbrev UB : Type := URounds (GSem nD τ sig) ℕ
abbrev UX : Type := UB × Release.USlots Key
abbrev UU : Type := UR sig nD τ × UX

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB UX).trans embR
def ES : Emb (Release.USlots Key) (MT nD τ sig ℕ (Elt F) ℕ UU ℕ) := (Emb.inr : Emb (Release.USlots Key) UX).trans embR

instance ER_landsIn : (ER (F := F)).LandsIn (upEmb : UEmb _ 𝕄) := by unfold ER; infer_instance
instance ES_landsIn : (ES (F := F)).LandsIn (upEmb : UEmb _ 𝕄) := by unfold ES; infer_instance

/-! ## Blocks -/

/-- Device `d` holds block `b`, with contents `v`. -/
def blkPts (d : Dev nD) (b : Blk) (v : Vec F S128x1024 .f32) : sProp 𝕄 :=
  iprop(∃ f : Buf (Elt F) (b.view.loc (d : Thread nD τ)), ⌜b.view.read (Elt F) f = v⌝ ∗ (b.view.loc (d : Thread nD τ) ↦[b.view.set]{fullShare} f))
/-- Device `d` holds block `b`, with any contents. -/
def blkAny (d : Dev nD) (b : Blk) : sProp 𝕄 :=
  iprop(∃ f : Buf (Elt F) (b.view.loc (d : Thread nD τ)), (b.view.loc (d : Thread nD τ) ↦[b.view.set]{fullShare} f))

omit [FloatOps F] in
theorem blkPts_any (d : Dev nD) (b : Blk) (v : Vec F S128x1024 .f32) : blkPts d b v ⊢ (blkAny d b : sProp 𝕄) := by
  unfold blkPts blkAny
  iintro ⟨%f, -, H⟩; iexists f; iexact H

instance blkPts_storable (d : Dev nD) (b : Blk) (v : Vec F S128x1024 .f32) : BI.Storable (upEmb : UEmb _ 𝕄) (blkPts d b v) := by
  unfold blkPts; infer_instance
instance blkAny_storable (d : Dev nD) (b : Blk) : BI.Storable (upEmb : UEmb _ 𝕄) (blkAny (F := F) d b) := by
  unfold blkAny; infer_instance

/-! ## The schedule -/

/-- The credit of a transfer. -/
def N : ℕ := (slotAt (comm false) 0).view.dmaCredit
theorem N_pos : 0 < N := View.dmaCredit_pos _ (by decide)
theorem dmaCredit_chunk (r : Bool) (c : Dev nD) (k : ℕ) : (chunk r c k).view.dmaCredit = N := rfl
theorem dmaCredit_dst (ph r : Bool) (c : Dev nD) (s : ℕ) : (dstB ph r c s).view.dmaCredit = N := by cases ph <;> cases r <;> rfl
theorem dmaCredit_src (ph r : Bool) (c : Dev nD) (s : ℕ) : (srcB ph r c s).view.dmaCredit = N := rfl

def dutiesC : Ce → ℕ → Finset ℕ
  | .bar, R => if R = 0 then {0, 1} else ∅
  | .snd _ _ k, R => if 2 * R + k.val < 31 then {0} else ∅
  | .rcv _ _ k, R => if 2 * R + k.val < 31 then {0} else ∅
  | .crd _ _, R => if R = 0 then Finset.range 29 else ∅

def amountC : Ce → ℕ
  | .bar => 1
  | .snd _ _ _ => N
  | .rcv _ _ _ => N
  | .crd _ _ => 1

/-- What the device after hands at the barrier on a ring: its two landing slots. -/
def barPay (r : Bool) (c : Dev nD) : sProp 𝕄 := iprop(blkAny (nxt r c) (rblk false r (nxt r c) 0) ∗ blkAny (nxt r c) (rblk false r (nxt r c) 1))

def payC (c : Dev nD) : Ce → ℕ → ℕ → sProp 𝕄
  | .bar, _, d => barPay (decide (d = 1)) c
  | .snd ph r k, R, _ => blkPts c (sblk ph r c (2 * R + k.val)) (val I ph r c (2 * R + k.val))
  | .rcv ph r k, R, _ => blkPts c (rblk ph r c (2 * R + k.val)) (val I ph r (prv r c) (2 * R + k.val))
  | .crd ph r, _, d => bigSep (Finset.range (d + 1)) fun i => Release.released ES ((nxt r c, ph, r, i) : Key) 1

theorem amountC_pos (k : Ce) : 0 < amountC k := by cases k <;> first | exact Nat.one_pos | exact N_pos

def Rd : Schedule (GSem nD τ sig) ℕ 𝕄 where
  duties g R := if g.1.2 = .tc then (match ofSem g.2 with | some k => dutiesC k R | none => ∅) else ∅
  unitless _ := False
  amount g _ _ := match ofSem g.2 with | some k => amountC k | none => 1
  payload g R d := match ofSem g.2 with | some k => payC I g.1.1 k R d | none => iprop(emp)
  amount_pos g _ _ _ := by
    cases h : ofSem g.2 with
    | none => exact Nat.one_pos
    | some k => exact amountC_pos k

instance payC_storable (c : Dev nD) (k : Ce) (R d : ℕ) : BI.Storable (upEmb : UEmb _ 𝕄) (payC I c k R d) := by
  cases k <;> unfold payC <;> (try unfold barPay) <;> infer_instance

instance Rd_storable (g : GSem nD τ sig) (R d : ℕ) : BI.Storable (upEmb : UEmb _ 𝕄) ((Rd I).payload g R d) := by
  show BI.Storable upEmb (match ofSem g.2 with | some k => payC I g.1.1 k R d | none => iprop(emp))
  cases ofSem g.2 <;> infer_instance

theorem duties_cell (c : Dev nD) (k : Ce) (R : ℕ) : (Rd I).duties (cell c k) R = dutiesC k R := by
  dsimp only [Rd]; rw [if_pos rfl, ofSem_csem]
theorem amount_cell (c : Dev nD) (k : Ce) (R d : ℕ) : (Rd I).amount (cell c k) R d = amountC k := by
  dsimp only [Rd]; rw [ofSem_csem]
theorem payload_cell (c : Dev nD) (k : Ce) (R d : ℕ) : (Rd I).payload (cell c k) R d = payC I c k R d := by
  dsimp only [Rd]; rw [ofSem_csem]
theorem expect_cell (c : Dev nD) (k : Ce) (R : ℕ) : (Rd I).expect (cell c k) R = (dutiesC k R).card * amountC k := by
  unfold Schedule.expect Schedule.amountOf
  rw [duties_cell, Finset.sum_congr rfl fun d _ => amount_cell I c k R d, Finset.sum_const, smul_eq_mul]

/-! ## Hand-overs through the credits -/

/-- What a credit of step `s` frees on the device `d` that pays it: the block the transfer `s + 2` fills, with its receive
    semaphore at that transfer's turn; the last credit of the reduce-scatter also frees the two blocks the first two
    all-gather transfers fill. -/
def res (ph r : Bool) (d : Dev nD) (s : ℕ) : sProp 𝕄 :=
  iprop(blkAny d (rblk ph r d (s + 2)) ∗ reached ER (cell d (.rcv ph r (par s))) (s / 2 + 1)
    ∗ (if ph = false ∧ s = 28 then iprop(blkAny d (chunk r d 0) ∗ blkAny d (chunk r d 1)) else iprop(emp)))

def resK (k : Key) : sProp 𝕄 := res k.2.1 k.2.2.1 k.1 k.2.2.2

instance res_storable (ph r : Bool) (d : Dev nD) (s : ℕ) : BI.Storable (upEmb : UEmb _ 𝕄) (res (F := F) ph r d s) := by
  unfold res; split <;> infer_instance
instance resK_storable (k : Key) : BI.Storable (upEmb : UEmb _ 𝕄) (resK (F := F) k) := by unfold resK; infer_instance

theorem rblk_nonempty (ph r : Bool) (d : Dev nD) (s : ℕ) : (rblk ph r d s).view.set.Nonempty := (rblk ph r d s).view.set_nonempty (by decide)

omit [FloatOps F] in
theorem res_res_false (k : Key) : iprop(resK k ∗ resK k) ⊢ (False : sProp 𝕄) := by
  unfold resK res blkAny
  obtain ⟨i, hi⟩ := rblk_nonempty k.2.1 k.2.2.1 k.1 (k.2.2.2 + 2)
  iintro ⟨⟨⟨%f, Hf⟩, -⟩, ⟨⟨%g, Hg⟩, -⟩⟩
  iapply (pointsTo_overlap_false (q := fullShare) (f := f) (g := g) hi hi)
  isplitl [Hf] <;> iassumption

/-! ## What is owed, and the levels -/

abbrev T : Type := CellTallies nD τ sig ℕ

/-- A cell's indices: the steps. -/
def L (g : GSem nD τ sig) : Finset ℕ := if g.1.2 = .tc then Finset.range 32 else ∅
theorem L_of_ne (g : GSem nD τ sig) (h : g.1.2 ≠ .tc) : L g = ∅ := if_neg h
theorem L_tc (c : Dev nD) (sm : SemLoc sig) : L ((c : Thread nD τ), sm) = Finset.range 32 := if_pos rfl

def base (ph : Bool) : ℕ := if ph then 100 else 0

def lvC : Ce → ℕ → ℕ
  | .bar, _ => 1
  | .snd _ _ _, _ => 0
  | .rcv ph _ _, i => base ph + 2 * i + 2
  | .crd ph _, i => base ph + 2 * i + 3

/-- The steps' order: everything waited for is below everything still owed. -/
def lv (g : GSem nD τ sig) (i : ℕ) : ℕ := match ofSem g.2 with | some k => lvC k i | none => 0

theorem lv_cell (c : Dev nD) (k : Ce) (i : ℕ) : lv (cell c k) i = lvC k i := by unfold lv; rw [ofSem_csem]

/-- The transfers a ring still owes the device after, from step `n` on, and the credits it owes the device before. -/
def owS (ph r : Bool) (c : Dev nD) (n : ℕ) : T := ∑ i ∈ Finset.Ico n 31, tallyAt (cell (nxt r c) (.rcv ph r (par i))) i N
def owC (ph r : Bool) (c : Dev nD) (n : ℕ) : T := ∑ i ∈ Finset.Ico n 29, tallyAt (cell (prv r c) (.crd ph r)) i 1
/-- Both. -/
def ow (ph r : Bool) (c : Dev nD) (n g : ℕ) : T := owS ph r c n + owC ph r c g

theorem owS_step (ph r : Bool) (c : Dev nD) (n : ℕ) (h : n < 31) :
    owS ph r c n = owS ph r c (n + 1) + tallyAt (cell (nxt r c) (.rcv ph r (par n))) n N := by
  unfold owS; rw [Finset.sum_eq_sum_Ico_succ_bot h, add_comm]
theorem owC_step (ph r : Bool) (c : Dev nD) (n : ℕ) (h : n < 29) :
    owC ph r c n = owC ph r c (n + 1) + tallyAt (cell (prv r c) (.crd ph r)) n 1 := by
  unfold owC; rw [Finset.sum_eq_sum_Ico_succ_bot h, add_comm]
theorem owS_end (ph r : Bool) (c : Dev nD) : owS ph r c 31 = 0 := by unfold owS; rw [Finset.Ico_self, Finset.sum_empty]
theorem owC_end (ph r : Bool) (c : Dev nD) : owC ph r c 29 = 0 := by unfold owC; rw [Finset.Ico_self, Finset.sum_empty]

/-- Everything in `O` is at an index of its cell and above level `n`. -/
def Above (n : ℕ) (O : T) : Prop := ∀ g i, 0 < O g i → i ∈ L g ∧ n < lv g i

theorem Above.add {n : ℕ} {O O' : T} (h : Above n O) (h' : Above n O') : Above n (O + O') := fun g i hg => by
  rw [Pi.add_apply, Finsupp.add_apply] at hg
  by_cases h0 : 0 < O g i
  · exact h g i h0
  · exact h' g i (by omega)

theorem Above.mono {m n : ℕ} {O : T} (h : Above n O) (hm : m ≤ n) : Above m O := fun g i hg => ⟨(h g i hg).1, lt_of_le_of_lt hm (h g i hg).2⟩

theorem Above.zero (n : ℕ) : Above n 0 := fun g i hg => absurd hg (Nat.lt_irrefl 0)

theorem Above.tally (n : ℕ) (c : Dev nD) (k : Ce) (i j : ℕ) (hi : i < 32) (h : n < lvC k i) : Above n (tallyAt (cell c k) i j) := fun g u hg => by
  rw [tallyAt_apply] at hg
  split at hg
  · rename_i hgu
    obtain ⟨rfl, rfl⟩ := hgu
    exact ⟨by rw [L_tc]; exact Finset.mem_range.mpr hi, by rw [lv_cell]; exact h⟩
  · exact absurd hg (Nat.lt_irrefl 0)

theorem Above.sum {n : ℕ} (S : Finset ℕ) (f : ℕ → T) (h : ∀ i ∈ S, Above n (f i)) : Above n (∑ i ∈ S, f i) :=
  Finset.sum_induction f (Above n) (fun _ _ => Above.add) (Above.zero n) h

theorem above_ow (ph r : Bool) (c : Dev nD) (n g ℓ : ℕ) (hn : n < 31 → ℓ < base ph + 2 * n + 2) (hg : g < 29 → ℓ < base ph + 2 * g + 3) :
    Above ℓ (ow ph r c n g) := by
  refine Above.add (Above.sum _ _ fun i hi => ?_) (Above.sum _ _ fun i hi => ?_)
  · have := Finset.mem_Ico.mp hi
    exact Above.tally _ _ _ _ _ (by omega) (by have := hn (by omega); show ℓ < base ph + 2 * i + 2; omega)
  · have := Finset.mem_Ico.mp hi
    exact Above.tally _ _ _ _ _ (by omega) (by have := hg (by omega); show ℓ < base ph + 2 * i + 3; omega)

end Cert.KernelIdeal.Looped

end
-- ==== Proof.Ops.lean ====
/-
  What each operation of the rings does to the ghost state: a transfer, a landing, a read-out, a credit paid, a credit taken.
-/
module

public import proofs.«01_k».proof.Proof.Cells
public import Idealize.ShloMosaic.Lib.Tactic
public import Idealize.SL.BI.BigOpNat

@[expose] public section

noncomputable section

namespace Cert.KernelIdeal.Looped

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F)

abbrev 𝒱₀ : Variants := Variants.none

/-- The weakest precondition of a part of the body, on device `c`. -/
abbrev WP {α : Type} (c : Dev nD) (p : P F α) (Q : α → sProp 𝕄) : sProp 𝕄 :=
  wp frame (wpE (defs₀ (F := F)) 𝒱₀ (c : Thread nD τ) none) Set.univ p Q

/-- Weaken what holds after `p`. -/
theorem WP_wand {c : Dev nD} {A B : sProp 𝕄} {p : P F PUnit} {Q : PUnit → sProp 𝕄} (h : A ⊢ WP c p (fun _ => B)) :
    iprop(A ∗ (B -∗ Q ⟨⟩)) ⊢ WP c p Q := by
  unfold WP at h ⊢
  iintro ⟨HA, Hk⟩
  iapply (wp_wand_r _ _ _ (Q := fun _ => B))
  isplitl [HA]; · iapply h; iexact HA
  iintro %a HB
  iapply Hk; iexact HB

/-- Run `p`, established from `A` to `B`, and go on from `B`. -/
theorem WP_seq {c : Dev nD} {A B : sProp 𝕄} {α : Type} {p : P F PUnit} {k : PUnit → P F α} {Q : α → sProp 𝕄} (h : A ⊢ WP c p (fun _ => B)) :
    iprop(A ∗ (B -∗ WP c (k ⟨⟩) Q)) ⊢ WP c (p >>= k) Q := by
  unfold WP
  rw [wp_bind]
  exact WP_wand (Q := fun a => WP c (k a) Q) h

/-- All steps' hand-overs. -/
def keys : Finset Key := Finset.univ ×ˢ (Finset.univ ×ˢ (Finset.univ ×ˢ Finset.range 29))
theorem mem_keys (d : Dev nD) (ph r : Bool) (s : ℕ) (h : s < 29) : ((d, ph, r, s) : Key) ∈ keys := by
  unfold keys; simp only [Finset.mem_product, Finset.mem_univ, true_and]; exact Finset.mem_range.mpr h

variable (K : Dev nD × Ce → ℕ) (J : Key → ℕ)

/-- What every device knows: the cells' and the hand-overs' invariants, that every cell has reached round 0, the levels. -/
def recs : sProp 𝕄 :=
  iprop((bigSep Finset.univ fun x : Dev nD × Ce => cellInv ER (Rd I) (K x) (cell x.1 x.2))
    ∗ (bigSep Finset.univ fun x : Dev nD × Ce => reached ER (cell x.1 x.2) 0)
    ∗ (bigSep keys fun k => Release.slotInv ES (J k) k (resK (F := F) k)) ∗ levAts L lv)

instance recs_persistent : BI.Persistent (recs I K J) := by unfold recs; infer_instance

theorem recs_inv (c : Dev nD) (k : Ce) : recs I K J ⊢ cellInv ER (Rd I) (K (c, k)) (cell c k) := by
  unfold recs
  have h : (bigSep Finset.univ fun x : Dev nD × Ce => cellInv ER (Rd I) (K x) (cell x.1 x.2)) ⊢ cellInv ER (Rd I) (K (c, k)) (cell c k) :=
    bigSep_elim (Finset.mem_univ ((c, k) : Dev nD × Ce)) (Φ := fun x : Dev nD × Ce => cellInv ER (Rd I) (K x) (cell x.1 x.2))
  iintro ⟨H, -⟩
  iapply h; iexact H
theorem recs_reached (c : Dev nD) (k : Ce) : recs I K J ⊢ reached ER (cell c k) 0 := by
  unfold recs
  have h : (bigSep Finset.univ fun x : Dev nD × Ce => reached ER (cell x.1 x.2) 0) ⊢ (reached ER (cell c k) 0 : sProp 𝕄) :=
    bigSep_elim (Finset.mem_univ ((c, k) : Dev nD × Ce)) (Φ := fun x : Dev nD × Ce => reached ER (cell x.1 x.2) 0)
  iintro ⟨-, H, -⟩
  iapply h; iexact H
theorem recs_slot (k : Key) (h : k ∈ keys) : recs I K J ⊢ Release.slotInv ES (J k) k (resK (F := F) k) := by
  unfold recs
  have h' : (bigSep keys fun k => Release.slotInv ES (J k) k (resK (F := F) k)) ⊢ Release.slotInv ES (J k) k (resK (F := F) k) :=
    bigSep_elim h (Φ := fun k => Release.slotInv ES (J k) k (resK (F := F) k))
  iintro ⟨-, -, H, -⟩
  iapply h'; iexact H
/-- A wait on one of the device's cells at index `i` is allowed while everything owed is above its level. -/
theorem recs_may (c : Dev nD) (k : Ce) (i : ℕ) (hi : i < 32) {O : T} (h : Above (lvC k i) O) :
    recs I K J ⊢ MayWait (c : Thread nD τ) (csem k) i O := by
  have h1 : (levAts L lv : sProp 𝕄) ⊢ MayWait (c : Thread nD τ) (csem k) i O :=
    MayOwe.of_cut (L := L) (lev := lv) (lvC k i) (fun p hp => by rw [Finset.mem_singleton.mp hp, L_tc]; exact Finset.mem_range.mpr hi)
      (fun g u hg => (h g u hg).1) (fun p hp => by rw [Finset.mem_singleton.mp hp]; exact le_of_eq (lv_cell c k i)) (fun g u hg => (h g u hg).2)
  unfold recs
  iintro ⟨-, -, -, H⟩
  iapply h1; iexact H

/-- What a device owes, whatever it has waited for. -/
def Owe (c : Dev nD) (O : T) : sProp 𝕄 := iprop(∃ W, owes (c : Thread nD τ) O W)

omit [FloatOps F] in
theorem Owe_of {c : Dev nD} {O O' : T} (h : O = O') : (Owe c O : sProp 𝕄) ⊢ Owe c O' := by subst h; exact BI.Entails.refl _

/-! ## The state of a ring's semaphores on a device -/

/-- How many of the first `n` steps use the `k`-th of a pair. -/
def cnt (n : ℕ) (k : Fin 2) : ℕ := (n + 1 - k.val) / 2

theorem cnt_par (n : ℕ) : cnt n (par n) = n / 2 := by unfold cnt par; show (n + 1 - n % 2) / 2 = n / 2; omega
theorem cnt_succ_par (n : ℕ) : cnt (n + 1) (par n) = n / 2 + 1 := by unfold cnt par; show (n + 1 + 1 - n % 2) / 2 = n / 2 + 1; omega
theorem cnt_pred_par (n : ℕ) (h : 1 ≤ n) : cnt (n - 1) (par n) = n / 2 := by unfold cnt par; show (n - 1 + 1 - n % 2) / 2 = n / 2; omega
theorem cnt_succ_ne (n : ℕ) (k : Fin 2) (h : k ≠ par n) : cnt (n + 1) k = cnt n k := by
  have hk := k.isLt
  have : k.val ≠ n % 2 := fun e => h (Fin.ext e)
  unfold cnt; omega
theorem par_split (n : ℕ) : (Finset.univ : Finset (Fin 2)) = insert (par n) {par (n + 1)} := by
  ext k
  have hk := k.isLt
  simp only [Finset.mem_univ, Finset.mem_insert, Finset.mem_singleton, true_iff]
  rcases Nat.mod_two_eq_zero_or_one n with h | h <;> rcases (by omega : k.val = 0 ∨ k.val = 1) with h' | h'
  · exact Or.inl (Fin.ext (by show k.val = n % 2; omega))
  · exact Or.inr (Fin.ext (by show k.val = (n + 1) % 2; omega))
  · exact Or.inr (Fin.ext (by show k.val = (n + 1) % 2; omega))
  · exact Or.inl (Fin.ext (by show k.val = n % 2; omega))
theorem par_succ_ne (n : ℕ) : par (n + 1) ≠ par n := fun e => by
  have := congrArg Fin.val e
  have h : (n + 1) % 2 = n % 2 := this
  omega

/-- The positions of a pair of cells after `n` steps. -/
def Pos (c : Dev nD) (f : Fin 2 → Ce) (n : ℕ) : sProp 𝕄 :=
  bigSep Finset.univ fun k : Fin 2 => iprop(atPos ER (cell c (f k)) (cnt n k) ∅ 0 ∗ reached ER (cell c (f k)) (cnt n k))

omit [FloatOps F] in
theorem Pos_split (c : Dev nD) (f : Fin 2 → Ce) (n m : ℕ) :
    (Pos c f n : sProp 𝕄) = iprop((atPos ER (cell c (f (par m))) (cnt n (par m)) ∅ 0 ∗ reached ER (cell c (f (par m))) (cnt n (par m)))
      ∗ (atPos ER (cell c (f (par (m + 1)))) (cnt n (par (m + 1))) ∅ 0 ∗ reached ER (cell c (f (par (m + 1)))) (cnt n (par (m + 1))))) := by
  unfold Pos
  rw [par_split m, bigSep_insert (fun h => par_succ_ne m (Finset.mem_singleton.mp h).symm), bigSep_singleton]
  rfl

omit [FloatOps F] in
/-- Step `n` moves its cell to the next round. -/
theorem Pos_step (c : Dev nD) (f : Fin 2 → Ce) (n : ℕ) :
    (Pos c f n : sProp 𝕄) ⊢ iprop(atPos ER (cell c (f (par n))) (n / 2) ∅ 0 ∗ reached ER (cell c (f (par n))) (n / 2)
      ∗ ((atPos ER (cell c (f (par n))) (n / 2 + 1) ∅ 0 ∗ reached ER (cell c (f (par n))) (n / 2 + 1)) -∗ Pos c f (n + 1))) := by
  rw [Pos_split c f n n, Pos_split c f (n + 1) n, cnt_par, cnt_succ_par, cnt_succ_ne n _ (par_succ_ne n)]
  iintro ⟨⟨H1, H2⟩, H3⟩
  isplitl [H1]; · iexact H1
  isplitl [H2]; · iexact H2
  iintro H
  isplitl [H]; · iexact H
  iexact H3

omit [FloatOps F] in
theorem Pos_reached (c : Dev nD) (f : Fin 2 → Ce) (l n : ℕ) (h : l ≤ n) (h' : n ≤ l + 1) :
    (Pos c f l : sProp 𝕄) ⊢ iprop(reached ER (cell c (f (par n))) (n / 2) ∗ Pos c f l) := by
  rw [Pos_split c f l n, show cnt l (par n) = n / 2 from ?_]
  · iintro ⟨⟨H1, #H2⟩, H3⟩
    isplitr; · iexact H2
    isplitl [H1]
    · isplitl [H1]; · iexact H1
      iexact H2
    · iexact H3
  · rcases (by omega : l = n ∨ (1 ≤ n ∧ l = n - 1)) with rfl | ⟨h1, rfl⟩
    · exact cnt_par _
    · exact cnt_pred_par _ h1

/-- Transfers: read-outs up to `l` done, transfers up to `n` started. -/
def Snd (ph r : Bool) (c : Dev nD) (l n : ℕ) : sProp 𝕄 :=
  iprop(Pos c (Ce.snd ph r) l
    ∗ (bigSep (Finset.Ico l n) fun i => cred (tallyAt (cell c (.snd ph r (par i))) i N))
    ∗ (bigSep (Finset.Ico n 31) fun i => iprop(dutyTok ER (cell c (.snd ph r (par i))) (i / 2) 0 ∗ dutyTok ER (cell (nxt r c) (.rcv ph r (par i))) (i / 2) 0)))

/-- Landings: up to `a` waited for. -/
def Arr (ph r : Bool) (c : Dev nD) (a : ℕ) : sProp 𝕄 :=
  iprop(Pos c (Ce.rcv ph r) a ∗ (bigSep (Finset.Ico a 31) fun i => cred (tallyAt (cell c (.rcv ph r (par i))) i N)))

/-- Credits paid: up to `g`. -/
def Sg (ph r : Bool) (c : Dev nD) (g : ℕ) : sProp 𝕄 :=
  iprop((bigSep (Finset.range g) fun i => Release.released ES ((c, ph, r, i) : Key) 1)
    ∗ (bigSep (Finset.Ico g 29) fun i => iprop(dutyTok ER (cell (prv r c) (.crd ph r)) 0 i ∗ Release.readerAt ES ((c, ph, r, i) : Key) 0)))

/-- Credits taken: `l` of them. -/
def Cw (ph r : Bool) (c : Dev nD) (l : ℕ) : sProp 𝕄 :=
  iprop((∃ S : Finset ℕ, ⌜S ⊆ Finset.range 29 ∧ l ≤ S.card⌝ ∗ atPos ER (cell c (.crd ph r)) 0 S l
      ∗ bigSep S fun d => bigSep (Finset.range (d + 1)) fun i => Release.released ES ((nxt r c, ph, r, i) : Key) 1)
    ∗ (bigSep (Finset.Ico l 29) fun i => iprop(cred (tallyAt (cell c (.crd ph r)) i 1) ∗ Release.writeTok ES ((nxt r c, ph, r, i) : Key) 1)))

/-! ## The schedule at a step -/

theorem step_eq (s : ℕ) : 2 * (s / 2) + (par s).val = s := by show 2 * (s / 2) + s % 2 = s; omega

theorem duties_snd (ph r : Bool) (c : Dev nD) (s : ℕ) (h : s < 31) : (Rd I).duties (cell c (.snd ph r (par s))) (s / 2) = {0} := by
  rw [duties_cell]; show (if 2 * (s / 2) + (par s).val < 31 then {0} else ∅ : Finset ℕ) = {0}; rw [step_eq, if_pos h]
theorem duties_rcv (ph r : Bool) (c : Dev nD) (s : ℕ) (h : s < 31) : (Rd I).duties (cell c (.rcv ph r (par s))) (s / 2) = {0} := by
  rw [duties_cell]; show (if 2 * (s / 2) + (par s).val < 31 then {0} else ∅ : Finset ℕ) = {0}; rw [step_eq, if_pos h]
theorem expect_snd (ph r : Bool) (c : Dev nD) (s : ℕ) (h : s < 31) : (Rd I).expect (cell c (.snd ph r (par s))) (s / 2) = N := by
  rw [expect_cell]; show (if 2 * (s / 2) + (par s).val < 31 then {0} else ∅ : Finset ℕ).card * N = N; rw [step_eq, if_pos h, Finset.card_singleton, one_mul]
theorem expect_rcv (ph r : Bool) (c : Dev nD) (s : ℕ) (h : s < 31) : (Rd I).expect (cell c (.rcv ph r (par s))) (s / 2) = N := by
  rw [expect_cell]; show (if 2 * (s / 2) + (par s).val < 31 then {0} else ∅ : Finset ℕ).card * N = N; rw [step_eq, if_pos h, Finset.card_singleton, one_mul]
theorem payload_snd (ph r : Bool) (c : Dev nD) (s : ℕ) :
    (Rd I).payload (cell c (.snd ph r (par s))) (s / 2) 0 = blkPts c (sblk ph r c s) (val I ph r c s) := by
  rw [payload_cell]; show blkPts c (sblk ph r c (2 * (s / 2) + (par s).val)) (val I ph r c (2 * (s / 2) + (par s).val)) = _; rw [step_eq]
theorem payload_rcv (ph r : Bool) (c : Dev nD) (s : ℕ) :
    (Rd I).payload (cell c (.rcv ph r (par s))) (s / 2) 0 = blkPts c (rblk ph r c s) (val I ph r (prv r c) s) := by
  rw [payload_cell]; show blkPts c (rblk ph r c (2 * (s / 2) + (par s).val)) (val I ph r (prv r c) (2 * (s / 2) + (par s).val)) = _; rw [step_eq]

theorem payload_crd (ph r : Bool) (c : Dev nD) (g : ℕ) :
    (Rd I).payload (cell c (.crd ph r)) 0 g = bigSep (Finset.range (g + 1)) fun i => Release.released ES ((nxt r c, ph, r, i) : Key) 1 := by
  rw [payload_cell]; rfl

omit [FloatOps F] in
theorem released_succ (c : Dev nD) (ph r : Bool) (g : ℕ) :
    (bigSep (Finset.range (g + 1)) fun i => Release.released ES ((c, ph, r, i) : Key) 1 : sProp 𝕄)
      = iprop(Release.released ES ((c, ph, r, g) : Key) 1 ∗ bigSep (Finset.range g) fun i => Release.released ES ((c, ph, r, i) : Key) 1) := by
  rw [Finset.range_add_one, bigSep_insert Finset.notMem_range_self]; rfl

/-! ## The operations -/

/-- A transfer, the blocks and semaphores given by equations. -/
theorem send_at (ph r : Bool) (c : Dev nD) (n l : ℕ) (hn : n < 31) (hl : l ≤ n) (hl' : n ≤ l + 1) (O : T)
    {src dst : Blk} {sS sem : SemLoc sig} {c' : Dev nD} (hc' : c' = nxt r c)
    (hsrc : src = sblk ph r c n) (hdst : dst = rblk ph r (nxt r c) n) (hN : dst.view.amount sem = N)
    (hsS : sS = csem (.snd ph r (par n))) (hsem : sem = csem (.rcv ph r (par n)))
    {hsc : dst.view.ref.isScScratch = false} {h₁ : src.view.WordExact} {h₂ : dst.view.WordExact}
    {h₃ : DmaTarget.Typed (nD := nD) (τ := τ) (sig := sig) (p := .tc) .vmem sem (.remote (Dev.tc c') dst sS hsc)} :
    iprop(recs I K J ∗ Owe c (owS ph r c n + O) ∗ Snd ph r c l n ∗ blkPts c (sblk ph r c n) (val I ph r c n)
        ∗ blkAny (nxt r c) (rblk ph r (nxt r c) n) ∗ reached ER (cell (nxt r c) (.rcv ph r (par n))) (n / 2))
      ⊢ WP c (Prog.lift (.enqueueDma src (.remote (Dev.tc c') dst sS hsc) sem h₁ h₂ h₃) : P F PUnit)
          fun _ => iprop(Owe c (owS ph r c (n + 1) + O) ∗ Snd ph r c l (n + 1)) := by
  subst hc' hsrc hdst hsS hsem
  simp only [Prog.lift]
  unfold Owe Snd blkPts blkAny
  rw [bigSep_Ico_succ_bot hn (fun i => iprop(dutyTok ER (cell c (.snd ph r (par i))) (i / 2) 0 ∗ dutyTok ER (cell (nxt r c) (.rcv ph r (par i))) (i / 2) 0)),
    bigSep_Ico_succ_top hl (fun i => cred (tallyAt (cell c (.snd ph r (par i))) i N))]
  iintro ⟨#HR, ⟨%W, HO⟩, ⟨HP, HC, ⟨HtS, HtR⟩, HT⟩, ⟨%f, %hf, Hs⟩, ⟨%g, Hd⟩, #Hr⟩
  ihave HP' := (Pos_reached c (Ce.snd ph r) l n hl hl') $$ HP
  icases HP' with ⟨#HrS, HP⟩
  iapply (Rounds.wp_send_pointsTo 𝒱₀ ER (Rd I) (c : Thread nD τ) none (κ₁ := K (c, .snd ph r (par n))) (κ₂ := K (nxt r c, .rcv ph r (par n)))
    (r₁ := n / 2) (r₂ := n / 2) (d₁ := 0) (d₂ := 0) (fs := f) (fd := g) (q := fullShare) (W := W)
    (by rw [duties_snd I ph r c n hn]; exact Finset.mem_singleton_self _) (by rw [duties_rcv I ph r (nxt r c) n hn]; exact Finset.mem_singleton_self _)
    n n N hN (amount_cell I c (.snd ph r (par n)) (n / 2) 0) (amount_cell I (nxt r c) (.rcv ph r (par n)) (n / 2) 0) (owS ph r c (n + 1) + O)
    ((congrArg (· + O) (owS_step ph r c n hn)).trans (add_right_comm _ _ _))
    (by
      rw [payload_snd I ph r c n]; unfold blkPts
      iintro H; iexists f; isplitr; · ipureintro; exact hf
      iexact H)
    (by
      rw [payload_rcv I ph r (nxt r c) n, prv_nxt]; unfold blkPts
      iintro H; iexists ((rblk ph r (nxt r c) n).view.write (Elt F) g ((sblk ph r c n).view.read (Elt F) f) Finset.univ); isplitr
      · ipureintro; exact (View.read_write_univ _ _).trans hf
      iexact H)) $$ [HO HtS HtR Hs Hd]
  · isplitr; · iapply (recs_inv I K J c (.snd ph r (par n))); iexact HR
    isplitr; · iapply (recs_inv I K J (nxt r c) (.rcv ph r (par n))); iexact HR
    isplitl [Hs]; · iexact Hs
    isplitl [Hd]; · iexact Hd
    isplitl [HO]; · iexact HO
    isplitl [HtS]; · iexact HtS
    isplitr; · iexact HrS
    isplitl [HtR]; · iexact HtR
    iexact Hr
  iintro ⟨Hc, HO⟩
  rw [wp_ret]; imodintro
  isplitl [HO]; · iexists W; iexact HO
  isplitl [HP]; · iexact HP
  isplitl [Hc HC]
  · isplitl [Hc]; · iexact Hc
    iexact HC
  iexact HT

theorem send_op (ph r : Bool) (c : Dev nD) (n l : ℕ) (hn : n < 31) (hl : l ≤ n) (hl' : n ≤ l + 1) (O : T) :
    iprop(recs I K J ∗ Owe c (owS ph r c n + O) ∗ Snd ph r c l n ∗ blkPts c (sblk ph r c n) (val I ph r c n)
        ∗ blkAny (nxt r c) (rblk ph r (nxt r c) n) ∗ reached ER (cell (nxt r c) (.rcv ph r (par n))) (n / 2))
      ⊢ WP c ((wires ph r c).send n : P F PUnit) fun _ => iprop(Owe c (owS ph r c (n + 1) + O) ∗ Snd ph r c l (n + 1)) :=
  send_at I K J ph r c n l hn hl hl' O rfl (srcB_eq ph r c n hn) (dstB_eq ph r c n hn) ((View.amount_dma _ _).trans (dmaCredit_dst ph r c n)) (csem_snd ph r n).symm (csem_rcv ph r n).symm

/-- A wait on one of a device's transfer semaphores, the semaphore given by an equation. -/
theorem wait_at (c : Dev nD) (k : Ce) (n : ℕ) (hn : n < 31) (O : T) (ha : Above (lvC k n) O) (P : sProp 𝕄)
    (hD : (Rd I).duties (cell c k) (n / 2) = {0}) (hE : (Rd I).expect (cell c k) (n / 2) = N) (hP : (Rd I).payload (cell c k) (n / 2) 0 = P)
    {sem : DmaSem sig} (hsem : .dma sem = csem k) {src dst : Blk} {h₁ : src.view.WordExact} {h₂ : dst.view.WordExact} (hN : dst.view.dmaCredit = N) :
    iprop(recs I K J ∗ Owe c O ∗ cred (tallyAt (cell c k) n N) ∗ atPos ER (cell c k) (n / 2) ∅ 0)
      ⊢ WP c (Prog.lift (.waitDma2 sem src dst h₁ h₂) : Looped.P F PUnit)
          fun _ => iprop(Owe c O ∗ (atPos ER (cell c k) (n / 2 + 1) ∅ 0 ∗ reached ER (cell c k) (n / 2 + 1)) ∗ P) := by
  have hcell : cell c k = ((c : Thread nD τ), SemLoc.dma sem) := by rw [hsem]
  have hmay := recs_may I K J c k n (by omega) ha
  have hinv := recs_inv I K J c k
  rw [hcell] at hD hE hP hinv ⊢
  rw [← hsem] at hmay
  have hpay : (bigSep ((Rd I).duties ((c : Thread nD τ), SemLoc.dma sem) (n / 2) \ ∅) fun d => (Rd I).payload ((c : Thread nD τ), SemLoc.dma sem) (n / 2) d) ⊢ P :=
    Entails.of_eq (by rw [hD, Finset.sdiff_empty, bigSep_singleton, hP])
  simp only [Prog.lift]
  unfold Owe
  iintro ⟨#HR, ⟨%W, HO⟩, Hc, Hat⟩
  iapply (Rounds.wp_wait_rest_token 𝒱₀ ER (Rd I) (c : Thread nD τ) none (κ := K (c, k))
    (wpE_waitDma2_eq 𝒱₀ (c : Thread nD τ) none Set.univ) (Set.mem_univ _) n (O := O) (W := W) (R := n / 2) (m := 0) (T := ∅)
    (by rw [hE, hN, Nat.zero_add])) $$ [HO Hc Hat]
  · isplitr; · iapply hinv; iexact HR
    isplitl [Hc]; · rw [hN]; iexact Hc
    isplitl [HO]; · iexact HO
    isplitr; · iapply hmay; iexact HR
    iexact Hat
  iintro ⟨HO, Hat, Hr, Hp⟩
  rw [wp_ret]; imodintro
  isplitl [HO]; · iexists _; iexact HO
  isplitl [Hat Hr]; · isplitl [Hat] <;> iassumption
  iapply hpay; iexact Hp

/-- A read-out: the block comes back. -/
theorem leave_op (ph r : Bool) (c : Dev nD) (l n : ℕ) (hl : l < n) (hl' : l < 31) (O : T) (hO : Above 0 O) :
    iprop(recs I K J ∗ Owe c O ∗ Snd ph r c l n)
      ⊢ WP c ((wires ph r c).leave l : P F PUnit) fun _ => iprop(Owe c O ∗ Snd ph r c (l + 1) n ∗ blkPts c (sblk ph r c l) (val I ph r c l)) := by
  unfold Snd
  rw [bigSep_Ico_succ_bot hl (fun i => cred (tallyAt (cell c (.snd ph r (par i))) i N))]
  iintro ⟨#HR, HO, HP, ⟨Hc, HC⟩, HT⟩
  ihave HP' := (Pos_step c (Ce.snd ph r) l) $$ HP
  icases HP' with ⟨Hat, -, Hback⟩
  iapply (WP_wand (wait_at I K J c (.snd ph r (par l)) l hl' O hO _ (duties_snd I ph r c l hl') (expect_snd I ph r c l hl') (payload_snd I ph r c l)
      (csem_snd ph r l).symm (dmaCredit_src ph r c l)))
  isplitl [HO Hc Hat]
  · isplitr; · iexact HR
    isplitl [HO]; · iexact HO
    isplitl [Hc] <;> iassumption
  iintro ⟨HO, Hat, Hb⟩
  isplitl [HO]; · iexact HO
  isplitl [Hat Hback HC HT]
  · isplitl [Hat Hback]; · iapply Hback; iexact Hat
    isplitl [HC] <;> iassumption
  iexact Hb

/-- A landing: the filled block. -/
theorem arrive_op (ph r : Bool) (c : Dev nD) (a : ℕ) (ha : a < 31) (O : T) (hO : Above (base ph + 2 * a + 2) O) :
    iprop(recs I K J ∗ Owe c O ∗ Arr ph r c a)
      ⊢ WP c ((wires ph r c).arrive a : P F PUnit) fun _ => iprop(Owe c O ∗ Arr ph r c (a + 1)
          ∗ reached ER (cell c (.rcv ph r (par a))) (a / 2 + 1) ∗ blkPts c (rblk ph r c a) (val I ph r (prv r c) a)) := by
  unfold Arr
  rw [bigSep_Ico_succ_bot ha (fun i => cred (tallyAt (cell c (.rcv ph r (par i))) i N))]
  iintro ⟨#HR, HO, HP, ⟨Hc, HC⟩⟩
  ihave HP' := (Pos_step c (Ce.rcv ph r) a) $$ HP
  icases HP' with ⟨Hat, -, Hback⟩
  iapply (WP_wand (wait_at I K J c (.rcv ph r (par a)) a ha O hO _ (duties_rcv I ph r c a ha) (expect_rcv I ph r c a ha) (payload_rcv I ph r c a)
      (csem_rcv ph r a).symm (dmaCredit_dst ph r c a)))
  isplitl [HO Hc Hat]
  · isplitr; · iexact HR
    isplitl [HO]; · iexact HO
    isplitl [Hc] <;> iassumption
  iintro ⟨HO, ⟨Hat, #Hr⟩, Hb⟩
  isplitl [HO]; · iexact HO
  isplitl [Hat Hback HC]
  · isplitl [Hat Hback]
    · iapply Hback; isplitl [Hat]; · iexact Hat
      iexact Hr
    iexact HC
  isplitr; · iexact Hr
  iexact Hb

/-- A credit paid: what the step freed goes over. -/
theorem signal_op (ph r : Bool) (c : Dev nD) (g : ℕ) (hg : g < 29) (O : T) :
    iprop(recs I K J ∗ Owe c (owC ph r c g + O) ∗ Sg ph r c g ∗ res ph r c g)
      ⊢ WP c (semSignalWord (wires ph r c).prv (wires ph r c).crd.sem 1#32 : P F PUnit)
          fun _ => iprop(Owe c (owC ph r c (g + 1) + O) ∗ Sg ph r c (g + 1)) := by
  have hrel : ∀ i, BI.Persistent (Release.released ES ((c, ph, r, i) : Key) 1 : sProp 𝕄) := fun i => inferInstance
  unfold Owe Sg
  simp only [semSignalWord]
  rw [bigSep_Ico_succ_bot hg (fun i => iprop(dutyTok ER (cell (prv r c) (.crd ph r)) 0 i ∗ Release.readerAt ES ((c, ph, r, i) : Key) 0)),
    released_succ]
  iintro ⟨#HR, ⟨%W, HO⟩, ⟨#Hrel, ⟨Htok, Hrd⟩, HT⟩, Hres⟩
  unfold WP
  rw [← fupd_wp_eq]
  have hrelP : BI.Persistent (Release.released ES ((c, ph, r, g) : Key) (0 + 1) : sProp 𝕄) := inferInstance
  imod (Release.slot_release ES (k := ((c, ph, r, g) : Key)) (S := resK ((c, ph, r, g) : Key)) (Set.mem_univ (J (c, ph, r, g))) (res_res_false _) 0) $$ [Hrd Hres] with ⟨-, #Hnew⟩
  · isplitr; · iapply (recs_slot I K J _ (mem_keys c ph r g hg)); iexact HR
    isplitl [Hrd]; · iexact Hrd
    unfold resK; iexact Hres
  imodintro
  iapply (Rounds.wp_signal 𝒱₀ ER (Rd I) (c : Thread nD τ) none (dst := (prv r c : Thread nD τ)) (sem := (crdA ph r).sem) (κ := K (prv r c, .crd ph r)) (r := 0)
      (d := g) (k' := 1) (by
        rw [show ((prv r c : Thread nD τ), SemLoc.reg (crdA ph r).sem) = cell (prv r c) (.crd ph r) from rfl, duties_cell]
        exact Finset.mem_range.mpr hg) (amount_cell I (prv r c) (.crd ph r) 0 g) g (owC ph r c (g + 1) + O)
      ((congrArg (· + O) (owC_step ph r c g hg)).trans (add_right_comm _ _ _)) (W := W)) $$ [HO Htok]
  · isplitr; · iapply (recs_inv I K J (prv r c) (.crd ph r)); iexact HR
    isplitl [HO]; · iexact HO
    isplitl [Htok]; · iexact Htok
    isplitr
    · rw [show ((prv r c : Thread nD τ), SemLoc.reg (crdA ph r).sem) = cell (prv r c) (.crd ph r) from rfl, payload_crd, nxt_prv, released_succ]
      isplitr; · iexact Hnew
      iexact Hrel
    iapply (recs_reached I K J (prv r c) (.crd ph r)); iexact HR
  iintro HO
  rw [wp_ret]; imodintro
  isplitl [HO]; · iexists W; iexact HO
  isplitr
  · isplitr; · iexact Hnew
    iexact Hrel
  iexact HT

/-- A credit taken: what the step `l` of the device after freed. -/
theorem credit_op (ph r : Bool) (c : Dev nD) (l : ℕ) (hl : l < 29) (O : T) (hO : Above (base ph + 2 * l + 3) O) :
    iprop(recs I K J ∗ Owe c O ∗ Cw ph r c l)
      ⊢ WP c (semWaitWord (wires ph r c).crd.sem 1#32 : P F PUnit)
          fun _ => iprop(Owe c O ∗ Cw ph r c (l + 1) ∗ res ph r (nxt r c) l) := by
  have hD : (Rd I).duties (cell c (.crd ph r)) 0 = Finset.range 29 := by rw [duties_cell]; rfl
  have hE : (Rd I).expect (cell c (.crd ph r)) 0 = 29 := by rw [expect_cell]; rfl
  unfold Owe Cw
  simp only [semWaitWord]
  rw [bigSep_Ico_succ_bot hl (fun i => iprop(cred (tallyAt (cell c (.crd ph r)) i 1) ∗ Release.writeTok ES ((nxt r c, ph, r, i) : Key) 1))]
  iintro ⟨#HR, ⟨%W, HO⟩, ⟨%S, %hS, Hat, #Hpay⟩, ⟨Hc, Hw⟩, HT⟩
  unfold WP
  iapply (Rounds.wp_wait 𝒱₀ ER (Rd I) (c : Thread nD τ) none (sm := .reg (crdA ph r).sem) (k' := 1) (κ := K (c, .crd ph r))
    (wpE_semWait_eq 𝒱₀ (c : Thread nD τ) none Set.univ) (Set.mem_univ _) (cr := Finsupp.single l 1) (O := O) (W := W) {(.reg (crdA ph r).sem, l)}
    (R := 0) (m := l) (T := S) (Util.total_single l 1) (image_single_subset _ l 1)) $$ [HO Hc Hat]
  · isplitr; · iapply (recs_inv I K J c (.crd ph r)); iexact HR
    isplitl [Hc]; · iexact Hc
    isplitl [HO]; · iexact HO
    isplitr; · iapply (recs_may I K J c (.crd ph r) l (by omega) hO); iexact HR
    iexact Hat
  iintro %S' ⟨%hS', HO, Hat, Hnew⟩
  rw [show ((c : Thread nD τ), SemLoc.reg (crdA ph r).sem) = cell c (.crd ph r) from rfl, hD, hE] at hS'
  have hcard : l + 1 ≤ S'.card := by
    have := Finset.card_sdiff_of_subset hS'.2.1
    have h2 := Finset.card_le_card hS'.2.1
    rw [Finset.card_range] at this h2
    omega
  obtain ⟨d, hd, hdl⟩ : ∃ d ∈ S', l ≤ d := by
    by_contra hno
    push Not at hno
    have := Finset.card_le_card (fun d hd => Finset.mem_range.mpr (hno d hd) : S' ⊆ Finset.range l)
    rw [Finset.card_range] at this; omega
  have hpers : BI.Persistent (bigSep (S' \ S) fun d => (Rd I).payload (cell c (.crd ph r)) 0 d) := by
    rw [bigSep_congr (fun d _ => payload_cell I c (.crd ph r) 0 d)]
    unfold payC; infer_instance
  have hall : iprop((bigSep S fun d => bigSep (Finset.range (d + 1)) fun i => Release.released ES ((nxt r c, ph, r, i) : Key) 1)
      ∗ bigSep (S' \ S) fun d => (Rd I).payload (cell c (.crd ph r)) 0 d)
      ⊢ (bigSep S' fun d => bigSep (Finset.range (d + 1)) fun i => Release.released ES ((nxt r c, ph, r, i) : Key) 1 : sProp 𝕄) := by
    rw [bigSep_congr (fun d _ => payload_cell I c (.crd ph r) 0 d)]
    exact Entails.of_eq ((bigSep_union Finset.disjoint_sdiff).symm.trans (by rw [Finset.union_sdiff_of_subset hS'.1]))
  ihave #Hall := hall $$ [Hnew]
  · isplitr; · iexact Hpay
    iexact Hnew
  have hget : (bigSep S' fun d => bigSep (Finset.range (d + 1)) fun i => Release.released ES ((nxt r c, ph, r, i) : Key) 1)
      ⊢ (Release.released ES ((nxt r c, ph, r, l) : Key) 1 : sProp 𝕄) :=
    (bigSep_elim hd).trans (bigSep_elim (Finset.mem_range.mpr (Nat.lt_succ_of_le hdl)) (Φ := fun i => Release.released ES ((nxt r c, ph, r, i) : Key) 1))
  rw [wp_ret]
  imod (Release.slot_take ES (k := ((nxt r c, ph, r, l) : Key)) (S := resK ((nxt r c, ph, r, l) : Key)) (Set.mem_univ (J (nxt r c, ph, r, l))) 1) $$ [Hw] with Hres
  · isplitr; · iapply (recs_slot I K J _ (mem_keys (nxt r c) ph r l hl)); iexact HR
    isplitr
    · iapply hget
      iexact Hall
    iexact Hw
  imodintro
  isplitl [HO]; · iexists _; iexact HO
  isplitl [Hat HT]
  · isplitl [Hat]
    · iexists S'
      isplitr; · ipureintro; exact ⟨hS'.2.1, hcard⟩
      isplitl [Hat]; · iexact Hat
      iexact Hall
    iexact HT
  unfold resK; iexact Hres

end Cert.KernelIdeal.Looped

end
-- ==== Proof.Phases.lean ====
/-
  The two phases: what a device holds before each step of a ring, and that each step takes it to the next.
-/
module

public import proofs.«01_k».proof.Proof.Ops
public import Idealize.ShloMosaic.Lib.Pipeline.Value

@[expose] public section

noncomputable section

namespace Cert.KernelIdeal.Looped

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (K : Dev nD × Ce → ℕ) (J : Key → ℕ)

/-! ## The arithmetic of a step -/

theorem pay2_eq (own : Vec F S128x1024 .f32) (s : ℕ) (r : Bool) (g : (slotAt (comm r) s).view.ty.Contents (Elt F)) :
    k0_pay2 own (((comm r).access (Rect.unit (s := S2x128x1024) ![s % 2, 0, 0] S1x128x1024.size (slot_inb s)) : View sig .tc _ _ _).read (Elt F) g)
      = addf own ((slotAt (comm r) s).view.read (Elt F) g) := by
  unfold k0_pay2
  rw [shapeCast_self]
  rfl

section Access
variable (c : Dev nD) (o : Fin 2 → ℕ) (h : ∀ a, o a + S128x1024.size a ≤ S4096x2048.size a)

/-- A load of a block of the result. -/
theorem load_blk {α : Type} {Q : α → sProp 𝕄} {hl : (outM : Memref sig .tc .vmem S4096x2048 .f32).view.LoadsAt (Rect.unit (s := S4096x2048) o S128x1024.size h).toLoadRect}
    {k : Vec F S128x1024 .f32 → P F α} (f : Buf (Elt F) ((blkAt outM o h).view.loc (c : Thread nD τ))) :
    ((blkAt outM o h).view.loc (c : Thread nD τ) ↦[(blkAt outM o h).view.set]{fullShare} f)
      ⊢ iprop((((blkAt outM o h).view.loc (c : Thread nD τ) ↦[(blkAt outM o h).view.set]{fullShare} f) -∗ wp frame (wpE (defs₀ (F := F)) 𝒱₀ (c : Thread nD τ) none) Set.univ (k ((blkAt outM o h).view.read (Elt F) f)) Q)
          -∗ wp frame (wpE (defs₀ (F := F)) 𝒱₀ (c : Thread nD τ) none) Set.univ (.op (.load outM (Rect.unit (s := S4096x2048) o S128x1024.size h).toLoadRect hl) k) Q) :=
  wp_load_rect 𝒱₀ (c : Thread nD τ) none Set.univ (m := outM) (r := Rect.unit (s := S4096x2048) o S128x1024.size h) (hl := hl) (k := k) (S := (blkAt outM o h).view.set) (f := f) (q := fullShare) (Finset.Subset.refl _)

/-- A store of a block of the result. -/
theorem store_blk {α : Type} {Q : α → sProp 𝕄} {w : Vec F S128x1024 .f32} {hx : ((outM : Memref sig .tc .vmem S4096x2048 .f32).access (Rect.unit (s := S4096x2048) o S128x1024.size h)).Stores Finset.univ}
    {hm : (Finset.univ : Finset (Rect.unit (s := S4096x2048) o S128x1024.size h).shape.Idx) = Finset.univ ∨ ∀ a, (Rect.unit (s := S4096x2048) o S128x1024.size h).stride a = 1}
    {k : PUnit → P F α} (f : Buf (Elt F) ((blkAt outM o h).view.loc (c : Thread nD τ))) :
    ((blkAt outM o h).view.loc (c : Thread nD τ) ↦[(blkAt outM o h).view.set]{fullShare} f)
      ⊢ iprop((((blkAt outM o h).view.loc (c : Thread nD τ) ↦[(blkAt outM o h).view.set]{fullShare} ((blkAt outM o h).view.write (Elt F) f w Finset.univ)) -∗ wp frame (wpE (defs₀ (F := F)) 𝒱₀ (c : Thread nD τ) none) Set.univ (k ⟨⟩) Q)
          -∗ wp frame (wpE (defs₀ (F := F)) 𝒱₀ (c : Thread nD τ) none) Set.univ (.op (.store outM (Rect.unit (s := S4096x2048) o S128x1024.size h) w Finset.univ hx hm) k) Q) :=
  wp_store 𝒱₀ (c : Thread nD τ) none Set.univ (m := outM) (r := Rect.unit (s := S4096x2048) o S128x1024.size h) (S := (blkAt outM o h).view.set) (f := f) (View.setOn_univ _).subset

/-- A load of a landing slot. -/
theorem load_slot {α : Type} {Q : α → sProp 𝕄} (r : Bool) (s : ℕ) {hl : (comm r).view.LoadsAt (Rect.unit (s := S2x128x1024) ![s % 2, 0, 0] S1x128x1024.size (slot_inb s)).toLoadRect}
    {k : Vec F S1x128x1024 .f32 → P F α} (g : Buf (Elt F) ((slotAt (comm r) s).view.loc (c : Thread nD τ))) :
    ((slotAt (comm r) s).view.loc (c : Thread nD τ) ↦[(slotAt (comm r) s).view.set]{fullShare} g)
      ⊢ iprop((((slotAt (comm r) s).view.loc (c : Thread nD τ) ↦[(slotAt (comm r) s).view.set]{fullShare} g)
            -∗ wp frame (wpE (defs₀ (F := F)) 𝒱₀ (c : Thread nD τ) none) Set.univ (k (((comm r).access (Rect.unit (s := S2x128x1024) ![s % 2, 0, 0] S1x128x1024.size (slot_inb s)) : View sig .tc _ _ _).read (Elt F) g)) Q)
          -∗ wp frame (wpE (defs₀ (F := F)) 𝒱₀ (c : Thread nD τ) none) Set.univ (.op (.load (comm r) (Rect.unit (s := S2x128x1024) ![s % 2, 0, 0] S1x128x1024.size (slot_inb s)).toLoadRect hl) k) Q) := by
  rw [show (slotAt (comm r) s).view.set = _ from View.set_reshape _ _]
  exact wp_load_rect 𝒱₀ (c : Thread nD τ) none Set.univ (m := comm r) (r := Rect.unit (s := S2x128x1024) ![s % 2, 0, 0] S1x128x1024.size (slot_inb s))
    (hl := hl) (k := k) (f := g) (q := fullShare) (Finset.Subset.refl _)

end Access

/-- What landed is added to the device's own block. -/
theorem add_op (r : Bool) (c : Dev nD) (s k : ℕ) (o : Fin 2 → ℕ) (ho : o = chO r c k) (h : ∀ a, o a + S128x1024.size a ≤ S4096x2048.size a)
    (u v : Vec F S128x1024 .f32) :
    iprop(blkPts c (chunk r c k) u ∗ blkPts c (rblk false r c s) v)
      ⊢ WP c (addIn outM (comm r) s o h) fun _ => iprop(blkPts c (chunk r c k) (addf u v) ∗ blkAny c (rblk false r c s)) := by
  subst ho
  unfold addIn
  rw [show rblk false r c s = slotAt (comm r) s from rfl, show chunk r c k = blkAt outM (chO r c k) h from rfl]
  unfold blkPts blkAny
  simp only [Prog.lift, Prog.bind_op, Prog.bind_ret]
  iintro ⟨⟨%f, %hf, Hf⟩, ⟨%g, %hg, Hg⟩⟩
  unfold WP
  iapply (load_blk c _ h f) $$ Hf
  iintro Hf
  iapply (load_slot c r s g) $$ Hg
  iintro Hg
  iapply (load_blk c _ h f) $$ Hf
  iintro Hf
  iapply (store_blk c _ h f) $$ Hf
  iintro Hf
  rw [wp_ret]; imodintro
  isplitl [Hf]
  · iexists _
    isplitr
    swap; · iexact Hf
    ipureintro
    refine (View.read_write_univ _ _).trans ?_
    refine (pay2_eq _ s r g).trans ?_
    exact congrArg₂ addf hf hg
  · iexists g; iexact Hg

/-- A block is scaled and cut off. -/
theorem finish_op (r : Bool) (c : Dev nD) (k : ℕ) (o : Fin 2 → ℕ) (ho : o = chO r c k) (h : ∀ a, o a + S128x1024.size a ≤ S4096x2048.size a)
    (u : Vec F S128x1024 .f32) (sc : F .f32) :
    blkPts c (chunk r c k) u ⊢ WP c (finish outM sc o h) fun _ => blkPts c (chunk r c k) (k0_pay87 sc u) := by
  subst ho
  unfold finish
  rw [show chunk r c k = blkAt outM (chO r c k) h from rfl]
  unfold blkPts
  simp only [Prog.lift, Prog.bind_op, Prog.bind_ret]
  iintro ⟨%f, %hf, Hf⟩
  unfold WP
  iapply (load_blk c _ h f) $$ Hf
  iintro Hf
  iapply (load_blk c _ h f) $$ Hf
  iintro Hf
  iapply (store_blk c _ h f) $$ Hf
  iintro Hf
  rw [wp_ret]; imodintro
  iexists _
  isplitr
  swap; · iexact Hf
  ipureintro
  exact (View.read_write_univ _ _).trans (congrArg (k0_pay87 sc) hf)

/-! ## What follows a landing -/

theorem relay_first (w : Wires) : (w.relay 0 : P F PUnit) = (do semSignalWord w.prv w.crd.sem 1#32; w.send 1) := by
  unfold Wires.relay
  rw [if_pos (by omega), if_neg (by omega), if_pos (by omega)]
theorem relay_mid (w : Wires) (s : ℕ) (h : s < 28) :
    (w.relay (s + 1) : P F PUnit) = (do semSignalWord w.prv w.crd.sem 1#32; semWaitWord w.crd.sem 1#32; w.leave s; w.send (s + 2)) := by
  unfold Wires.relay
  rw [if_pos (by omega), if_pos (by omega), if_pos (by omega)]
  simp only [bind_assoc]; rfl
theorem relay_29 (w : Wires) : (w.relay 29 : P F PUnit) = (do semWaitWord w.crd.sem 1#32; w.leave 28; w.send 30) := by
  unfold Wires.relay
  rw [if_neg (by omega), if_pos (by omega), if_pos (by omega)]
  simp only [bind_assoc]
theorem relay_last (w : Wires) : (w.relay 30 : P F PUnit) = pure ⟨⟩ := by
  unfold Wires.relay
  rw [if_neg (by omega), if_neg (by omega), if_neg (by omega)]

/-- The middle of a step: the credit of step `s` is taken, the read-out of step `s` waited for, transfer `s + 2` started. -/
theorem mid_op (ph r : Bool) (c : Dev nD) (s : ℕ) (hs : s < 29) (O : T) (hO : Above (base ph + 2 * s + 3) (owS ph r c (s + 2) + O)) :
    iprop(recs I K J ∗ Owe c (owS ph r c (s + 2) + O) ∗ Cw ph r c s ∗ Snd ph r c s (s + 2) ∗ blkPts c (sblk ph r c (s + 2)) (val I ph r c (s + 2)))
      ⊢ WP c (do semWaitWord (wires ph r c).crd.sem 1#32; (wires ph r c).leave s; (wires ph r c).send (s + 2) : P F PUnit)
          fun _ => iprop(Owe c (owS ph r c (s + 3) + O) ∗ Cw ph r c (s + 1) ∗ Snd ph r c (s + 1) (s + 3) ∗ blkPts c (sblk ph r c s) (val I ph r c s)
            ∗ (if ph = false ∧ s = 28 then iprop(blkAny (nxt r c) (chunk r (nxt r c) 0) ∗ blkAny (nxt r c) (chunk r (nxt r c) 1)) else iprop(emp))) := by
  have hdiv : (s + 2) / 2 = s / 2 + 1 := by omega
  have hpar : par (s + 2) = par s := Fin.ext (by show (s + 2) % 2 = s % 2; omega)
  iintro ⟨#HR, HO, HC, HS, HB⟩
  iapply (WP_seq (credit_op I K J ph r c s hs _ hO))
  isplitl [HO HC]
  · isplitr; · iexact HR
    isplitl [HO] <;> iassumption
  unfold res
  iintro ⟨HO, HC, Hany, #Hr, Hx⟩
  iapply (WP_seq (leave_op I K J ph r c s (s + 2) (by omega) (by omega) _ (hO.mono (Nat.zero_le _))))
  isplitl [HO HS]
  · isplitr; · iexact HR
    isplitl [HO] <;> iassumption
  iintro ⟨HO, HS, Hold⟩
  iapply (WP_wand (send_op I K J ph r c (s + 2) (s + 1) (by omega) (by omega) (by omega) O))
  isplitl [HO HS HB Hany]
  · isplitr; · iexact HR
    isplitl [HO]; · iexact HO
    isplitl [HS]; · iexact HS
    isplitl [HB]; · iexact HB
    isplitl [Hany]; · iexact Hany
    rw [hdiv, hpar]; iexact Hr
  iintro ⟨HO, HS⟩
  isplitl [HO]; · iexact HO
  isplitl [HC]; · iexact HC
  isplitl [HS]; · iexact HS
  isplitl [Hold]; · iexact Hold
  iexact Hx

/-- After the first landing. -/
theorem first_op (ph r : Bool) (c : Dev nD) (O : T) :
    iprop(recs I K J ∗ Owe c (ow ph r c 1 0 + O) ∗ Sg ph r c 0 ∗ Snd ph r c 0 1 ∗ res ph r c 0 ∗ blkPts c (sblk ph r c 1) (val I ph r c 1)
        ∗ blkAny (nxt r c) (rblk ph r (nxt r c) 1))
      ⊢ WP c ((wires ph r c).relay 0 : P F PUnit) fun _ => iprop(Owe c (ow ph r c 2 1 + O) ∗ Sg ph r c 1 ∗ Snd ph r c 0 2) := by
  rw [relay_first]
  iintro ⟨#HR, HO, HG, HS, Hres, HB, Hany⟩
  iapply (WP_seq (signal_op I K J ph r c 0 (by omega) (owS ph r c 1 + O)))
  isplitl [HO HG Hres]
  · isplitr; · iexact HR
    isplitl [HO]; · iapply (Owe_of ((add_assoc _ _ _).trans (add_left_comm _ _ _))); iexact HO
    isplitl [HG] <;> iassumption
  iintro ⟨HO, HG⟩
  iapply (WP_wand (send_op I K J ph r c 1 0 (by omega) (by omega) (by omega) (owC ph r c 1 + O)))
  isplitl [HO HS HB Hany]
  · isplitr; · iexact HR
    isplitl [HO]; · iapply (Owe_of (add_left_comm _ _ _)); iexact HO
    isplitl [HS]; · iexact HS
    isplitl [HB]; · iexact HB
    isplitl [Hany]; · iexact Hany
    iapply (recs_reached I K J (nxt r c) (.rcv ph r (par 1))); iexact HR
  iintro ⟨HO, HS⟩
  isplitl [HO]; · iapply (Owe_of (add_assoc _ _ _).symm); iexact HO
  isplitl [HG] <;> iassumption

/-- After a landing from the second to the next to last but one. -/
theorem between_op (ph r : Bool) (c : Dev nD) (j : ℕ) (hj : j < 28) (O : T) (hO : Above (base ph + 2 * j + 3) O) :
    iprop(recs I K J ∗ Owe c (ow ph r c (j + 2) (j + 1) + O) ∗ Sg ph r c (j + 1) ∗ Cw ph r c j ∗ Snd ph r c j (j + 2) ∗ res ph r c (j + 1)
        ∗ blkPts c (sblk ph r c (j + 2)) (val I ph r c (j + 2)))
      ⊢ WP c ((wires ph r c).relay (j + 1) : P F PUnit) fun _ => iprop(Owe c (ow ph r c (j + 3) (j + 2) + O) ∗ Sg ph r c (j + 2) ∗ Cw ph r c (j + 1)
          ∗ Snd ph r c (j + 1) (j + 3) ∗ blkPts c (sblk ph r c j) (val I ph r c j)) := by
  rw [relay_mid _ j hj]
  have hab : Above (base ph + 2 * j + 3) (owS ph r c (j + 2) + (owC ph r c (j + 2) + O)) := by
    rw [← add_assoc]; exact Above.add (above_ow ph r c (j + 2) (j + 2) _ (fun _ => by omega) (fun _ => by omega)) hO
  iintro ⟨#HR, HO, HG, HC, HS, Hres, HB⟩
  iapply (WP_seq (signal_op I K J ph r c (j + 1) (by omega) (owS ph r c (j + 2) + O)))
  isplitl [HO HG Hres]
  · isplitr; · iexact HR
    isplitl [HO]; · iapply (Owe_of ((add_assoc _ _ _).trans (add_left_comm _ _ _))); iexact HO
    isplitl [HG] <;> iassumption
  iintro ⟨HO, HG⟩
  iapply (WP_wand (mid_op I K J ph r c j (by omega) (owC ph r c (j + 2) + O) hab))
  isplitl [HO HC HS HB]
  · isplitr; · iexact HR
    isplitl [HO]; · iapply (Owe_of (add_left_comm _ _ _)); iexact HO
    isplitl [HC]; · iexact HC
    isplitl [HS] <;> iassumption
  iintro ⟨HO, HC, HS, Hold, -⟩
  isplitl [HO]; · iapply (Owe_of (add_assoc _ _ _).symm); iexact HO
  isplitl [HG]; · iexact HG
  isplitl [HC]; · iexact HC
  isplitl [HS] <;> iassumption

/-- After the last landing but one. -/
theorem late_op (ph r : Bool) (c : Dev nD) (O : T) (hO : Above (base ph + 59) O) :
    iprop(recs I K J ∗ Owe c (ow ph r c 30 29 + O) ∗ Cw ph r c 28 ∗ Snd ph r c 28 30 ∗ blkPts c (sblk ph r c 30) (val I ph r c 30))
      ⊢ WP c ((wires ph r c).relay 29 : P F PUnit) fun _ => iprop(Owe c (ow ph r c 31 29 + O) ∗ Cw ph r c 29
          ∗ Snd ph r c 29 31 ∗ blkPts c (sblk ph r c 28) (val I ph r c 28)
          ∗ (if ph = false ∧ 28 = 28 then iprop(blkAny (nxt r c) (chunk r (nxt r c) 0) ∗ blkAny (nxt r c) (chunk r (nxt r c) 1)) else iprop(emp))) := by
  rw [relay_29]
  have hab : Above (base ph + 2 * 28 + 3) (owS ph r c 30 + (owC ph r c 29 + O)) := by
    rw [← add_assoc]; exact Above.add (above_ow ph r c 30 29 _ (fun _ => by omega) (fun _ => by omega)) hO
  iintro ⟨#HR, HO, HC, HS, HB⟩
  iapply (WP_wand (mid_op I K J ph r c 28 (by omega) (owC ph r c 29 + O) hab))
  isplitl [HO HC HS HB]
  · isplitr; · iexact HR
    isplitl [HO]; · iapply (Owe_of (add_assoc _ _ _)); iexact HO
    isplitl [HC]; · iexact HC
    isplitl [HS] <;> iassumption
  iintro ⟨HO, HC, HS, Hold, Hx⟩
  isplitl [HO]; · iapply (Owe_of (add_assoc _ _ _).symm); iexact HO
  isplitl [HC]; · iexact HC
  isplitl [HS]; · iexact HS
  isplitl [Hold] <;> iassumption

/-! ## The reduce-scatter -/

/-- The landing of step `s` and its addition to the device's own block. -/
theorem rs_front (r : Bool) (c : Dev nD) (s g : ℕ) (hs : s < 31) (hg : g < 29 → s ≤ g) (O : T) (hO : Above (2 * s + 2) O) (Q : PUnit → sProp 𝕄) :
    iprop(recs I K J ∗ Owe c (ow false r c (s + 1) g + O) ∗ Arr false r c s ∗ blkPts c (chunk r c (s + 1)) (ownC I r c (s + 1))
        ∗ ((Owe c (ow false r c (s + 1) g + O) ∗ Arr false r c (s + 1) ∗ reached ER (cell c (.rcv false r (par s))) (s / 2 + 1)
              ∗ blkAny c (rblk false r c s) ∗ blkPts c (sblk false r c (s + 1)) (val I false r c (s + 1)))
            -∗ WP c ((wires false r c).relay s) Q))
      ⊢ WP c (rsHalf r c s) Q := by
  have hab : Above (base false + 2 * s + 2) (ow false r c (s + 1) g + O) :=
    Above.add (above_ow false r c (s + 1) g _ (fun _ => by omega) (fun h => by have := hg h; omega)) (hO.mono (by show 0 + 2 * s + 2 ≤ _; omega))
  have ho : addO r c (BitVec.ofNat 32 (s % 31)) = chO r c (s + 1) := by
    rw [Nat.mod_eq_of_lt hs]; exact addO_eq r c ⟨s, hs⟩
  unfold rsHalf
  iintro ⟨#HR, HO, HA, HB, Hk⟩
  iapply (WP_seq (arrive_op I K J false r c s hs _ hab))
  isplitl [HO HA]
  · isplitr; · iexact HR
    isplitl [HO] <;> iassumption
  iintro ⟨HO, HA, Hr, HV⟩
  iapply (WP_seq (add_op r c s (s + 1) _ ho (off_ofNat (addO_inb r c) s) (ownC I r c (s + 1)) (val I false r (prv r c) s)))
  isplitl [HB HV]
  · isplitl [HB] <;> iassumption
  iintro ⟨HB, HV⟩
  iapply Hk
  isplitl [HO]; · iexact HO
  isplitl [HA]; · iexact HA
  isplitl [Hr]; · iexact Hr
  isplitl [HV]; · iexact HV
  iexact HB

/-- Blocks of the device, `S` of them, with any contents. -/
def anys (r : Bool) (c : Dev nD) (S : Finset ℕ) : sProp 𝕄 := bigSep S fun k => blkAny c (chunk r c k)
/-- The device's own product in the blocks from `k` on. -/
def todo (r : Bool) (c : Dev nD) (k : ℕ) : sProp 𝕄 := bigSep (Finset.Ico k 32) fun k => blkPts c (chunk r c k) (ownC I r c k)
/-- The two blocks of the device after that the first two all-gather transfers fill. -/
def ahead (r : Bool) (c : Dev nD) : sProp 𝕄 := iprop(blkAny (nxt r c) (chunk r (nxt r c) 0) ∗ blkAny (nxt r c) (chunk r (nxt r c) 1))

theorem todo_succ (r : Bool) (c : Dev nD) (k : ℕ) (h : k < 32) :
    todo I r c k = iprop(blkPts c (chunk r c k) (ownC I r c k) ∗ todo I r c (k + 1)) :=
  bigSep_Ico_succ_bot h _
theorem todo_end (r : Bool) (c : Dev nD) : (todo I r c 32) = (iprop(emp) : sProp 𝕄) := by unfold todo; rw [Finset.Ico_self, bigSep_empty]; rfl
omit [FloatOps F] in
theorem anys_succ (r : Bool) (c : Dev nD) (a k : ℕ) (h : a ≤ k) :
    (anys r c (Finset.Ico a (k + 1)) : sProp 𝕄) = iprop(blkAny c (chunk r c k) ∗ anys r c (Finset.Ico a k)) :=
  bigSep_Ico_succ_top h _
omit [FloatOps F] in
theorem anys_bot (r : Bool) (c : Dev nD) (a k : ℕ) (h : a < k) :
    (anys r c (Finset.Ico a k) : sProp 𝕄) = iprop(blkAny c (chunk r c a) ∗ anys r c (Finset.Ico (a + 1) k)) :=
  bigSep_Ico_succ_bot h _

/-- What a device holds of a ring before the reduce-scatter step after step `j`, up to step 28. -/
def RSmid (r : Bool) (c : Dev nD) (j : ℕ) : sProp 𝕄 :=
  iprop(Arr false r c (j + 1) ∗ Sg false r c (j + 1) ∗ Cw false r c j ∗ Snd false r c j (j + 2) ∗ todo I r c (j + 2) ∗ anys r c (Finset.Ico 0 j))
/-- Before step 29, before step 30, and at the end. -/
def RS29 (r : Bool) (c : Dev nD) : sProp 𝕄 :=
  iprop(Arr false r c 29 ∗ Sg false r c 29 ∗ Cw false r c 28 ∗ Snd false r c 28 30 ∗ todo I r c 30 ∗ anys r c (Finset.Ico 2 28))
def RS30 (r : Bool) (c : Dev nD) : sProp 𝕄 :=
  iprop(Arr false r c 30 ∗ Sg false r c 29 ∗ Cw false r c 29 ∗ Snd false r c 29 31 ∗ todo I r c 31 ∗ anys r c (Finset.Ico 2 29)
    ∗ ahead r c ∗ blkAny c (rblk false r c 29))
def RS31 (r : Bool) (c : Dev nD) : sProp 𝕄 :=
  iprop(Arr false r c 31 ∗ Sg false r c 29 ∗ Cw false r c 29 ∗ Snd false r c 29 31 ∗ anys r c (Finset.Ico 2 29)
    ∗ ahead r c ∗ blkAny c (rblk false r c 29) ∗ blkAny c (rblk false r c 30) ∗ blkPts c (chunk r c 31) (acc I r c 31))

/-- What a device holds of a ring before reduce-scatter step `s`. -/
def RS (r : Bool) (c : Dev nD) : ℕ → sProp 𝕄
  | 0 => iprop(Arr false r c 0 ∗ Sg false r c 0 ∗ Cw false r c 0 ∗ Snd false r c 0 1 ∗ todo I r c 1 ∗ blkAny (nxt r c) (rblk false r (nxt r c) 1))
  | j + 1 => if j < 28 then RSmid I r c j else if j = 28 then RS29 I r c else if j = 29 then RS30 I r c else RS31 I r c

theorem RS_zero (r : Bool) (c : Dev nD) : RS I r c 0
    = iprop(Arr false r c 0 ∗ Sg false r c 0 ∗ Cw false r c 0 ∗ Snd false r c 0 1 ∗ todo I r c 1 ∗ blkAny (nxt r c) (rblk false r (nxt r c) 1)) := rfl
theorem RS_mid (r : Bool) (c : Dev nD) (j : ℕ) (h : j < 28) : RS I r c (j + 1) = RSmid I r c j := if_pos h
theorem RS_29 (r : Bool) (c : Dev nD) : RS I r c (28 + 1) = RS29 I r c := by
  show (if (28 : ℕ) < 28 then RSmid I r c 28 else if (28 : ℕ) = 28 then RS29 I r c else if (28 : ℕ) = 29 then RS30 I r c else RS31 I r c) = _
  rw [if_neg (by omega), if_pos rfl]
theorem RS_30 (r : Bool) (c : Dev nD) : RS I r c (29 + 1) = RS30 I r c := by
  show (if (29 : ℕ) < 28 then RSmid I r c 29 else if (29 : ℕ) = 28 then RS29 I r c else if (29 : ℕ) = 29 then RS30 I r c else RS31 I r c) = _
  rw [if_neg (by omega), if_neg (by omega), if_pos rfl]
theorem RS_31 (r : Bool) (c : Dev nD) : RS I r c (30 + 1) = RS31 I r c := by
  show (if (30 : ℕ) < 28 then RSmid I r c 30 else if (30 : ℕ) = 28 then RS29 I r c else if (30 : ℕ) = 29 then RS30 I r c else RS31 I r c) = _
  rw [if_neg (by omega), if_neg (by omega), if_neg (by omega)]

/-- What a ring owes before step `s` of a phase. -/
def owAt (ph r : Bool) (c : Dev nD) (s : ℕ) : T := ow ph r c (min (s + 1) 31) (min s 29)

theorem owAt_eq (ph r : Bool) (c : Dev nD) (s n g : ℕ) (hn : min (s + 1) 31 = n) (hg : min s 29 = g) : owAt ph r c s = ow ph r c n g := by
  unfold owAt; rw [hn, hg]

theorem above_owAt (ph r : Bool) (c : Dev nD) (s ℓ : ℕ) (h : ℓ ≤ base ph + 2 * s + 2) : Above ℓ (owAt ph r c s) :=
  above_ow ph r c _ _ _ (fun h' => by omega) (fun h' => by omega)

/-- The block that a step's credit hands over. -/
theorem res_rs (r : Bool) (c : Dev nD) (s : ℕ) (h : s ≠ 28) :
    iprop(blkAny c (rblk false r c s) ∗ reached ER (cell c (.rcv false r (par s))) (s / 2 + 1)) ⊢ (res false r c s : sProp 𝕄) := by
  unfold res
  rw [rblk_two, if_neg (fun h' => h h'.2)]
  iintro ⟨H1, H2⟩
  isplitl [H1]; · iexact H1
  isplitl [H2]; · iexact H2
  iempintro
theorem res_rs28 (r : Bool) (c : Dev nD) :
    iprop(blkAny c (rblk false r c 28) ∗ reached ER (cell c (.rcv false r (par 28))) 15 ∗ blkAny c (chunk r c 0) ∗ blkAny c (chunk r c 1)) ⊢ (res false r c 28 : sProp 𝕄) := by
  unfold res
  rw [show rblk false r c (28 + 2) = rblk false r c 28 from rblk_two r c 28, if_pos ⟨rfl, rfl⟩]

theorem steps_rs (s : ℕ) (hs : s < 31) : s = 0 ∨ (∃ j, s = j + 1 ∧ j < 27) ∨ s = 28 ∨ s = 29 ∨ s = 30 := by
  rcases s with _ | j
  · exact Or.inl rfl
  · by_cases h : j < 27
    · exact Or.inr (Or.inl ⟨j, rfl, h⟩)
    · omega

theorem rs_half (r : Bool) (c : Dev nD) (s : ℕ) (hs : s < 31) (O : T) (hO : Above (2 * s + 2) O) :
    iprop(recs I K J ∗ Owe c (owAt false r c s + O) ∗ RS I r c s)
      ⊢ WP c (rsHalf r c s) fun _ => iprop(Owe c (owAt false r c (s + 1) + O) ∗ RS I r c (s + 1)) := by
  rcases steps_rs s hs with rfl | ⟨j, rfl, hj⟩ | rfl | rfl | rfl
  · rw [owAt_eq false r c 0 1 0 rfl rfl, owAt_eq false r c (0 + 1) 2 1 rfl rfl]
    rw [RS_zero, RS_mid I r c 0 (by omega), todo_succ I r c 1 (by omega)]
    unfold RSmid
    iintro ⟨#HR, HO, HA, HG, HC, HS, ⟨HB, HT⟩, Hany⟩
    iapply (rs_front I K J r c 0 0 hs (fun _ => le_refl _) O hO)
    isplitr; · iexact HR
    isplitl [HO]; · iexact HO
    isplitl [HA]; · iexact HA
    isplitl [HB]; · iexact HB
    iintro ⟨HO, HA, Hr, HV, HB⟩
    iapply (WP_wand (first_op I K J false r c O))
    isplitl [HO HG HS Hr HV HB Hany]
    · isplitr; · iexact HR
      isplitl [HO]; · iexact HO
      isplitl [HG]; · iexact HG
      isplitl [HS]; · iexact HS
      isplitl [HV Hr]
      · iapply (res_rs r c 0 (by omega)); isplitl [HV] <;> iassumption
      isplitl [HB] <;> iassumption
    iintro ⟨HO, HG, HS⟩
    isplitl [HO]; · iexact HO
    isplitl [HA]; · iexact HA
    isplitl [HG]; · iexact HG
    isplitl [HC]; · iexact HC
    isplitl [HS]; · iexact HS
    isplitl [HT]; · iexact HT
    unfold anys; rw [Finset.Ico_self, bigSep_empty]; iempintro
  · rw [owAt_eq false r c (j + 1) (j + 2) (j + 1) (by omega) (by omega), owAt_eq false r c (j + 1 + 1) (j + 3) (j + 2) (by omega) (by omega)]
    rw [RS_mid I r c j (by omega), RS_mid I r c (j + 1) (by omega)]
    unfold RSmid
    rw [todo_succ I r c (j + 2) (by omega), anys_succ r c 0 j (Nat.zero_le _)]
    iintro ⟨#HR, HO, HA, HG, HC, HS, ⟨HB, HT⟩, Hold⟩
    iapply (rs_front I K J r c (j + 1) (j + 1) hs (fun _ => le_refl _) O hO)
    isplitr; · iexact HR
    isplitl [HO]; · iexact HO
    isplitl [HA]; · iexact HA
    isplitl [HB]; · iexact HB
    iintro ⟨HO, HA, Hr, HV, HB⟩
    iapply (WP_wand (between_op I K J false r c j (by omega) O (hO.mono (by show 0 + 2 * j + 3 ≤ _; omega))))
    isplitl [HO HG HC HS Hr HV HB]
    · isplitr; · iexact HR
      isplitl [HO]; · iexact HO
      isplitl [HG]; · iexact HG
      isplitl [HC]; · iexact HC
      isplitl [HS]; · iexact HS
      isplitl [HV Hr]
      · iapply (res_rs r c (j + 1) (by omega)); isplitl [HV] <;> iassumption
      iexact HB
    iintro ⟨HO, HG, HC, HS, Hnew⟩
    isplitl [HO]; · iexact HO
    isplitl [HA]; · iexact HA
    isplitl [HG]; · iexact HG
    isplitl [HC]; · iexact HC
    isplitl [HS]; · iexact HS
    isplitl [HT]; · iexact HT
    isplitl [Hnew]; · iapply (blkPts_any c (chunk r c j) _); iexact Hnew
    iexact Hold
  · rw [owAt_eq false r c 28 29 28 rfl rfl, owAt_eq false r c (28 + 1) 30 29 rfl rfl]
    rw [RS_29, show RS I r c 28 = RSmid I r c 27 from RS_mid I r c 27 (by omega)]
    unfold RSmid RS29
    rw [todo_succ I r c (27 + 2) (by omega), anys_bot r c 0 27 (by omega),
      anys_bot r c 1 27 (by omega), anys_succ r c 2 27 (by omega)]
    iintro ⟨#HR, HO, HA, HG, HC, HS, ⟨HB, HT⟩, ⟨H0, H1, Hold⟩⟩
    iapply (rs_front I K J r c 28 28 hs (fun _ => le_refl _) O hO)
    isplitr; · iexact HR
    isplitl [HO]; · iexact HO
    isplitl [HA]; · iexact HA
    isplitl [HB]; · iexact HB
    iintro ⟨HO, HA, Hr, HV, HB⟩
    iapply (WP_wand (between_op I K J false r c 27 (by omega) O (hO.mono (by show 0 + 2 * 27 + 3 ≤ _; omega))))
    isplitl [HO HG HC HS Hr HV HB H0 H1]
    · isplitr; · iexact HR
      isplitl [HO]; · iexact HO
      isplitl [HG]; · iexact HG
      isplitl [HC]; · iexact HC
      isplitl [HS]; · iexact HS
      isplitl [HV Hr H0 H1]
      · iapply (res_rs28 r c)
        isplitl [HV]; · iexact HV
        isplitl [Hr]; · iexact Hr
        isplitl [H0] <;> iassumption
      iexact HB
    iintro ⟨HO, HG, HC, HS, Hnew⟩
    isplitl [HO]; · iexact HO
    isplitl [HA]; · iexact HA
    isplitl [HG]; · iexact HG
    isplitl [HC]; · iexact HC
    isplitl [HS]; · iexact HS
    isplitl [HT]; · iexact HT
    isplitl [Hnew]; · iapply (blkPts_any c (chunk r c 27) _); iexact Hnew
    iexact Hold
  · rw [owAt_eq false r c 29 30 29 rfl rfl, owAt_eq false r c (29 + 1) 31 29 rfl rfl]
    rw [RS_30, show RS I r c 29 = RS29 I r c from RS_29 I r c]
    unfold RS29 RS30
    rw [todo_succ I r c 30 (by omega), anys_succ r c 2 28 (by omega)]
    iintro ⟨#HR, HO, HA, HG, HC, HS, ⟨HB, HT⟩, Hold⟩
    iapply (rs_front I K J r c 29 29 hs (fun _ => le_refl _) O hO)
    isplitr; · iexact HR
    isplitl [HO]; · iexact HO
    isplitl [HA]; · iexact HA
    isplitl [HB]; · iexact HB
    iintro ⟨HO, HA, -, HV, HB⟩
    iapply (WP_wand (late_op I K J false r c O (hO.mono (by show 0 + 59 ≤ _; omega))))
    isplitl [HO HC HS HB]
    · isplitr; · iexact HR
      isplitl [HO]; · iexact HO
      isplitl [HC]; · iexact HC
      isplitl [HS] <;> iassumption
    rw [if_pos ⟨rfl, rfl⟩]
    iintro ⟨HO, HC, HS, Hnew, Hx⟩
    isplitl [HO]; · iexact HO
    isplitl [HA]; · iexact HA
    isplitl [HG]; · iexact HG
    isplitl [HC]; · iexact HC
    isplitl [HS]; · iexact HS
    isplitl [HT]; · iexact HT
    isplitl [Hnew Hold]
    · isplitl [Hnew]; · iapply (blkPts_any c (chunk r c 28) _); iexact Hnew
      iexact Hold
    isplitl [Hx]; · unfold ahead; iexact Hx
    iexact HV
  · rw [owAt_eq false r c 30 31 29 rfl rfl, owAt_eq false r c (30 + 1) 31 29 rfl rfl]
    rw [RS_31, show RS I r c 30 = RS30 I r c from RS_30 I r c]
    unfold RS30 RS31
    rw [todo_succ I r c 31 (by omega), todo_end]
    iintro ⟨#HR, HO, HA, HG, HC, HS, ⟨HB, -⟩, Hold, Hx, H29⟩
    iapply (rs_front I K J r c 30 29 hs (fun h => absurd h (by omega)) O hO)
    isplitr; · iexact HR
    isplitl [HO]; · iexact HO
    isplitl [HA]; · iexact HA
    isplitl [HB]; · iexact HB
    iintro ⟨HO, HA, -, HV, HB⟩
    rw [relay_last]
    unfold WP
    rw [wp_pure]; imodintro
    isplitl [HO]; · iexact HO
    isplitl [HA]; · iexact HA
    isplitl [HG]; · iexact HG
    isplitl [HC]; · iexact HC
    isplitl [HS]; · iexact HS
    isplitl [Hold]; · iexact Hold
    isplitl [Hx]; · iexact Hx
    isplitl [H29]; · iexact H29
    isplitl [HV]; · iexact HV
    iexact HB

end Cert.KernelIdeal.Looped

end
-- ==== Proof.Run.lean ====
/-
  The all-gather, the loops over the steps, and the body from the barrier to the end.
-/
module

public import proofs.«01_k».proof.Proof.Phases

@[expose] public section

noncomputable section

namespace Cert.KernelIdeal.Looped

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (K : Dev nD × Ce → ℕ) (J : Key → ℕ)

/-! ## The all-gather -/

theorem back_succ (t : ℕ) : back true (t + 1) = t := by
  unfold back; rw [if_pos rfl, if_neg (Nat.succ_ne_zero t)]; rfl

/-- What lands is what the next transfer carries. -/
theorem landed_ag (r : Bool) (c : Dev nD) (t : ℕ) :
    blkPts c (rblk true r c t) (val I true r (prv r c) t) ⊢ blkPts c (sblk true r c (t + 1)) (val I true r c (t + 1)) := by
  unfold sblk; rw [back_succ]; exact BI.Entails.refl _

/-- The landing of step `t`. -/
theorem ag_front (r : Bool) (c : Dev nD) (t g : ℕ) (ht : t < 31) (hg : g < 29 → t ≤ g) (O : T) (hO : Above (100 + 2 * t + 2) O) (Q : PUnit → sProp 𝕄) :
    iprop(recs I K J ∗ Owe c (ow true r c (t + 1) g + O) ∗ Arr true r c t
        ∗ ((Owe c (ow true r c (t + 1) g + O) ∗ Arr true r c (t + 1) ∗ reached ER (cell c (.rcv true r (par t))) (t / 2 + 1)
              ∗ blkPts c (sblk true r c (t + 1)) (val I true r c (t + 1)))
            -∗ WP c ((wires true r c).relay t) Q))
      ⊢ WP c (agHalf r c t) Q := by
  have hab : Above (base true + 2 * t + 2) (ow true r c (t + 1) g + O) :=
    Above.add (above_ow true r c (t + 1) g _ (fun _ => by omega) (fun h => by have := hg h; omega)) (hO.mono (by show 100 + 2 * t + 2 ≤ _; omega))
  unfold agHalf
  iintro ⟨#HR, HO, HA, Hk⟩
  iapply (WP_seq (arrive_op I K J true r c t ht _ hab))
  isplitl [HO HA]
  · isplitr; · iexact HR
    isplitl [HO] <;> iassumption
  iintro ⟨HO, HA, Hr, HV⟩
  iapply Hk
  isplitl [HO]; · iexact HO
  isplitl [HA]; · iexact HA
  isplitl [Hr]; · iexact Hr
  iapply (landed_ag I r c t); iexact HV

/-- The finished blocks that the first `n` transfers carried. -/
def dones (r : Bool) (c : Dev nD) (n : ℕ) : sProp 𝕄 := bigSep (Finset.range n) fun t => blkPts c (sblk true r c t) (val I true r c t)

theorem dones_succ (r : Bool) (c : Dev nD) (n : ℕ) :
    dones I r c (n + 1) = iprop(blkPts c (sblk true r c n) (val I true r c n) ∗ dones I r c n) := bigSep_range_succ _ _

/-- What a device holds of a ring before the all-gather step after step `j`, up to step 29. -/
def AGmid (r : Bool) (c : Dev nD) (j : ℕ) : sProp 𝕄 :=
  iprop(Arr true r c (j + 1) ∗ Sg true r c (j + 1) ∗ Cw true r c j ∗ Snd true r c j (j + 2) ∗ anys r c (Finset.Ico (j + 3) 31) ∗ dones I r c j)
/-- Before step 30, and at the end. -/
def AG30 (r : Bool) (c : Dev nD) : sProp 𝕄 :=
  iprop(Arr true r c 30 ∗ Sg true r c 29 ∗ Cw true r c 29 ∗ Snd true r c 29 31 ∗ dones I r c 29)
def AG31 (r : Bool) (c : Dev nD) : sProp 𝕄 :=
  iprop(Arr true r c 31 ∗ Sg true r c 29 ∗ Cw true r c 29 ∗ Snd true r c 29 31 ∗ dones I r c 29 ∗ blkPts c (sblk true r c 31) (val I true r c 31))

/-- What a device holds of a ring before all-gather step `t`. -/
def AG (r : Bool) (c : Dev nD) : ℕ → sProp 𝕄
  | 0 => iprop(Arr true r c 0 ∗ Sg true r c 0 ∗ Cw true r c 0 ∗ Snd true r c 0 1 ∗ anys r c (Finset.Ico 2 31) ∗ blkAny (nxt r c) (rblk true r (nxt r c) 1))
  | j + 1 => if j < 29 then AGmid I r c j else if j = 29 then AG30 I r c else AG31 I r c

theorem AG_zero (r : Bool) (c : Dev nD) : AG I r c 0
    = iprop(Arr true r c 0 ∗ Sg true r c 0 ∗ Cw true r c 0 ∗ Snd true r c 0 1 ∗ anys r c (Finset.Ico 2 31) ∗ blkAny (nxt r c) (rblk true r (nxt r c) 1)) := rfl
theorem AG_mid (r : Bool) (c : Dev nD) (j : ℕ) (h : j < 29) : AG I r c (j + 1) = AGmid I r c j := if_pos h
theorem AG_30 (r : Bool) (c : Dev nD) : AG I r c (29 + 1) = AG30 I r c := by
  show (if (29 : ℕ) < 29 then AGmid I r c 29 else if (29 : ℕ) = 29 then AG30 I r c else AG31 I r c) = _
  rw [if_neg (by omega), if_pos rfl]
theorem AG_31 (r : Bool) (c : Dev nD) : AG I r c (30 + 1) = AG31 I r c := by
  show (if (30 : ℕ) < 29 then AGmid I r c 30 else if (30 : ℕ) = 29 then AG30 I r c else AG31 I r c) = _
  rw [if_neg (by omega), if_neg (by omega)]

theorem res_ag (r : Bool) (c : Dev nD) (t : ℕ) :
    iprop(blkAny c (chunk r c (t + 2)) ∗ reached ER (cell c (.rcv true r (par t))) (t / 2 + 1)) ⊢ (res true r c t : sProp 𝕄) := by
  unfold res
  rw [if_neg (fun h' => Bool.noConfusion h'.1)]
  iintro ⟨H1, H2⟩
  isplitl [H1]; · iexact H1
  isplitl [H2]; · iexact H2
  iempintro

theorem steps_ag (t : ℕ) (ht : t < 31) : t = 0 ∨ (∃ j, t = j + 1 ∧ j < 28) ∨ t = 29 ∨ t = 30 := by
  rcases t with _ | j
  · exact Or.inl rfl
  · by_cases h : j < 28
    · exact Or.inr (Or.inl ⟨j, rfl, h⟩)
    · omega

theorem ag_half (r : Bool) (c : Dev nD) (t : ℕ) (ht : t < 31) (O : T) (hO : Above (100 + 2 * t + 2) O) :
    iprop(recs I K J ∗ Owe c (owAt true r c t + O) ∗ AG I r c t)
      ⊢ WP c (agHalf r c t) fun _ => iprop(Owe c (owAt true r c (t + 1) + O) ∗ AG I r c (t + 1)) := by
  rcases steps_ag t ht with rfl | ⟨j, rfl, hj⟩ | rfl | rfl
  · rw [owAt_eq true r c 0 1 0 rfl rfl, owAt_eq true r c (0 + 1) 2 1 rfl rfl]
    rw [AG_zero, AG_mid I r c 0 (by omega)]
    unfold AGmid
    rw [anys_bot r c 2 31 (by omega)]
    iintro ⟨#HR, HO, HA, HG, HC, HS, ⟨H2, Hold⟩, Hany⟩
    iapply (ag_front I K J r c 0 0 ht (fun _ => le_refl _) O hO)
    isplitr; · iexact HR
    isplitl [HO]; · iexact HO
    isplitl [HA]; · iexact HA
    iintro ⟨HO, HA, Hr, HB⟩
    iapply (WP_wand (first_op I K J true r c O))
    isplitl [HO HG HS Hr H2 HB Hany]
    · isplitr; · iexact HR
      isplitl [HO]; · iexact HO
      isplitl [HG]; · iexact HG
      isplitl [HS]; · iexact HS
      isplitl [H2 Hr]
      · iapply (res_ag r c 0); isplitl [H2] <;> iassumption
      isplitl [HB] <;> iassumption
    iintro ⟨HO, HG, HS⟩
    isplitl [HO]; · iexact HO
    isplitl [HA]; · iexact HA
    isplitl [HG]; · iexact HG
    isplitl [HC]; · iexact HC
    isplitl [HS]; · iexact HS
    isplitl [Hold]; · iexact Hold
    unfold dones; rw [Finset.range_zero, bigSep_empty]; iempintro
  · rw [owAt_eq true r c (j + 1) (j + 2) (j + 1) (by omega) (by omega), owAt_eq true r c (j + 1 + 1) (j + 3) (j + 2) (by omega) (by omega)]
    rw [AG_mid I r c j (by omega), AG_mid I r c (j + 1) (by omega)]
    unfold AGmid
    rw [anys_bot r c (j + 3) 31 (by omega), dones_succ]
    iintro ⟨#HR, HO, HA, HG, HC, HS, ⟨H2, Hold⟩, HD⟩
    iapply (ag_front I K J r c (j + 1) (j + 1) ht (fun _ => le_refl _) O hO)
    isplitr; · iexact HR
    isplitl [HO]; · iexact HO
    isplitl [HA]; · iexact HA
    iintro ⟨HO, HA, Hr, HB⟩
    iapply (WP_wand (between_op I K J true r c j hj O (hO.mono (by show 100 + 2 * j + 3 ≤ _; omega))))
    isplitl [HO HG HC HS Hr H2 HB]
    · isplitr; · iexact HR
      isplitl [HO]; · iexact HO
      isplitl [HG]; · iexact HG
      isplitl [HC]; · iexact HC
      isplitl [HS]; · iexact HS
      isplitl [H2 Hr]
      · iapply (res_ag r c (j + 1)); isplitl [H2] <;> iassumption
      iexact HB
    iintro ⟨HO, HG, HC, HS, Hnew⟩
    isplitl [HO]; · iexact HO
    isplitl [HA]; · iexact HA
    isplitl [HG]; · iexact HG
    isplitl [HC]; · iexact HC
    isplitl [HS]; · iexact HS
    isplitl [Hold]; · iexact Hold
    isplitl [Hnew] <;> iassumption
  · rw [owAt_eq true r c 29 30 29 rfl rfl, owAt_eq true r c (29 + 1) 31 29 rfl rfl]
    rw [AG_30, show AG I r c 29 = AGmid I r c 28 from AG_mid I r c 28 (by omega)]
    unfold AGmid AG30
    rw [dones_succ I r c 28]
    iintro ⟨#HR, HO, HA, HG, HC, HS, -, HD⟩
    iapply (ag_front I K J r c 29 29 ht (fun _ => le_refl _) O hO)
    isplitr; · iexact HR
    isplitl [HO]; · iexact HO
    isplitl [HA]; · iexact HA
    iintro ⟨HO, HA, -, HB⟩
    iapply (WP_wand (late_op I K J true r c O (hO.mono (by show 100 + 59 ≤ _; omega))))
    isplitl [HO HC HS HB]
    · isplitr; · iexact HR
      isplitl [HO]; · iexact HO
      isplitl [HC]; · iexact HC
      isplitl [HS] <;> iassumption
    iintro ⟨HO, HC, HS, Hnew, -⟩
    isplitl [HO]; · iexact HO
    isplitl [HA]; · iexact HA
    isplitl [HG]; · iexact HG
    isplitl [HC]; · iexact HC
    isplitl [HS]; · iexact HS
    isplitl [Hnew] <;> iassumption
  · rw [owAt_eq true r c 30 31 29 rfl rfl, owAt_eq true r c (30 + 1) 31 29 rfl rfl]
    rw [AG_31, show AG I r c 30 = AG30 I r c from AG_30 I r c]
    unfold AG30 AG31
    iintro ⟨#HR, HO, HA, HG, HC, HS, HD⟩
    iapply (ag_front I K J r c 30 29 ht (fun h => absurd h (by omega)) O hO)
    isplitr; · iexact HR
    isplitl [HO]; · iexact HO
    isplitl [HA]; · iexact HA
    iintro ⟨HO, HA, -, HB⟩
    rw [relay_last]
    unfold WP
    rw [wp_pure]; imodintro
    isplitl [HO]; · iexact HO
    isplitl [HA]; · iexact HA
    isplitl [HG]; · iexact HG
    isplitl [HC]; · iexact HC
    isplitl [HS]; · iexact HS
    isplitl [HD] <;> iassumption

/-! ## The loops -/

theorem loop_op (c : Dev nD) (f : ℕ → P F PUnit) (St : ℕ → sProp 𝕄) (h : ∀ s, s < 31 → St s ⊢ WP c (f s) fun _ => St (s + 1)) :
    ∀ n s, s + n = 31 → St s ⊢ WP c (loop f s n) fun _ => St 31
  | 0, s, hs => by
    obtain rfl : s = 31 := by omega
    unfold loop WP
    rw [wp_pure]
    iintro H; imodintro; iexact H
  | n + 1, s, hs => by
    unfold loop
    iintro H
    iapply (WP_seq (h s (by omega)))
    isplitl [H]; · iexact H
    iintro H
    iapply (loop_op c f St h n (s + 1) (by omega)); iexact H

/-- What both rings of a phase owe before a step. -/
def owBoth (ph : Bool) (c : Dev nD) (s : ℕ) (O : T) : T := owAt ph false c s + (owAt ph true c s + O)

theorem owAt_end (ph r : Bool) (c : Dev nD) : owAt ph r c 31 = 0 := by
  rw [owAt_eq ph r c 31 31 29 rfl rfl]; unfold ow; rw [owS_end, owC_end, add_zero]
theorem owBoth_end (ph : Bool) (c : Dev nD) (O : T) : owBoth ph c 31 O = O := by unfold owBoth; rw [owAt_end, owAt_end, zero_add, zero_add]

theorem rs_step (c : Dev nD) (O : T) (hO : Above 64 O) (s : ℕ) (hs : s < 31) :
    iprop(recs I K J ∗ Owe c (owBoth false c s O) ∗ RS I false c s ∗ RS I true c s)
      ⊢ WP c (rsStep c s) fun _ => iprop(recs I K J ∗ Owe c (owBoth false c (s + 1) O) ∗ RS I false c (s + 1) ∗ RS I true c (s + 1)) := by
  have h1 : Above (2 * s + 2) (owAt false true c s + O) := (above_owAt false true c s _ (by show _ ≤ 0 + 2 * s + 2; omega)).add (hO.mono (by omega))
  have h2 : Above (2 * s + 2) (owAt false false c (s + 1) + O) := (above_owAt false false c (s + 1) _ (by show _ ≤ 0 + 2 * (s + 1) + 2; omega)).add (hO.mono (by omega))
  unfold rsStep owBoth
  iintro ⟨#HR, HO, HA, HB⟩
  iapply (WP_seq (rs_half I K J false c s hs _ h1))
  isplitl [HO HA]
  · isplitr; · iexact HR
    isplitl [HO] <;> iassumption
  iintro ⟨HO, HA⟩
  iapply (WP_wand (rs_half I K J true c s hs _ h2))
  isplitl [HO HB]
  · isplitr; · iexact HR
    isplitl [HO]; · iapply (Owe_of (add_left_comm _ _ _)); iexact HO
    iexact HB
  iintro ⟨HO, HB⟩
  isplitr; · iexact HR
  isplitl [HO]; · iapply (Owe_of (add_left_comm _ _ _)); iexact HO
  isplitl [HA] <;> iassumption

theorem ag_step (c : Dev nD) (s : ℕ) (hs : s < 31) :
    iprop(recs I K J ∗ Owe c (owBoth true c s 0) ∗ AG I false c s ∗ AG I true c s)
      ⊢ WP c (agStep c s) fun _ => iprop(recs I K J ∗ Owe c (owBoth true c (s + 1) 0) ∗ AG I false c (s + 1) ∗ AG I true c (s + 1)) := by
  have h1 : Above (100 + 2 * s + 2) (owAt true true c s + 0) := (above_owAt true true c s _ (by show _ ≤ 100 + 2 * s + 2; omega)).add (Above.zero _)
  have h2 : Above (100 + 2 * s + 2) (owAt true false c (s + 1) + 0) := (above_owAt true false c (s + 1) _ (by show _ ≤ 100 + 2 * (s + 1) + 2; omega)).add (Above.zero _)
  unfold agStep owBoth
  iintro ⟨#HR, HO, HA, HB⟩
  iapply (WP_seq (ag_half I K J false c s hs _ h1))
  isplitl [HO HA]
  · isplitr; · iexact HR
    isplitl [HO] <;> iassumption
  iintro ⟨HO, HA⟩
  iapply (WP_wand (ag_half I K J true c s hs _ h2))
  isplitl [HO HB]
  · isplitr; · iexact HR
    isplitl [HO]; · iapply (Owe_of (add_left_comm _ _ _)); iexact HO
    iexact HB
  iintro ⟨HO, HB⟩
  isplitr; · iexact HR
  isplitl [HO]; · iapply (Owe_of (add_left_comm _ _ _)); iexact HO
  isplitl [HA] <;> iassumption

/-- The last two read-outs of both rings. -/
theorem drain_op (ph : Bool) (c : Dev nD) (O : T) (hO : Above 0 O) :
    iprop(recs I K J ∗ Owe c O ∗ Snd ph false c 29 31 ∗ Snd ph true c 29 31)
      ⊢ WP c (drain ph c) fun _ => iprop(Owe c O
          ∗ (Snd ph false c 31 31 ∗ blkPts c (sblk ph false c 29) (val I ph false c 29) ∗ blkPts c (sblk ph false c 30) (val I ph false c 30))
          ∗ (Snd ph true c 31 31 ∗ blkPts c (sblk ph true c 29) (val I ph true c 29) ∗ blkPts c (sblk ph true c 30) (val I ph true c 30))) := by
  unfold drain
  iintro ⟨#HR, HO, HA, HB⟩
  iapply (WP_seq (leave_op I K J ph false c 29 31 (by omega) (by omega) O hO))
  isplitl [HO HA]
  · isplitr; · iexact HR
    isplitl [HO] <;> iassumption
  iintro ⟨HO, HA, HA1⟩
  iapply (WP_seq (leave_op I K J ph false c 30 31 (by omega) (by omega) O hO))
  isplitl [HO HA]
  · isplitr; · iexact HR
    isplitl [HO] <;> iassumption
  iintro ⟨HO, HA, HA2⟩
  iapply (WP_seq (leave_op I K J ph true c 29 31 (by omega) (by omega) O hO))
  isplitl [HO HB]
  · isplitr; · iexact HR
    isplitl [HO] <;> iassumption
  iintro ⟨HO, HB, HB1⟩
  iapply (WP_wand (leave_op I K J ph true c 30 31 (by omega) (by omega) O hO))
  isplitl [HO HB]
  · isplitr; · iexact HR
    isplitl [HO] <;> iassumption
  iintro ⟨HO, HB, HB2⟩
  isplitl [HO]; · iexact HO
  isplitl [HA HA1 HA2]
  · isplitl [HA]; · iexact HA
    isplitl [HA1] <;> iassumption
  isplitl [HB]; · iexact HB
  isplitl [HB1] <;> iassumption

end Cert.KernelIdeal.Looped

end
-- ==== Proof.Pieces.lean ====
/-
  The result's buffer as its 64 blocks, a ring's landing buffer as its two slots, and what the result holds at the end.
-/
module

public import proofs.«01_k».proof.Proof.Run

@[expose] public section

noncomputable section

namespace Cert.KernelIdeal.Looped

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F)

/-! ## The result -/

/-- The result's buffer on a device. -/
abbrev outL (c : Dev nD) : Loc nD τ sig := (c : Thread nD τ).loc cc0_stg4_0

/-- Which ring an element of the result travels on, how many steps back from a device's place its block is, and where in
    the block it is. -/
def ringOf (i : S4096x2048.Idx) : Bool := decide (1024 ≤ (i 1).val)
def stepOf (c : Dev nD) (i : S4096x2048.Idx) : ℕ :=
  if ringOf i then ((i 0).val / 128 + 32 - place c) % 32 else (place c + 32 - (i 0).val / 128) % 32
def locOf (i : S4096x2048.Idx) : S128x1024.Idx := fun a =>
  ⟨(i a).val % S128x1024.size a, Nat.mod_lt _ (by fin_cases a <;> decide)⟩

/-- The all-gather transfer that carries the block `k` steps back. -/
def fwd (k : ℕ) : ℕ := if k = 31 then 0 else k + 1

/-- What a device's result holds at the end. -/
def outAt (c : Dev nD) : Vec F S4096x2048 .f32 := fun i => fin I (ringOf i) c (fwd (stepOf c i)) (locOf i)

/-- Where an element of a block lies in the result. -/
def spot (r : Bool) (c : Dev nD) (k : ℕ) (j : S128x1024.Idx) : S4096x2048.Idx := (chunk r c k).view.emb j

/-- The elements of a block. -/
def spots (r : Bool) (c : Dev nD) (k : ℕ) : Finset (Idx (outL c)) := (chunk r c k).view.set

theorem emb_chunk (r : Bool) (c : Dev nD) (k : ℕ) (j : S128x1024.Idx) (a : Fin 2) :
    (spot r c k j a).val = chO r c k a + (j a).val := by
  show chO r c k a + 1 * (j a).val = _
  rw [Nat.one_mul]

theorem ringOf_chunk (r : Bool) (c : Dev nD) (k : ℕ) (j : S128x1024.Idx) : ringOf (spot r c k j) = r := by
  have h := emb_chunk r c k j 1
  have hj : (j 1).val < 1024 := (j 1).isLt
  unfold ringOf
  rw [h]
  cases r
  · exact decide_eq_false (by show ¬ 1024 ≤ 0 + (j 1).val; omega)
  · exact decide_eq_true (by show 1024 ≤ 1024 + (j 1).val; omega)

theorem stepOf_chunk (r : Bool) (c : Dev nD) (k : ℕ) (hk : k < 32) (j : S128x1024.Idx) : stepOf c (spot r c k j) = k := by
  have h : (spot r c k j 0).val = 128 * row r c k + (j 0).val := emb_chunk r c k j 0
  have hj : (j 0).val < 128 := (j 0).isLt
  have hp := place_lt c
  unfold stepOf
  rw [ringOf_chunk, h, show (128 * row r c k + (j 0).val) / 128 = row r c k from by omega]
  cases r
  · show (place c + 32 - (place c + 32 - k) % 32) % 32 = k; omega
  · show ((place c + k) % 32 + 32 - place c) % 32 = k; omega

theorem locOf_chunk (r : Bool) (c : Dev nD) (k : ℕ) (j : S128x1024.Idx) : locOf (spot r c k j) = j := by
  funext a
  refine Fin.ext ?_
  show (spot r c k j a).val % S128x1024.size a = _
  rw [emb_chunk]
  have hj := (j a).isLt
  fin_cases a
  · show (128 * row r c k + (j 0).val) % 128 = (j 0).val
    have hj : (j 0).val < 128 := hj
    omega
  · have hj : (j 1).val < 1024 := hj
    cases r
    · show (0 + (j 1).val) % 1024 = (j 1).val; omega
    · show (1024 + (j 1).val) % 1024 = (j 1).val; omega

theorem read_chunk (r : Bool) (c : Dev nD) (k : ℕ) (f : Vec F S4096x2048 .f32) (j : S128x1024.Idx) :
    (chunk r c k).view.read (Elt F) f j = f (spot r c k j) := rfl

/-- At the end the block that transfer `t` carried holds what it carried. -/
theorem read_outAt (r : Bool) (c : Dev nD) (t : ℕ) (ht : t < 32) : (sblk true r c t).view.read (Elt F) (outAt I c) = val I true r c t := by
  have hb : back true t < 32 ∧ fwd (back true t) = t := by
    unfold back fwd; rw [if_pos rfl]
    rcases t with _ | t
    · exact ⟨by decide, rfl⟩
    · rw [if_neg (Nat.succ_ne_zero t)]
      refine ⟨by omega, ?_⟩
      rw [if_neg (by omega)]; omega
  funext j
  unfold sblk
  rw [read_chunk]
  unfold outAt
  rw [ringOf_chunk, stepOf_chunk r c _ hb.1, locOf_chunk, hb.2]
  rfl

theorem spots_half (c : Dev nD) (k l : ℕ) : Disjoint (spots false c k) (spots true c l) := half_disj c k l

def onRing (b : Bool) : ℕ ↪ Bool × ℕ := ⟨Prod.mk b, Prod.mk_right_injective b⟩
theorem onRing_apply (b : Bool) (k : ℕ) : onRing b k = (b, k) := rfl

omit [FloatOps F] in
theorem both_rings (s : Finset ℕ) (Φ : Bool × ℕ → sProp 𝕄) :
    bigSep (Finset.univ ×ˢ s) Φ = iprop((bigSep s fun k => Φ (false, k)) ∗ bigSep s fun k => Φ (true, k)) := by
  have hU : (Finset.univ ×ˢ s : Finset (Bool × ℕ))
      = s.map (onRing false) ∪ s.map (onRing true) := by
    ext ⟨b, k⟩
    simp only [Finset.mem_product, Finset.mem_univ, true_and, Finset.mem_union, Finset.mem_map, onRing_apply, Prod.mk.injEq]
    cases b <;> simp
  rw [hU, bigSep_union (Finset.disjoint_left.mpr fun x hx hy => by
    obtain ⟨k, -, rfl⟩ := Finset.mem_map.mp hx
    obtain ⟨l, -, e⟩ := Finset.mem_map.mp hy
    exact Bool.noConfusion (Prod.mk.inj e).1), bigSep_map, bigSep_map]
  rfl

/-- The elements of the blocks, the steps counted by `σ`. -/
theorem out_pieces (c : Dev nD) (g : Buf (Elt F) (outL c)) (σ : ℕ → ℕ) (hσ : ∀ k < 32, σ k < 32)
    (hi : ∀ k < 32, ∀ l < 32, σ k = σ l → k = l) (hs : ∀ k < 32, ∃ l < 32, σ l = k) :
    (outL c ↦{fullShare} g : sProp 𝕄)
      = iprop((bigSep (Finset.range 32) fun k => outL c ↦[spots false c (σ k)]{fullShare} g)
          ∗ bigSep (Finset.range 32) fun k => outL c ↦[spots true c (σ k)]{fullShare} g) := by
  have hU : (Finset.univ ×ˢ Finset.range 32 : Finset (Bool × ℕ)).biUnion (fun x => spots x.1 c (σ x.2)) = Finset.univ := by
    refine Finset.eq_univ_of_forall fun i => ?_
    obtain ⟨r, k, hk, h⟩ := chunk_cover c i
    obtain ⟨l, hl, rfl⟩ := hs k hk
    exact Finset.mem_biUnion.mpr ⟨(r, l), Finset.mem_product.mpr ⟨Finset.mem_univ _, Finset.mem_range.mpr hl⟩, h⟩
  have hD : ∀ x ∈ (Finset.univ ×ˢ Finset.range 32 : Finset (Bool × ℕ)), ∀ y ∈ (Finset.univ ×ˢ Finset.range 32 : Finset (Bool × ℕ)), x ≠ y →
      Disjoint (spots x.1 c (σ x.2)) (spots y.1 c (σ y.2)) := by
    rintro ⟨r, k⟩ hx ⟨s, l⟩ hy hne
    have hk : k < 32 := Finset.mem_range.mp (Finset.mem_product.mp hx).2
    have hl : l < 32 := Finset.mem_range.mp (Finset.mem_product.mp hy).2
    by_cases hrs : r = s
    · subst hrs
      exact chunk_disj r c (hσ k hk) (hσ l hl) fun e => hne (by rw [hi k hk l hl e])
    · cases r <;> cases s
      · exact absurd rfl hrs
      · exact spots_half c (σ k) (σ l)
      · exact (spots_half c (σ l) (σ k)).symm
      · exact absurd rfl hrs
  have h := pointsTo_biUnion (nD := nD) (τ := τ) (sig := sig) (Val := Elt F) (Ix := ℕ) (Name := ℕ) (U := UU) (Lvl := ℕ) (ℓ := outL c) (q := fullShare) (f := g)
    (Finset.univ ×ˢ Finset.range 32 : Finset (Bool × ℕ)) (fun x => spots x.1 c (σ x.2)) hD
  rw [hU] at h
  exact h.trans (both_rings _ _)

/-- A block of a device's result holding `v`, out of contents `g` that read `v` there, and back. -/
theorem blk_of (r : Bool) (c : Dev nD) (k : ℕ) (g : Buf (Elt F) (outL c)) (v : Vec F S128x1024 .f32) (h : (chunk r c k).view.read (Elt F) g = v) :
    (outL c ↦[spots r c k]{fullShare} g) ⊢ (blkPts c (chunk r c k) v : sProp 𝕄) := by
  unfold blkPts
  iintro H
  iexists g
  isplitr; · ipureintro; exact h
  iexact H

theorem blk_to (r : Bool) (c : Dev nD) (k : ℕ) (g : Buf (Elt F) (outL c)) (v : Vec F S128x1024 .f32) (h : (chunk r c k).view.read (Elt F) g = v) :
    (blkPts c (chunk r c k) v : sProp 𝕄) ⊢ (outL c ↦[spots r c k]{fullShare} g) := by
  unfold blkPts
  iintro ⟨%f, %hf, H⟩
  have e : ((chunk r c k).view.loc (c : Thread nD τ) ↦[(chunk r c k).view.set]{fullShare} f : sProp 𝕄)
      ⊢ (outL c ↦[spots r c k]{fullShare} g) := Entails.of_eq (pointsTo_congr fun i hi => by
    obtain ⟨j, -, rfl⟩ := Finset.mem_map.mp hi
    exact congrFun (hf.trans h.symm) j)
  iapply e; iexact H

/-- The product just stored, as its blocks. -/
theorem out_open (c : Dev nD) : (outL c ↦{fullShare} own I c) ⊢ (iprop(todo I false c 0 ∗ todo I true c 0) : sProp 𝕄) := by
  have h : ∀ r, (bigSep (Finset.range 32) fun k => outL c ↦[spots r c k]{fullShare} own I c) ⊢ (todo I r c 0 : sProp 𝕄) := fun r => by
    unfold todo; rw [← Finset.range_eq_Ico]
    exact bigSep_mono fun k _ => blk_of r c k (own I c) _ rfl
  rw [out_pieces c (own I c) (fun k => k) (fun _ h => h) (fun _ _ _ _ e => e) (fun k hk => ⟨k, hk, rfl⟩)]
  iintro ⟨H1, H2⟩
  isplitl [H1]
  · iapply (h false); iexact H1
  · iapply (h true); iexact H2

/-- The finished blocks, as the result. -/
theorem out_close (c : Dev nD) : iprop(dones I false c 32 ∗ dones I true c 32) ⊢ (outL c ↦{fullShare} outAt I c : sProp 𝕄) := by
  have h : ∀ r, dones I r c 32 ⊢ (bigSep (Finset.range 32) fun k => outL c ↦[spots r c (back true k)]{fullShare} outAt I c : sProp 𝕄) := fun r => by
    unfold dones
    exact bigSep_mono fun t ht => blk_to r c _ (outAt I c) _ (read_outAt I r c t (Finset.mem_range.mp ht))
  have hb : ∀ k, back true k = if k = 0 then 31 else k - 1 := fun k => by unfold back; rw [if_pos rfl]
  rw [out_pieces c (outAt I c) (back true)
    (fun k hk => by rw [hb]; split <;> omega)
    (fun k hk l hl e => by rw [hb, hb] at e; split at e <;> split at e <;> omega)
    (fun k hk => by
      by_cases h31 : k = 31
      · exact ⟨0, by omega, by rw [hb, if_pos rfl, h31]⟩
      · exact ⟨k + 1, by omega, by rw [hb, if_neg (by omega)]; rfl⟩)]
  iintro ⟨H1, H2⟩
  isplitl [H1]
  · iapply (h false); iexact H1
  · iapply (h true); iexact H2

/-! ## The landing slots -/

omit [FloatOps F] in
theorem join_any (ℓ : Loc nD τ sig) (A B : Finset (Idx ℓ)) (hd : Disjoint A B) (hu : ∀ i, i ∈ A ∨ i ∈ B) (f g : Buf (Elt F) ℓ) :
    iprop((ℓ ↦[A]{fullShare} f) ∗ (ℓ ↦[B]{fullShare} g)) ⊢ (iprop(∃ f : Buf (Elt F) ℓ, ℓ ↦{fullShare} f) : sProp 𝕄) := by
  classical
  refine (pointsTo_join hd).trans ?_
  rw [show A ∪ B = Finset.univ from Finset.eq_univ_of_forall fun i => Finset.mem_union.mpr (hu i)]
  exact BIClass.exists_intro (Φ := fun f : Buf (Elt F) ℓ => (ℓ ↦{fullShare} f : sProp 𝕄)) _

theorem mem_slot (s : ℕ) (i : S2x128x1024.Idx) :
    i ∈ (Rect.unit (s := S2x128x1024) ![s % 2, 0, 0] S1x128x1024.size (slot_inb s)).set ↔ (i 0).val = s % 2 := by
  have h1 : (i 1).val < 128 := (i 1).isLt
  have h2 : (i 2).val < 1024 := (i 2).isLt
  refine Rect.mem_set_unit.trans ?_
  rw [Fin.forall_fin_succ, Fin.forall_fin_two]
  show (s % 2 ≤ (i 0).val ∧ (i 0).val < s % 2 + 1) ∧ (0 ≤ (i 1).val ∧ (i 1).val < 0 + 128) ∧ (0 ≤ (i 2).val ∧ (i 2).val < 0 + 1024) ↔ _
  omega

theorem slots_disj (s : ℕ) : Disjoint (Rect.unit (s := S2x128x1024) ![s % 2, 0, 0] S1x128x1024.size (slot_inb s)).set
    (Rect.unit (s := S2x128x1024) ![(s + 1) % 2, 0, 0] S1x128x1024.size (slot_inb (s + 1))).set :=
  Finset.disjoint_left.mpr fun i hi hj => by
    have h := (mem_slot s i).mp hi
    have h' := (mem_slot (s + 1) i).mp hj
    omega
theorem slots_all (s : ℕ) (i : S2x128x1024.Idx) : i ∈ (Rect.unit (s := S2x128x1024) ![s % 2, 0, 0] S1x128x1024.size (slot_inb s)).set
    ∨ i ∈ (Rect.unit (s := S2x128x1024) ![(s + 1) % 2, 0, 0] S1x128x1024.size (slot_inb (s + 1))).set := by
  have h0 : (i 0).val < 2 := (i 0).isLt
  rw [mem_slot, mem_slot]
  omega
theorem slots_union (s : ℕ) : (Rect.unit (s := S2x128x1024) ![s % 2, 0, 0] S1x128x1024.size (slot_inb s)).set
    ∪ (Rect.unit (s := S2x128x1024) ![(s + 1) % 2, 0, 0] S1x128x1024.size (slot_inb (s + 1))).set = Finset.univ :=
  Finset.eq_univ_of_forall fun i => Finset.mem_union.mpr (slots_all s i)

/-- A ring's landing buffer on a device. -/
abbrev commR : Bool → Ref sig .tc
  | false => cc0_scratch0
  | true => cc0_scratch1

/-- A ring's landing buffer, with any contents. -/
def commAny (r : Bool) (c : Dev nD) : sProp 𝕄 := iprop(∃ f : Buf (Elt F) ((c : Thread nD τ).loc (commR r)), ((c : Thread nD τ).loc (commR r)) ↦{fullShare} f)

omit [FloatOps F] in
theorem comm_split (r : Bool) (c : Dev nD) : (commAny r c : sProp 𝕄) ⊢ iprop(blkAny c (rblk false r c 0) ∗ blkAny c (rblk false r c 1)) := by
  have hset : ∀ s, (rblk false false c s).view.set = (Rect.unit (s := S2x128x1024) ![s % 2, 0, 0] S1x128x1024.size (slot_inb s)).set :=
    fun s => (slot_set false s).trans (View.set_slice_whole _ _)
  have hset' : ∀ s, (rblk false true c s).view.set = (Rect.unit (s := S2x128x1024) ![s % 2, 0, 0] S1x128x1024.size (slot_inb s)).set :=
    fun s => (slot_set true s).trans (View.set_slice_whole _ _)
  unfold commAny blkAny
  cases r
  · iintro ⟨%f, H⟩
    have e : (((c : Thread nD τ).loc cc0_scratch0) ↦{fullShare} f : sProp 𝕄)
        ⊢ iprop(((rblk false false c 0).view.loc (c : Thread nD τ) ↦[(rblk false false c 0).view.set]{fullShare} f)
            ∗ ((rblk false false c 1).view.loc (c : Thread nD τ) ↦[(rblk false false c 1).view.set]{fullShare} f)) := by
      rw [hset, hset, ← slots_union 0]
      exact (pointsTo_union (slots_disj 0)).1
    ihave H := e $$ H
    icases H with ⟨H1, H2⟩
    isplitl [H1]; · iexists f; iexact H1
    iexists f; iexact H2
  · iintro ⟨%f, H⟩
    have e : (((c : Thread nD τ).loc cc0_scratch1) ↦{fullShare} f : sProp 𝕄)
        ⊢ iprop(((rblk false true c 0).view.loc (c : Thread nD τ) ↦[(rblk false true c 0).view.set]{fullShare} f)
            ∗ ((rblk false true c 1).view.loc (c : Thread nD τ) ↦[(rblk false true c 1).view.set]{fullShare} f)) := by
      rw [hset', hset', ← slots_union 0]
      exact (pointsTo_union (slots_disj 0)).1
    ihave H := e $$ H
    icases H with ⟨H1, H2⟩
    isplitl [H1]; · iexists f; iexact H1
    iexists f; iexact H2

omit [FloatOps F] in
theorem comm_join (r : Bool) (c : Dev nD) (s : ℕ) : (iprop(blkAny c (rblk false r c s) ∗ blkAny c (rblk false r c (s + 1))) : sProp 𝕄) ⊢ commAny r c := by
  have hset : ∀ s, (rblk false false c s).view.set = (Rect.unit (s := S2x128x1024) ![s % 2, 0, 0] S1x128x1024.size (slot_inb s)).set :=
    fun s => (slot_set false s).trans (View.set_slice_whole _ _)
  have hset' : ∀ s, (rblk false true c s).view.set = (Rect.unit (s := S2x128x1024) ![s % 2, 0, 0] S1x128x1024.size (slot_inb s)).set :=
    fun s => (slot_set true s).trans (View.set_slice_whole _ _)
  unfold commAny blkAny
  cases r
  · iintro ⟨⟨%f, H⟩, ⟨%g, H'⟩⟩
    have e : iprop(((rblk false false c s).view.loc (c : Thread nD τ) ↦[(rblk false false c s).view.set]{fullShare} f)
            ∗ ((rblk false false c (s + 1)).view.loc (c : Thread nD τ) ↦[(rblk false false c (s + 1)).view.set]{fullShare} g))
        ⊢ (iprop(∃ f : Buf (Elt F) ((c : Thread nD τ).loc cc0_scratch0), ((c : Thread nD τ).loc cc0_scratch0) ↦{fullShare} f) : sProp 𝕄) := by
      rw [hset, hset]
      exact join_any ((c : Thread nD τ).loc cc0_scratch0) _ _ (slots_disj s) (slots_all s) f g
    iapply e
    isplitl [H] <;> iassumption
  · iintro ⟨⟨%f, H⟩, ⟨%g, H'⟩⟩
    have e : iprop(((rblk false true c s).view.loc (c : Thread nD τ) ↦[(rblk false true c s).view.set]{fullShare} f)
            ∗ ((rblk false true c (s + 1)).view.loc (c : Thread nD τ) ↦[(rblk false true c (s + 1)).view.set]{fullShare} g))
        ⊢ (iprop(∃ f : Buf (Elt F) ((c : Thread nD τ).loc cc0_scratch1), ((c : Thread nD τ).loc cc0_scratch1) ↦{fullShare} f) : sProp 𝕄) := by
      rw [hset', hset']
      exact join_any ((c : Thread nD τ).loc cc0_scratch1) _ _ (slots_disj s) (slots_all s) f g
    iapply e
    isplitl [H] <;> iassumption

end Cert.KernelIdeal.Looped

end
-- ==== Proof.Body.lean ====
/-
  The body of a device from its first load to its last wait, and its semaphores back at zero.
-/
module

public import proofs.«01_k».proof.Proof.Pieces

@[expose] public section

noncomputable section

namespace Cert.KernelIdeal.Looped

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (K : Dev nD × Ce → ℕ) (J : Key → ℕ)

/-! ## The barrier -/

theorem dev1_eq : ∀ c : Dev nD, (⟨k0_dev1 c, k0_dev1_lt c⟩ : Dev nD) = prv false c := by decide +kernel
theorem dev2_eq : ∀ c : Dev nD, (⟨k0_dev2 c, k0_dev2_lt c⟩ : Dev nD) = prv true c := by decide +kernel

/-- A unit to the device before on a ring, with the device's own landing slots of that ring. -/
theorem knock_op (r : Bool) (d : ℕ) (hd : d ∈ ({0, 1} : Finset ℕ)) (hr : decide (d = 1) = r) (c c' : Dev nD) (hc : c' = prv r c) (O : T) :
    iprop(recs I K J ∗ Owe c (O + tallyAt (cell (prv r c) .bar) 0 1) ∗ dutyTok ER (cell (prv r c) .bar) 0 d ∗ commAny r c)
      ⊢ WP c (semSignalWord c' barS 1#32 : P F PUnit) fun _ => Owe c O := by
  subst hc
  have hp : commAny r c ⊢ (Rd I).payload ((prv r c : Thread nD τ), SemLoc.reg barS) 0 d := (comm_split r c).trans (Entails.of_eq (by
    rw [show (Rd I).payload ((prv r c : Thread nD τ), SemLoc.reg barS) 0 d = barPay (decide (d = 1)) (prv r c) from payload_cell I (prv r c) .bar 0 d, hr]
    unfold barPay; rw [nxt_prv]))
  unfold Owe WP
  simp only [semSignalWord]
  iintro ⟨#HR, ⟨%W, HO⟩, Htok, Hc⟩
  iapply (Rounds.wp_signal 𝒱₀ ER (Rd I) (c : Thread nD τ) none (dst := (prv r c : Thread nD τ)) (sem := barS) (κ := K (prv r c, .bar)) (r := 0)
      (d := d) (k' := 1) (by
        rw [show ((prv r c : Thread nD τ), SemLoc.reg barS) = cell (prv r c) .bar from rfl, duties_cell]
        exact hd) (amount_cell I (prv r c) .bar 0 d) 0 O rfl (W := W)) $$ [HO Htok Hc]
  · isplitr; · iapply (recs_inv I K J (prv r c) .bar); iexact HR
    isplitl [HO]; · iexact HO
    isplitl [Htok]; · iexact Htok
    isplitl [Hc]
    · iapply hp; iexact Hc
    iapply (recs_reached I K J (prv r c) .bar); iexact HR
  iintro HO
  rw [wp_ret]; imodintro
  iexists W; iexact HO

/-- Both neighbours' units: their landing slots. -/
theorem meet_op (c : Dev nD) (O : T) (hO : Above 1 O) :
    iprop(recs I K J ∗ Owe c O ∗ cred (tallyAt (cell c .bar) 0 2) ∗ atPos ER (cell c .bar) 0 ∅ 0)
      ⊢ WP c (semWaitWord barS 2#32 : P F PUnit) fun _ => iprop(Owe c O ∗ atPos ER (cell c .bar) 1 ∅ 0 ∗ barPay false c ∗ barPay true c) := by
  have hE : (Rd I).expect ((c : Thread nD τ), SemLoc.reg barS) 0 = 2 := (expect_cell I c .bar 0).trans (by decide)
  have hpay : (bigSep ((Rd I).duties ((c : Thread nD τ), SemLoc.reg barS) 0 \ ∅) fun d => (Rd I).payload ((c : Thread nD τ), SemLoc.reg barS) 0 d)
      ⊢ iprop(barPay false c ∗ barPay true c) := Entails.of_eq (by
    have hD : (Rd I).duties ((c : Thread nD τ), SemLoc.reg barS) 0 = {0, 1} := (duties_cell I c .bar 0).trans rfl
    have hP : ∀ d, (Rd I).payload ((c : Thread nD τ), SemLoc.reg barS) 0 d = barPay (decide (d = 1)) c := fun d => payload_cell I c .bar 0 d
    rw [hD, Finset.sdiff_empty, bigSep_insert (by decide), bigSep_singleton, hP, hP]; rfl)
  unfold Owe WP
  simp only [semWaitWord]
  iintro ⟨#HR, ⟨%W, HO⟩, Hc, Hat⟩
  iapply (Rounds.wp_wait_rest_token 𝒱₀ ER (Rd I) (c : Thread nD τ) none (κ := K (c, .bar))
    (wpE_semWait_eq 𝒱₀ (c : Thread nD τ) none Set.univ) (Set.mem_univ _) 0 (O := O) (W := W) (R := 0) (m := 0) (T := ∅)
    (by rw [hE]; decide)) $$ [HO Hc Hat]
  · isplitr; · iapply (recs_inv I K J c .bar); iexact HR
    isplitl [Hc]; · iexact Hc
    isplitl [HO]; · iexact HO
    isplitr; · iapply (recs_may I K J c .bar 0 (by omega) hO); iexact HR
    iexact Hat
  iintro ⟨HO, Hat, -, Hp⟩
  rw [wp_ret]; imodintro
  isplitl [HO]; · iexists _; iexact HO
  isplitl [Hat]; · iexact Hat
  iapply hpay; iexact Hp

/-! ## The operand buffers -/

abbrev xL (c : Dev nD) : Loc nD τ sig := (c : Thread nD τ).loc cc0_stg0_0
abbrev wL (c : Dev nD) : Loc nD τ sig := (c : Thread nD τ).loc cc0_stg1_0
abbrev aL (c : Dev nD) : Loc nD τ sig := (c : Thread nD τ).loc cc0_stg2_0
abbrev bL (c : Dev nD) : Loc nD τ sig := (c : Thread nD τ).loc cc0_stg3_0

theorem hz2 : (![0, 0] : Fin 2 → ℕ) = fun _ => 0 := funext fun a => by fin_cases a <;> rfl

/-- The barrier's share of a device's start: its two payments, its credit for two units, its position. -/
def barGhost (c : Dev nD) : sProp 𝕄 :=
  iprop(dutyTok ER (cell (prv false c) .bar) 0 0 ∗ dutyTok ER (cell (prv true c) .bar) 0 1
    ∗ cred (tallyAt (cell c .bar) 0 2) ∗ atPos ER (cell c .bar) 0 ∅ 0)

theorem opening_op (c : Dev nD) (O : T) (hO : Above 1 O) :
    iprop(recs I K J ∗ Owe c ((O + tallyAt (cell (prv true c) .bar) 0 1) + tallyAt (cell (prv false c) .bar) 0 1) ∗ barGhost c
        ∗ commAny false c ∗ commAny true c ∗ (xL c ↦{fullShare} I.x c) ∗ (wL c ↦{fullShare} I.w c) ∗ (∃ f : Buf (Elt F) (outL c), outL c ↦{fullShare} f))
      ⊢ WP c (opening c) fun _ => iprop(Owe c O ∗ atPos ER (cell c .bar) 1 ∅ 0 ∗ barPay false c ∗ barPay true c
          ∗ (xL c ↦{fullShare} I.x c) ∗ (wL c ↦{fullShare} I.w c) ∗ todo I false c 0 ∗ todo I true c 0) := by
  unfold opening barGhost
  simp only [Prog.lift, Prog.bind_op, Prog.bind_ret]
  iintro ⟨#HR, HO, ⟨Ht0, Ht1, Hcr, Hat⟩, Hc0, Hc1, Hx, Hw, ⟨%f, Ho⟩⟩
  unfold WP
  iapply (wp_load 𝒱₀ (c : Thread nD τ) none Set.univ (m := (Memref.whole cc0_stg0_0 : Memref sig .tc .vmem S4096x128 .fp8e5m2)) (Finset.subset_univ _)) $$ Hx
  iintro Hx
  rw [show (Memref.whole cc0_stg0_0 : Memref sig .tc .vmem S4096x128 .fp8e5m2).view.readAt (Elt F)
      (Rect.unit (s := S4096x128) ![0, 0] S4096x128.size inb_S4096x128_S4096x128_0_0).toLoadRect (I.x c) = I.x c from
    Memref.readAt_unit_zero (Elt F) cc0_stg0_0 hz2 _ (I.x c)]
  iapply (wp_load 𝒱₀ (c : Thread nD τ) none Set.univ (m := (Memref.whole cc0_stg1_0 : Memref sig .tc .vmem S128x2048 .fp8e5m2)) (Finset.subset_univ _)) $$ Hw
  iintro Hw
  rw [show (Memref.whole cc0_stg1_0 : Memref sig .tc .vmem S128x2048 .fp8e5m2).view.readAt (Elt F)
      (Rect.unit (s := S128x2048) ![0, 0] S128x2048.size inb_S128x2048_S128x2048_0_0).toLoadRect (I.w c) = I.w c from
    Memref.readAt_unit_zero (Elt F) cc0_stg1_0 hz2 _ (I.w c)]
  iapply (wp_load 𝒱₀ (c : Thread nD τ) none Set.univ (m := outM) (Finset.subset_univ _)) $$ Ho
  iintro Ho
  iapply (wp_store 𝒱₀ (c : Thread nD τ) none Set.univ (m := outM) (r := Rect.unit (s := S4096x2048) ![0, 0] S4096x2048.size inb_S4096x2048_S4096x2048_0_0)
    (Mk := Finset.univ) (Finset.subset_univ _)) $$ Ho
  iintro Ho
  rw [show ((outM : Memref sig .tc .vmem S4096x2048 .f32).access (Rect.unit (s := S4096x2048) ![0, 0] S4096x2048.size inb_S4096x2048_S4096x2048_0_0) : View sig .tc _ _ _).write
      (Elt F) f (k0_pay1 (I.x c) (I.w c)) Finset.univ = own I c from
    Memref.write_access_unit_zero_univ (Elt F) cc0_stg4_0 hz2 _ f (k0_pay1 (I.x c) (I.w c))]
  ihave Ht := (out_open I c) $$ Ho
  icases Ht with ⟨HT0, HT1⟩
  iapply (WP_seq (knock_op I K J false 0 (by decide) rfl c _ (dev1_eq c) (O + tallyAt (cell (prv true c) .bar) 0 1)))
  isplitl [HO Ht0 Hc0]
  · isplitr; · iexact HR
    isplitl [HO]; · iexact HO
    isplitl [Ht0] <;> iassumption
  iintro HO
  iapply (WP_seq (knock_op I K J true 1 (by decide) rfl c _ (dev2_eq c) O))
  isplitl [HO Ht1 Hc1]
  · isplitr; · iexact HR
    isplitl [HO]; · iexact HO
    isplitl [Ht1] <;> iassumption
  iintro HO
  iapply (WP_wand (meet_op I K J c O hO))
  isplitl [HO Hcr Hat]
  · isplitr; · iexact HR
    isplitl [HO]; · iexact HO
    isplitl [Hcr] <;> iassumption
  iintro ⟨HO, Hat, HB0, HB1⟩
  isplitl [HO]; · iexact HO
  isplitl [Hat]; · iexact Hat
  isplitl [HB0]; · iexact HB0
  isplitl [HB1]; · iexact HB1
  isplitl [Hx]; · iexact Hx
  isplitl [Hw]; · iexact Hw
  isplitl [HT0] <;> iassumption

/-! ## The scaling -/

/-- The one number in a scale's buffer. -/
def theNum (v : Vec F S1 .f32) : F .f32 := v (fun a => ⟨0, by fin_cases a; decide⟩)

theorem idx1 (i j : S1.Idx) : i = j := funext fun a => Fin.ext (by
  have hi := (i a).isLt
  have hj := (j a).isLt
  have hs : S1.size a = 1 := by fin_cases a; rfl
  omega)

theorem scaling_op (c : Dev nD) (va vb : Vec F S1 .f32) (hs : I.scale c = k0_pay85 (theNum va) (theNum vb)) (u v : Vec F S128x1024 .f32) :
    iprop((aL c ↦{fullShare} va) ∗ (bL c ↦{fullShare} vb) ∗ blkPts c (chunk false c 31) u ∗ blkPts c (chunk true c 31) v)
      ⊢ WP c (scaling c) fun _ => iprop((aL c ↦{fullShare} va) ∗ (bL c ↦{fullShare} vb)
          ∗ blkPts c (chunk false c 31) (k0_pay87 (I.scale c) u) ∗ blkPts c (chunk true c 31) (k0_pay87 (I.scale c) v)) := by
  unfold scaling smemLoad smemLoadElt
  simp only [Prog.lift, Prog.bind_op, Prog.bind_ret]
  iintro ⟨Ha, Hb, Hu, Hv⟩
  unfold WP
  iapply (wp_load_rect 𝒱₀ (c : Thread nD τ) none Set.univ (m := (Memref.whole cc0_stg2_0 : Memref sig .tc .smem S1 .f32))
    (r := Rect.unit (s := S1) ![0] S1.size inb_S1_S1_0) (S := Finset.univ) (Finset.subset_univ _)) $$ Ha
  iintro Ha
  iapply (wp_load_rect 𝒱₀ (c : Thread nD τ) none Set.univ (m := (Memref.whole cc0_stg3_0 : Memref sig .tc .smem S1 .f32))
    (r := Rect.unit (s := S1) ![0] S1.size inb_S1_S1_0) (S := Finset.univ) (Finset.subset_univ _)) $$ Hb
  iintro Hb
  have ha : ∀ i, ((Memref.whole cc0_stg2_0 : Memref sig .tc .smem S1 .f32).access (Rect.unit (s := S1) ![0] S1.size inb_S1_S1_0) : View sig .tc _ _ _).read (Elt F) va i = theNum va :=
    fun i => congrArg va (idx1 _ _)
  have hb : ∀ i, ((Memref.whole cc0_stg3_0 : Memref sig .tc .smem S1 .f32).access (Rect.unit (s := S1) ![0] S1.size inb_S1_S1_0) : View sig .tc _ _ _).read (Elt F) vb i = theNum vb :=
    fun i => congrArg vb (idx1 _ _)
  rw [ha, hb, ← hs]
  iapply (WP_seq (finish_op false c 31 _ (finO_eq false c) (finO_inb false c) u (I.scale c)))
  isplitl [Hu]; · iexact Hu
  iintro Hu
  iapply (WP_wand (finish_op true c 31 _ (finO_eq true c) (finO_inb true c) v (I.scale c)))
  isplitl [Hv]; · iexact Hv
  iintro Hv
  isplitl [Ha]; · iexact Ha
  isplitl [Hb]; · iexact Hb
  isplitl [Hu] <;> iassumption

/-! ## The first transfers and the loops -/

theorem start_op (ph r : Bool) (c : Dev nD) (O : T) :
    iprop(recs I K J ∗ Owe c (ow ph r c 0 0 + O) ∗ Snd ph r c 0 0 ∗ blkPts c (sblk ph r c 0) (val I ph r c 0) ∗ blkAny (nxt r c) (rblk ph r (nxt r c) 0))
      ⊢ WP c ((wires ph r c).send 0 : P F PUnit) fun _ => iprop(Owe c (owAt ph r c 0 + O) ∗ Snd ph r c 0 1) := by
  rw [owAt_eq ph r c 0 1 0 rfl rfl]
  unfold ow
  rw [add_assoc, add_assoc]
  iintro ⟨#HR, HO, HS, HB, HA⟩
  iapply (send_op I K J ph r c 0 0 (by omega) (by omega) (by omega) (owC ph r c 0 + O))
  isplitr; · iexact HR
  isplitl [HO]; · iexact HO
  isplitl [HS]; · iexact HS
  isplitl [HB]; · iexact HB
  isplitl [HA]; · iexact HA
  iapply (recs_reached I K J (nxt r c) (.rcv ph r (par 0))); iexact HR

theorem rs_loop (c : Dev nD) (O : T) (hO : Above 64 O) :
    iprop(recs I K J ∗ Owe c (owBoth false c 0 O) ∗ RS I false c 0 ∗ RS I true c 0)
      ⊢ WP c (loop (rsStep c) 0 31) fun _ => iprop(Owe c O ∗ RS31 I false c ∗ RS31 I true c) := by
  have h := loop_op c (rsStep c) (fun s => iprop(recs I K J ∗ Owe c (owBoth false c s O) ∗ RS I false c s ∗ RS I true c s))
    (fun s hs => rs_step I K J c O hO s hs) 31 0 rfl
  iintro H
  iapply (WP_wand h)
  isplitl [H]; · iexact H
  rw [owBoth_end, show RS I false c 31 = RS31 I false c from RS_31 I false c, show RS I true c 31 = RS31 I true c from RS_31 I true c]
  iintro ⟨-, H⟩
  iexact H

theorem ag_loop (c : Dev nD) :
    iprop(recs I K J ∗ Owe c (owBoth true c 0 0) ∗ AG I false c 0 ∗ AG I true c 0)
      ⊢ WP c (loop (agStep c) 0 31) fun _ => iprop(Owe c 0 ∗ AG31 I false c ∗ AG31 I true c) := by
  have h := loop_op c (agStep c) (fun s => iprop(recs I K J ∗ Owe c (owBoth true c s 0) ∗ AG I false c s ∗ AG I true c s))
    (fun s hs => ag_step I K J c s hs) 31 0 rfl
  iintro H
  iapply (WP_wand h)
  isplitl [H]; · iexact H
  rw [owBoth_end, show AG I false c 31 = AG31 I false c from AG_31 I false c, show AG I true c 31 = AG31 I true c from AG_31 I true c]
  iintro ⟨-, H⟩
  iexact H

/-! ## The semaphores at the end -/

theorem close_pair (c : Dev nD) (f : Fin 2 → Ce) (h : ∀ k R, cnt 31 k ≤ R → dutiesC (f k) R = ∅) :
    iprop(recs I K J ∗ Pos c f 31) ⊢ |={Set.univ}=> iprop(semVal (cell c (f 0)) 0 ∗ semVal (cell c (f 1)) 0) := by
  rw [Pos_split c f 31 0, show par 0 = 0 from rfl, show par (0 + 1) = 1 from rfl]
  iintro ⟨#HR, ⟨H0, -⟩, ⟨H1, -⟩⟩
  imod (Rounds.cell_close ER (Rd I) (Set.mem_univ (K (c, f 0))) (fun h => h) (R := cnt 31 0) (fun R hR => (duties_cell I c (f 0) R).trans (h 0 R hR))) $$ [H0] with H0
  · isplitr; · iapply (recs_inv I K J c (f 0)); iexact HR
    iexact H0
  imod (Rounds.cell_close ER (Rd I) (Set.mem_univ (K (c, f 1))) (fun h => h) (R := cnt 31 1) (fun R hR => (duties_cell I c (f 1) R).trans (h 1 R hR))) $$ [H1] with H1
  · isplitr; · iapply (recs_inv I K J c (f 1)); iexact HR
    iexact H1
  imodintro
  isplitl [H0] <;> iassumption

/-- A device's semaphores of a phase and ring, at zero. -/
def zeros (ph r : Bool) (c : Dev nD) : sProp 𝕄 :=
  iprop((semVal (cell c (.snd ph r 0)) 0 ∗ semVal (cell c (.snd ph r 1)) 0) ∗ (semVal (cell c (.rcv ph r 0)) 0 ∗ semVal (cell c (.rcv ph r 1)) 0)
    ∗ semVal (cell c (.crd ph r)) 0)

theorem cnt_31 (k : Fin 2) (R : ℕ) (h : cnt 31 k ≤ R) : ¬ 2 * R + k.val < 31 := by
  have hk := k.isLt
  unfold cnt at h; omega

theorem close_ring (ph r : Bool) (c : Dev nD) :
    iprop(recs I K J ∗ Arr ph r c 31 ∗ Cw ph r c 29 ∗ Snd ph r c 31 31) ⊢ |={Set.univ}=> zeros ph r c := by
  unfold Arr Cw Snd zeros
  iintro ⟨#HR, ⟨HA, -⟩, ⟨⟨%S, %hS, Hat, -⟩, -⟩, ⟨HP, -⟩⟩
  have hSr : S = Finset.range 29 := Finset.eq_of_subset_of_card_le hS.1 (by rw [Finset.card_range]; exact hS.2)
  imod (close_pair I K J c (Ce.snd ph r) (fun k R hR => if_neg (cnt_31 k R hR))) $$ [HP] with H1
  · isplitr; · iexact HR
    iexact HP
  imod (close_pair I K J c (Ce.rcv ph r) (fun k R hR => if_neg (cnt_31 k R hR))) $$ [HA] with H2
  · isplitr; · iexact HR
    iexact HA
  imod (Rounds.fupd_skip ER (Rd I) (κ := K (c, .crd ph r)) (g := cell c (.crd ph r)) (R := 0) (m := 29) (T := S)
    (by rw [hSr]; exact (duties_cell I c (.crd ph r) 0).le) (expect_cell I c (.crd ph r) 0).symm (Set.mem_univ _)) $$ [Hat] with ⟨Hat, -⟩
  · isplitr; · iapply (recs_inv I K J c (.crd ph r)); iexact HR
    iexact Hat
  imod (Rounds.cell_close ER (Rd I) (Set.mem_univ (K (c, .crd ph r))) (fun h => h) (R := 0 + 1)
    (fun R hR => (duties_cell I c (.crd ph r) R).trans (if_neg (by omega)))) $$ [Hat] with H3
  · isplitr; · iapply (recs_inv I K J c (.crd ph r)); iexact HR
    iexact Hat
  imodintro
  isplitl [H1]; · iexact H1
  isplitl [H2] <;> iassumption

theorem close_bar (c : Dev nD) : iprop(recs I K J ∗ atPos ER (cell c .bar) 1 ∅ 0) ⊢ |={Set.univ}=> semVal (cell c .bar) 0 := by
  iintro ⟨#HR, Hat⟩
  iapply (Rounds.cell_close ER (Rd I) (Set.mem_univ (K (c, .bar))) (fun h => h) (R := 1)
    (fun R hR => (duties_cell I c .bar R).trans (if_neg (by omega))))
  isplitr; · iapply (recs_inv I K J c .bar); iexact HR
  iexact Hat

end Cert.KernelIdeal.Looped

end
-- ==== Proof.Whole.lean ====
/-
  The body of a device as a whole: what it starts from and what it ends with.
-/
module

public import proofs.«01_k».proof.Proof.Body

@[expose] public section

noncomputable section

namespace Cert.KernelIdeal.Looped

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (K : Dev nD × Ce → ℕ) (J : Key → ℕ)

/-- What a device starts a ring of a phase from. -/
def Ring (ph r : Bool) (c : Dev nD) : sProp 𝕄 := iprop(Arr ph r c 0 ∗ Sg ph r c 0 ∗ Cw ph r c 0 ∗ Snd ph r c 0 0)

/-- What is owed for the all-gather, for both phases, and with the barrier. -/
def OA (c : Dev nD) : T := ow true false c 0 0 + ow true true c 0 0
def OR (c : Dev nD) : T := ow false false c 0 0 + (ow false true c 0 0 + OA c)
def O₀ (c : Dev nD) : T := (OR c + tallyAt (cell (prv true c) .bar) 0 1) + tallyAt (cell (prv false c) .bar) 0 1

theorem above_OA (c : Dev nD) (n : ℕ) (h : n ≤ 64) : Above n (OA c) :=
  (above_ow true false c 0 0 n (fun _ => by show n < 100 + 2 * 0 + 2; omega) (fun _ => by show n < 100 + 2 * 0 + 3; omega)).add
    (above_ow true true c 0 0 n (fun _ => by show n < 100 + 2 * 0 + 2; omega) (fun _ => by show n < 100 + 2 * 0 + 3; omega))
theorem above_OR (c : Dev nD) : Above 1 (OR c) :=
  (above_ow false false c 0 0 1 (fun _ => by show 1 < 0 + 2 * 0 + 2; omega) (fun _ => by show 1 < 0 + 2 * 0 + 3; omega)).add
    ((above_ow false true c 0 0 1 (fun _ => by show 1 < 0 + 2 * 0 + 2; omega) (fun _ => by show 1 < 0 + 2 * 0 + 3; omega)).add (above_OA c 1 (by omega)))

/-! ## The reduce-scatter -/

def rsAll (c : Dev nD) : P F PUnit := do
  (wires false false c).send 0
  (wires false true c).send 0
  loop (rsStep c) 0 31
  drain false c
def agAll (c : Dev nD) : P F PUnit := do
  (wires true false c).send 0
  (wires true true c).send 0
  loop (agStep c) 0 31
  drain true c

theorem looped_eq : (looped : P F PUnit) = (do
    let c : Dev nD ← Prog.lift .deviceId
    opening c
    rsAll c
    scaling c
    agAll c) := by
  unfold looped rsAll agAll
  simp only [bind_assoc]

/-- What a device holds of a ring after the reduce-scatter. -/
def RSend (r : Bool) (c : Dev nD) : sProp 𝕄 :=
  iprop((Arr false r c 31 ∗ Cw false r c 29 ∗ Snd false r c 31 31) ∗ anys r c (Finset.Ico 2 31) ∗ ahead r c ∗ commAny r c
    ∗ blkPts c (chunk r c 31) (acc I r c 31))

theorem rs_ready (r : Bool) (c : Dev nD) :
    iprop(todo I r c 0 ∗ barPay r c) ⊢ iprop((blkPts c (sblk false r c 0) (val I false r c 0) ∗ blkAny (nxt r c) (rblk false r (nxt r c) 0))
      ∗ todo I r c 1 ∗ blkAny (nxt r c) (rblk false r (nxt r c) 1)) := by
  rw [todo_succ I r c 0 (by omega)]
  unfold barPay
  iintro ⟨⟨H0, HT⟩, HA, HB⟩
  isplitl [H0 HA]
  · isplitl [H0]; · iexact H0
    iexact HA
  isplitl [HT] <;> iassumption

theorem rs_rest (r : Bool) (c : Dev nD) :
    iprop(RS31 I r c) ⊢ iprop(Snd false r c 29 31 ∗ ((Snd false r c 31 31 ∗ blkPts c (sblk false r c 29) (val I false r c 29)
      ∗ blkPts c (sblk false r c 30) (val I false r c 30)) -∗ RSend I r c)) := by
  unfold RS31 RSend
  iintro ⟨HA, -, HC, HS, Hany, Hah, H29, H30, HB⟩
  isplitl [HS]; · iexact HS
  iintro ⟨HS, HD, HE⟩
  isplitl [HA HC HS]
  · isplitl [HA]; · iexact HA
    isplitl [HC] <;> iassumption
  isplitl [Hany HD HE]
  · rw [show (Finset.Ico 2 31 : Finset ℕ) = Finset.Ico 2 (30 + 1) from rfl, anys_succ r c 2 30 (by omega),
      show (Finset.Ico 2 30 : Finset ℕ) = Finset.Ico 2 (29 + 1) from rfl, anys_succ r c 2 29 (by omega)]
    isplitl [HE]; · iapply (blkPts_any c (sblk false r c 30) _); iexact HE
    isplitl [HD]; · iapply (blkPts_any c (sblk false r c 29) _); iexact HD
    iexact Hany
  isplitl [Hah]; · iexact Hah
  isplitl [H29 H30]
  · iapply (comm_join r c 29); isplitl [H29]; · iexact H29
    iexact H30
  iexact HB

theorem rs_all (c : Dev nD) (O : T) (hO : Above 64 O) :
    iprop(recs I K J ∗ Owe c (ow false false c 0 0 + (ow false true c 0 0 + O)) ∗ Ring false false c ∗ Ring false true c
        ∗ barPay false c ∗ barPay true c ∗ todo I false c 0 ∗ todo I true c 0)
      ⊢ WP c (rsAll c) fun _ => iprop(Owe c O ∗ RSend I false c ∗ RSend I true c) := by
  unfold rsAll Ring
  iintro ⟨#HR, HO, ⟨HA, HG, HC, HS⟩, ⟨HA', HG', HC', HS'⟩, HP, HP', HT, HT'⟩
  ihave H := (rs_ready I false c) $$ [HT HP]
  · isplitl [HT] <;> iassumption
  icases H with ⟨⟨HB, HN⟩, HT, HM⟩
  ihave H' := (rs_ready I true c) $$ [HT' HP']
  · isplitl [HT'] <;> iassumption
  icases H' with ⟨⟨HB', HN'⟩, HT', HM'⟩
  iapply (WP_seq (start_op I K J false false c (ow false true c 0 0 + O)))
  isplitl [HO HS HB HN]
  · isplitr; · iexact HR
    isplitl [HO]; · iexact HO
    isplitl [HS]; · iexact HS
    isplitl [HB] <;> iassumption
  iintro ⟨HO, HS⟩
  iapply (WP_seq (start_op I K J false true c (owAt false false c 0 + O)))
  isplitl [HO HS' HB' HN']
  · isplitr; · iexact HR
    isplitl [HO]; · iapply (Owe_of (add_left_comm _ _ _)); iexact HO
    isplitl [HS']; · iexact HS'
    isplitl [HB'] <;> iassumption
  iintro ⟨HO, HS'⟩
  iapply (WP_seq (rs_loop I K J c O hO))
  isplitl [HO HA HG HC HS HT HM HA' HG' HC' HS' HT' HM']
  · isplitr; · iexact HR
    isplitl [HO]; · iapply (Owe_of (add_left_comm _ _ _)); iexact HO
    rw [RS_zero, RS_zero]
    isplitl [HA HG HC HS HT HM]
    · isplitl [HA]; · iexact HA
      isplitl [HG]; · iexact HG
      isplitl [HC]; · iexact HC
      isplitl [HS]; · iexact HS
      isplitl [HT] <;> iassumption
    · isplitl [HA']; · iexact HA'
      isplitl [HG']; · iexact HG'
      isplitl [HC']; · iexact HC'
      isplitl [HS']; · iexact HS'
      isplitl [HT'] <;> iassumption
  iintro ⟨HO, H0, H1⟩
  ihave H0 := (rs_rest I false c) $$ H0
  icases H0 with ⟨HS, Hk⟩
  ihave H1 := (rs_rest I true c) $$ H1
  icases H1 with ⟨HS', Hk'⟩
  iapply (WP_wand (drain_op I K J false c O (hO.mono (by omega))))
  isplitl [HO HS HS']
  · isplitr; · iexact HR
    isplitl [HO]; · iexact HO
    isplitl [HS] <;> iassumption
  iintro ⟨HO, HD, HD'⟩
  isplitl [HO]; · iexact HO
  isplitl [Hk HD]; · iapply Hk; iexact HD
  iapply Hk'; iexact HD'

/-! ## The all-gather -/

/-- What a device holds of a ring at the end. -/
def AGend (r : Bool) (c : Dev nD) : sProp 𝕄 := iprop((Arr true r c 31 ∗ Cw true r c 29 ∗ Snd true r c 31 31) ∗ dones I r c 32)

theorem ag_rest (r : Bool) (c : Dev nD) :
    iprop(AG31 I r c) ⊢ iprop(Snd true r c 29 31 ∗ ((Snd true r c 31 31 ∗ blkPts c (sblk true r c 29) (val I true r c 29)
      ∗ blkPts c (sblk true r c 30) (val I true r c 30)) -∗ AGend I r c)) := by
  unfold AG31 AGend
  rw [show dones I r c 32 = iprop(blkPts c (sblk true r c 31) (val I true r c 31) ∗ dones I r c 31) from dones_succ I r c 31,
    show dones I r c 31 = iprop(blkPts c (sblk true r c 30) (val I true r c 30) ∗ dones I r c 30) from dones_succ I r c 30,
    show dones I r c 30 = iprop(blkPts c (sblk true r c 29) (val I true r c 29) ∗ dones I r c 29) from dones_succ I r c 29]
  iintro ⟨HA, -, HC, HS, HD, HL⟩
  isplitl [HS]; · iexact HS
  iintro ⟨HS, H29, H30⟩
  isplitl [HA HC HS]
  · isplitl [HA]; · iexact HA
    isplitl [HC] <;> iassumption
  isplitl [HL]; · iexact HL
  isplitl [H30]; · iexact H30
  isplitl [H29] <;> iassumption

theorem ag_all (c : Dev nD) :
    iprop(recs I K J ∗ Owe c (OA c) ∗ Ring true false c ∗ Ring true true c
        ∗ (anys false c (Finset.Ico 2 31) ∗ ahead false c ∗ blkPts c (chunk false c 31) (val I true false c 0))
        ∗ (anys true c (Finset.Ico 2 31) ∗ ahead true c ∗ blkPts c (chunk true c 31) (val I true true c 0)))
      ⊢ WP c (agAll c) fun _ => iprop(Owe c 0 ∗ AGend I false c ∗ AGend I true c) := by
  unfold agAll Ring ahead OA
  iintro ⟨#HR, HO, ⟨HA, HG, HC, HS⟩, ⟨HA', HG', HC', HS'⟩, ⟨HT, ⟨HN, HM⟩, HB⟩, ⟨HT', ⟨HN', HM'⟩, HB'⟩⟩
  iapply (WP_seq (start_op I K J true false c (ow true true c 0 0 + 0)))
  isplitl [HO HS HB HN]
  · isplitr; · iexact HR
    isplitl [HO]; · iapply (Owe_of (by rw [add_zero])); iexact HO
    isplitl [HS]; · iexact HS
    isplitl [HB]; · iexact HB
    iexact HN
  iintro ⟨HO, HS⟩
  iapply (WP_seq (start_op I K J true true c (owAt true false c 0 + 0)))
  isplitl [HO HS' HB' HN']
  · isplitr; · iexact HR
    isplitl [HO]; · iapply (Owe_of (add_left_comm _ _ _)); iexact HO
    isplitl [HS']; · iexact HS'
    isplitl [HB']; · iexact HB'
    iexact HN'
  iintro ⟨HO, HS'⟩
  iapply (WP_seq (ag_loop I K J c))
  isplitl [HO HA HG HC HS HT HM HA' HG' HC' HS' HT' HM']
  · isplitr; · iexact HR
    isplitl [HO]; · iapply (Owe_of (add_left_comm _ _ _)); iexact HO
    rw [AG_zero, AG_zero]
    isplitl [HA HG HC HS HT HM]
    · isplitl [HA]; · iexact HA
      isplitl [HG]; · iexact HG
      isplitl [HC]; · iexact HC
      isplitl [HS]; · iexact HS
      isplitl [HT]; · iexact HT
      iexact HM
    · isplitl [HA']; · iexact HA'
      isplitl [HG']; · iexact HG'
      isplitl [HC']; · iexact HC'
      isplitl [HS']; · iexact HS'
      isplitl [HT']; · iexact HT'
      iexact HM'
  iintro ⟨HO, H0, H1⟩
  ihave H0 := (ag_rest I false c) $$ H0
  icases H0 with ⟨HS, Hk⟩
  ihave H1 := (ag_rest I true c) $$ H1
  icases H1 with ⟨HS', Hk'⟩
  iapply (WP_wand (drain_op I K J true c 0 (Above.zero 0)))
  isplitl [HO HS HS']
  · isplitr; · iexact HR
    isplitl [HO]; · iexact HO
    isplitl [HS] <;> iassumption
  iintro ⟨HO, HD, HD'⟩
  isplitl [HO]; · iexact HO
  isplitl [Hk HD]; · iapply Hk; iexact HD
  iapply Hk'; iexact HD'

/-! ## The whole -/

/-- A device's semaphores, all at zero. -/
def allZero (c : Dev nD) : sProp 𝕄 :=
  iprop(semVal (cell c .bar) 0 ∗ zeros false false c ∗ zeros false true c ∗ zeros true false c ∗ zeros true true c)

/-- What a device starts from, beside its buffers and what it owes. -/
def ghost (c : Dev nD) : sProp 𝕄 :=
  iprop(barGhost c ∗ Ring false false c ∗ Ring false true c ∗ Ring true false c ∗ Ring true true c)

/-- The operand buffers. -/
def operands (c : Dev nD) (va vb : Vec F S1 .f32) : sProp 𝕄 :=
  iprop((xL c ↦{fullShare} I.x c) ∗ (wL c ↦{fullShare} I.w c) ∗ (aL c ↦{fullShare} va) ∗ (bL c ↦{fullShare} vb))

theorem close_all (c : Dev nD) :
    iprop(recs I K J ∗ atPos ER (cell c .bar) 1 ∅ 0 ∗ (Arr false false c 31 ∗ Cw false false c 29 ∗ Snd false false c 31 31)
        ∗ (Arr false true c 31 ∗ Cw false true c 29 ∗ Snd false true c 31 31) ∗ (Arr true false c 31 ∗ Cw true false c 29 ∗ Snd true false c 31 31)
        ∗ (Arr true true c 31 ∗ Cw true true c 29 ∗ Snd true true c 31 31)) ⊢ |={Set.univ}=> allZero c := by
  unfold allZero
  iintro ⟨#HR, Hat, H1, H2, H3, H4⟩
  imod (close_bar I K J c) $$ [Hat] with Hat
  · isplitr; · iexact HR
    iexact Hat
  imod (close_ring I K J false false c) $$ [H1] with H1
  · isplitr; · iexact HR
    iexact H1
  imod (close_ring I K J false true c) $$ [H2] with H2
  · isplitr; · iexact HR
    iexact H2
  imod (close_ring I K J true false c) $$ [H3] with H3
  · isplitr; · iexact HR
    iexact H3
  imod (close_ring I K J true true c) $$ [H4] with H4
  · isplitr; · iexact HR
    iexact H4
  imodintro
  isplitl [Hat]; · iexact Hat
  isplitl [H1]; · iexact H1
  isplitl [H2]; · iexact H2
  isplitl [H3] <;> iassumption

theorem looped_op (c : Dev nD) (va vb : Vec F S1 .f32) (hs : I.scale c = k0_pay85 (theNum va) (theNum vb)) {Q : PUnit → sProp 𝕄} :
    iprop((recs I K J ∗ Owe c (O₀ c) ∗ ghost c ∗ commAny false c ∗ commAny true c ∗ operands I c va vb ∗ (∃ f : Buf (Elt F) (outL c), outL c ↦{fullShare} f))
        ∗ ((Owe c 0 ∗ allZero c ∗ commAny false c ∗ commAny true c ∗ operands I c va vb ∗ (outL c ↦{fullShare} outAt I c)) -∗ Q ⟨⟩))
      ⊢ WP c looped Q := by
  rw [looped_eq]
  unfold WP
  simp only [Prog.lift, Prog.bind_op, Prog.bind_ret, wp_deviceId]
  unfold ghost operands O₀ OR
  iintro ⟨⟨#HR, HO, ⟨HG, R1, R2, R3, R4⟩, Hc0, Hc1, ⟨Hx, Hw, Ha, Hb⟩, Ho⟩, Hk⟩
  iapply (WP_seq (opening_op I K J c (ow false false c 0 0 + (ow false true c 0 0 + OA c)) (above_OR c)))
  isplitl [HO HG Hc0 Hc1 Hx Hw Ho]
  · isplitr; · iexact HR
    isplitl [HO]; · iexact HO
    isplitl [HG]; · iexact HG
    isplitl [Hc0]; · iexact Hc0
    isplitl [Hc1]; · iexact Hc1
    isplitl [Hx]; · iexact Hx
    isplitl [Hw] <;> iassumption
  iintro ⟨HO, Hat, HP0, HP1, Hx, Hw, HT0, HT1⟩
  iapply (WP_seq (rs_all I K J c (OA c) (above_OA c 64 (by omega))))
  isplitl [HO R1 R2 HP0 HP1 HT0 HT1]
  · isplitr; · iexact HR
    isplitl [HO]; · iexact HO
    isplitl [R1]; · iexact R1
    isplitl [R2]; · iexact R2
    isplitl [HP0]; · iexact HP0
    isplitl [HP1]; · iexact HP1
    isplitl [HT0] <;> iassumption
  unfold RSend
  iintro ⟨HO, ⟨Z1, Hy0, Hah0, Hc0, Hu⟩, ⟨Z2, Hy1, Hah1, Hc1, Hv⟩⟩
  iapply (WP_seq (scaling_op I c va vb hs (acc I false c 31) (acc I true c 31)))
  isplitl [Ha Hb Hu Hv]
  · isplitl [Ha]; · iexact Ha
    isplitl [Hb]; · iexact Hb
    isplitl [Hu] <;> iassumption
  iintro ⟨Ha, Hb, Hu, Hv⟩
  unfold WP
  iapply (wp_fupd frame (wpE (defs₀ (F := F)) 𝒱₀ (c : Thread nD τ) none) Set.univ (agAll c) Q)
  iapply (WP_wand (ag_all I K J c))
  isplitl [HO R3 R4 Hy0 Hah0 Hu Hy1 Hah1 Hv]
  · isplitr; · iexact HR
    isplitl [HO]; · iexact HO
    isplitl [R3]; · iexact R3
    isplitl [R4]; · iexact R4
    isplitl [Hy0 Hah0 Hu]
    · isplitl [Hy0]; · iexact Hy0
      isplitl [Hah0]; · iexact Hah0
      iexact Hu
    · isplitl [Hy1]; · iexact Hy1
      isplitl [Hah1]; · iexact Hah1
      iexact Hv
  unfold AGend
  iintro ⟨HO, ⟨Z3, HD0⟩, ⟨Z4, HD1⟩⟩
  imod (close_all I K J c) $$ [Hat Z1 Z2 Z3 Z4] with HZ
  · isplitr; · iexact HR
    isplitl [Hat]; · iexact Hat
    isplitl [Z1]; · iexact Z1
    isplitl [Z2]; · iexact Z2
    isplitl [Z3] <;> iassumption
  imodintro
  iapply Hk
  isplitl [HO]; · iexact HO
  isplitl [HZ]; · iexact HZ
  isplitl [Hc0]; · iexact Hc0
  isplitl [Hc1]; · iexact Hc1
  isplitl [Hx Hw Ha Hb]
  · isplitl [Hx]; · iexact Hx
    isplitl [Hw]; · iexact Hw
    isplitl [Ha] <;> iassumption
  iapply (out_close I c)
  isplitl [HD0] <;> iassumption

end Cert.KernelIdeal.Looped

end
-- ==== Proof.Deal.lean ====
/-
  The ghost state at the launch: made once for all devices, and dealt out so that every device holds its own positions and
  the tokens of the payments it makes.
-/
module

public import proofs.«01_k».proof.Proof.Whole

@[expose] public section

noncomputable section

namespace Cert.KernelIdeal.Looped

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F)

/-! ## Conjunctions over finite sets -/

section Generic

omit [FloatOps F]

/-- Those of the conjuncts over `S` that `e` names. -/
theorem pick {A B : Type} [DecidableEq A] [DecidableEq B] (S : Finset A) (U : Finset B) (e : B → A) (hi : Set.InjOn e U) (hm : ∀ b ∈ U, e b ∈ S)
    (Φ : A → sProp 𝕄) : bigSep S Φ ⊢ bigSep U fun b => Φ (e b) := by
  rw [← bigSep_image_of_injOn hi]
  exact bigSep_subset (Finset.image_subset_iff.mpr hm)

theorem over_prod {A B : Type} [DecidableEq A] [DecidableEq B] (s : Finset A) (t : Finset B) (Φ : A × B → sProp 𝕄) :
    bigSep (s ×ˢ t) Φ = bigSep s fun a => bigSep t fun b => Φ (a, b) := by
  induction s using Finset.induction_on with
  | empty => rw [Finset.empty_product, bigSep_empty, bigSep_empty]
  | insert a s ha ih =>
    have e : insert a s ×ˢ t = t.image (Prod.mk a) ∪ s ×ˢ t := by
      ext ⟨x, y⟩
      simp only [Finset.mem_product, Finset.mem_insert, Finset.mem_union, Finset.mem_image, Prod.mk.injEq]
      constructor
      · rintro ⟨rfl | h, hy⟩
        · exact Or.inl ⟨y, hy, rfl, rfl⟩
        · exact Or.inr ⟨h, hy⟩
      · rintro (⟨b, hb, rfl, rfl⟩ | ⟨h, hy⟩)
        · exact ⟨Or.inl rfl, hb⟩
        · exact ⟨Or.inr h, hy⟩
    rw [e, bigSep_union (Finset.disjoint_left.mpr fun x hx hy => by
      obtain ⟨b, -, rfl⟩ := Finset.mem_image.mp hx
      exact ha (Finset.mem_product.mp hy).1), bigSep_image_of_injOn (fun _ _ _ _ h => (Prod.mk.inj h).2), ih, bigSep_insert ha]

theorem assoc_eq (A B C : sProp 𝕄) : iprop(A ∗ B ∗ C) = iprop((A ∗ B) ∗ C) := by
  have h1 : iprop(A ∗ B ∗ C) ⊢ iprop((A ∗ B) ∗ C) := by
    iintro ⟨A, B, C⟩
    isplitl [A B]; · (isplitl [A] <;> iassumption)
    iexact C
  have h2 : iprop((A ∗ B) ∗ C) ⊢ iprop(A ∗ B ∗ C) := by
    iintro ⟨⟨A, B⟩, C⟩
    isplitl [A]; · iexact A
    isplitl [B] <;> iassumption
  exact BI.Entails.antisymm h1 h2

theorem bools (Φ : Bool × Bool → sProp 𝕄) :
    bigSep Finset.univ Φ = iprop(Φ (false, false) ∗ Φ (false, true) ∗ Φ (true, false) ∗ Φ (true, true)) :=
  bigSep_univ_eq_bigSepL [(false, false), (false, true), (true, false), (true, true)] (by decide) (by decide) Φ

theorem pairs (Φ : Fin 2 → sProp 𝕄) : bigSep Finset.univ Φ = iprop(Φ 0 ∗ Φ 1) :=
  bigSep_univ_eq_bigSepL [0, 1] (by decide) (by decide) Φ

def sndC : (Bool × Bool) × Fin 2 ↪ Ce := ⟨fun x => .snd x.1.1 x.1.2 x.2, fun x y h => by
  obtain ⟨⟨a, b⟩, k⟩ := x; obtain ⟨⟨a', b'⟩, k'⟩ := y; cases h; rfl⟩
def rcvC : (Bool × Bool) × Fin 2 ↪ Ce := ⟨fun x => .rcv x.1.1 x.1.2 x.2, fun x y h => by
  obtain ⟨⟨a, b⟩, k⟩ := x; obtain ⟨⟨a', b'⟩, k'⟩ := y; cases h; rfl⟩
def crdC : Bool × Bool ↪ Ce := ⟨fun x => .crd x.1 x.2, fun x y h => by
  obtain ⟨a, b⟩ := x; obtain ⟨a', b'⟩ := y; cases h; rfl⟩

theorem erase_bar : (Finset.univ : Finset Ce).erase .bar = Finset.univ.map sndC ∪ (Finset.univ.map rcvC ∪ Finset.univ.map crdC) := by
  decide +kernel

/-- Over a device's semaphores: the barrier, and ring by ring. -/
theorem by_ring (Φ : Ce → sProp 𝕄) :
    bigSep Finset.univ Φ = iprop(Φ .bar ∗ bigSep Finset.univ fun p : Bool × Bool =>
      iprop((bigSep Finset.univ fun k : Fin 2 => Φ (.snd p.1 p.2 k)) ∗ (bigSep Finset.univ fun k : Fin 2 => Φ (.rcv p.1 p.2 k)) ∗ Φ (.crd p.1 p.2))) := by
  have d1 : Disjoint (Finset.univ.map rcvC) (Finset.univ.map crdC) := Finset.disjoint_left.mpr fun x hx hy => by
    obtain ⟨a, -, rfl⟩ := Finset.mem_map.mp hx
    obtain ⟨b, -, hb⟩ := Finset.mem_map.mp hy
    cases hb
  have d2 : Disjoint (Finset.univ.map sndC) (Finset.univ.map rcvC ∪ Finset.univ.map crdC) := Finset.disjoint_left.mpr fun x hx hy => by
    obtain ⟨a, -, rfl⟩ := Finset.mem_map.mp hx
    rcases Finset.mem_union.mp hy with hy | hy <;> (obtain ⟨b, -, hb⟩ := Finset.mem_map.mp hy; cases hb)
  rw [bigSep_univ_at Φ .bar, erase_bar, bigSep_union d2, bigSep_union d1, bigSep_map, bigSep_map, bigSep_map,
    bigSep_univ_prod (fun i : (Bool × Bool) × Fin 2 => Φ (sndC i)), bigSep_univ_prod (fun i : (Bool × Bool) × Fin 2 => Φ (rcvC i)), bigSep_sep', bigSep_sep']
  rfl

theorem over_keys (Ψ : Key → sProp 𝕄) :
    bigSep keys Ψ = bigSep Finset.univ fun c : Dev nD => bigSep Finset.univ fun p : Bool × Bool => bigSep (Finset.Ico 0 29) fun i => Ψ (c, p.1, p.2, i) := by
  unfold keys
  rw [over_prod, ← Finset.range_eq_Ico]
  refine bigSep_congr fun c _ => ?_
  rw [over_prod, bigSep_univ_prod]
  refine bigSep_congr fun a _ => ?_
  rw [over_prod]

theorem turned (r : Bool) (Φ : Dev nD → sProp 𝕄) : bigSep Finset.univ Φ = bigSep Finset.univ fun c => Φ (nxt r c) := bigSep_univ_equiv (turn r) Φ
theorem turned' (r : Bool) (Φ : Dev nD → sProp 𝕄) : bigSep Finset.univ Φ = bigSep Finset.univ fun c => Φ (prv r c) := bigSep_univ_equiv (turn r).symm Φ

theorem with_known {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Generic

/-! ## What is made -/

def kcell : Dev nD × Ce ↪ GSem nD τ sig := ⟨fun x => cell x.1 x.2, fun x y h => Prod.ext (cell_inj h).1 (cell_inj h).2⟩
def kcells : Finset (GSem nD τ sig) := Finset.univ.map kcell

/-- Tokens enough for every round and duty of every cell. -/
def ktok : (Dev nD × Ce) × (Fin 16 × Fin 29) ↪ GSem nD τ sig × ℕ × ℕ :=
  ⟨fun x => (cell x.1.1 x.1.2, x.2.1.val, x.2.2.val), fun x y h => by
    obtain ⟨h1, h2⟩ := Prod.mk.inj h
    obtain ⟨h2, h3⟩ := Prod.mk.inj h2
    exact Prod.ext (Prod.ext (cell_inj h1).1 (cell_inj h1).2) (Prod.ext (Fin.ext h2) (Fin.ext h3))⟩
def ktoks : Finset (GSem nD τ sig × ℕ × ℕ) := Finset.univ.map ktok

/-- All tokens of a cell. -/
def toksOf (c : Dev nD) (k : Ce) : sProp 𝕄 :=
  bigSep Finset.univ fun x : Fin 16 × Fin 29 => dutyTok ER (cell c k) x.1.val x.2.val

section Toks

omit [FloatOps F]

theorem toks_pair (c : Dev nD) (f : Fin 2 → Ce) :
    (bigSep Finset.univ fun k : Fin 2 => (toksOf c (f k) : sProp 𝕄)) ⊢ bigSep (Finset.Ico 0 31) fun i => dutyTok ER (cell c (f (par i))) (i / 2) 0 := by
  unfold toksOf
  rw [← bigSep_univ_prod (fun x : Fin 2 × (Fin 16 × Fin 29) => (dutyTok ER (cell c (f x.1)) x.2.1.val x.2.2.val : sProp 𝕄))]
  have h := pick (F := F) Finset.univ (Finset.Ico 0 31)
    (fun i : ℕ => ((par i, (⟨i / 2 % 16, Nat.mod_lt _ (by decide)⟩, ⟨0, by decide⟩)) : Fin 2 × (Fin 16 × Fin 29)))
    (fun a ha b hb e => by
      have ha := Finset.mem_Ico.mp ha
      have hb := Finset.mem_Ico.mp hb
      obtain ⟨e1, e2⟩ := Prod.mk.inj e
      have e1 : a % 2 = b % 2 := congrArg Fin.val e1
      have e2 : a / 2 % 16 = b / 2 % 16 := congrArg Fin.val (Prod.mk.inj e2).1
      omega)
    (fun _ _ => Finset.mem_univ _) (fun x => dutyTok ER (cell c (f x.1)) x.2.1.val x.2.2.val)
  refine h.trans (Entails.of_eq (bigSep_congr fun i hi => ?_))
  have hi := Finset.mem_Ico.mp hi
  show dutyTok ER (cell c (f (par i))) (i / 2 % 16) 0 = _
  rw [Nat.mod_eq_of_lt (by omega)]

theorem toks_crd (c : Dev nD) (k : Ce) :
    (toksOf c k : sProp 𝕄) ⊢ bigSep (Finset.Ico 0 29) fun i => dutyTok ER (cell c k) 0 i := by
  unfold toksOf
  have h := pick (F := F) Finset.univ (Finset.Ico 0 29)
    (fun i : ℕ => ((⟨0, by decide⟩, ⟨i % 29, Nat.mod_lt _ (by decide)⟩) : Fin 16 × Fin 29))
    (fun a ha b hb e => by
      have ha := Finset.mem_Ico.mp ha
      have hb := Finset.mem_Ico.mp hb
      have e1 : a % 29 = b % 29 := congrArg Fin.val (Prod.mk.inj e).2
      omega)
    (fun _ _ => Finset.mem_univ _) (fun x => dutyTok ER (cell c k) x.1.val x.2.val)
  refine h.trans (Entails.of_eq (bigSep_congr fun i hi => ?_))
  have hi := Finset.mem_Ico.mp hi
  show dutyTok ER (cell c k) 0 (i % 29) = _
  rw [Nat.mod_eq_of_lt (by omega)]

theorem toks_bar (c : Dev nD) : (toksOf c .bar : sProp 𝕄) ⊢ iprop(dutyTok ER (cell c .bar) 0 0 ∗ dutyTok ER (cell c .bar) 0 1) := by
  unfold toksOf
  have h := pick (F := F) Finset.univ (Finset.univ : Finset (Fin 2))
    (fun i : Fin 2 => ((⟨0, by decide⟩, ⟨i.val, by omega⟩) : Fin 16 × Fin 29))
    (fun a _ b _ e => Fin.ext (Fin.mk.inj (Prod.mk.inj e).2))
    (fun _ _ => Finset.mem_univ _) (fun x => dutyTok ER (cell c .bar) x.1.val x.2.val)
  rw [pairs] at h
  exact h

/-- The tokens of a ring's cells on a device; -/
def ownTok (p : Bool × Bool) (c : Dev nD) : sProp 𝕄 :=
  iprop((bigSep (Finset.Ico 0 31) fun i => dutyTok ER (cell c (.snd p.1 p.2 (par i))) (i / 2) 0)
    ∗ (bigSep (Finset.Ico 0 31) fun i => dutyTok ER (cell c (.rcv p.1 p.2 (par i))) (i / 2) 0)
    ∗ (bigSep (Finset.Ico 0 29) fun i => dutyTok ER (cell c (.crd p.1 p.2)) 0 i))
/-- the tokens of what a device pays on a ring. -/
def payTok (p : Bool × Bool) (c : Dev nD) : sProp 𝕄 :=
  iprop((bigSep (Finset.Ico 0 31) fun i => iprop(dutyTok ER (cell c (.snd p.1 p.2 (par i))) (i / 2) 0 ∗ dutyTok ER (cell (nxt p.2 c) (.rcv p.1 p.2 (par i))) (i / 2) 0))
    ∗ (bigSep (Finset.Ico 0 29) fun i => dutyTok ER (cell (prv p.2 c) (.crd p.1 p.2)) 0 i))

theorem toks_own (c : Dev nD) : (bigSep Finset.univ fun k : Ce => (toksOf c k : sProp 𝕄))
    ⊢ iprop((dutyTok ER (cell c .bar) 0 0 ∗ dutyTok ER (cell c .bar) 0 1) ∗ bigSep Finset.univ fun p : Bool × Bool => ownTok p c) := by
  rw [by_ring]
  refine BI.sep_mono (toks_bar c) (bigSep_mono fun p _ => ?_)
  unfold ownTok
  exact BI.sep_mono (toks_pair c (Ce.snd p.1 p.2)) (BI.sep_mono (toks_pair c (Ce.rcv p.1 p.2)) (toks_crd c (Ce.crd p.1 p.2)))

theorem ring_around (p : Bool × Bool) : (bigSep Finset.univ fun c : Dev nD => (ownTok p c : sProp 𝕄)) = bigSep Finset.univ fun c : Dev nD => payTok p c := by
  unfold ownTok payTok
  rw [bigSep_sep', bigSep_sep', bigSep_sep',
    turned p.2 (fun c => bigSep (Finset.Ico 0 31) fun i => (dutyTok ER (cell c (.rcv p.1 p.2 (par i))) (i / 2) 0 : sProp 𝕄)),
    turned' p.2 (fun c => bigSep (Finset.Ico 0 29) fun i => (dutyTok ER (cell c (.crd p.1 p.2)) 0 i : sProp 𝕄)),
    bigSep_congr (s := Finset.univ) (fun (c : Dev nD) _ => bigSep_sep' (Finset.Ico 0 31) (fun i => (dutyTok ER (cell c (.snd p.1 p.2 (par i))) (i / 2) 0 : sProp 𝕄))
      (fun i => dutyTok ER (cell (nxt p.2 c) (.rcv p.1 p.2 (par i))) (i / 2) 0)), bigSep_sep']
  exact assoc_eq _ _ _

/-- What a device pays with. -/
def pays (c : Dev nD) : sProp 𝕄 :=
  iprop((dutyTok ER (cell (prv false c) .bar) 0 0 ∗ dutyTok ER (cell (prv true c) .bar) 0 1) ∗ bigSep Finset.univ fun p : Bool × Bool => payTok p c)

theorem toks_around : (bigSep Finset.univ fun c : Dev nD => bigSep Finset.univ fun k : Ce => (toksOf c k : sProp 𝕄)) ⊢ bigSep Finset.univ fun c : Dev nD => pays c := by
  have h : (bigSep Finset.univ fun c : Dev nD => bigSep Finset.univ fun k : Ce => (toksOf c k : sProp 𝕄))
      ⊢ bigSep Finset.univ fun c : Dev nD => iprop((dutyTok ER (cell c .bar) 0 0 ∗ dutyTok ER (cell c .bar) 0 1) ∗ bigSep Finset.univ fun p : Bool × Bool => ownTok p c) :=
    bigSep_mono fun c _ => toks_own c
  refine h.trans (Entails.of_eq ?_)
  unfold pays
  rw [bigSep_sep', bigSep_sep', bigSep_sep', bigSep_sep', turned' false (fun c => (dutyTok ER (cell c .bar) 0 0 : sProp 𝕄)),
    turned' true (fun c => (dutyTok ER (cell c .bar) 0 1 : sProp 𝕄)), bigSep_univ_comm (fun (c : Dev nD) (p : Bool × Bool) => (ownTok p c : sProp 𝕄)),
    bigSep_univ_comm (fun (c : Dev nD) (p : Bool × Bool) => (payTok p c : sProp 𝕄)), bigSep_congr fun p _ => ring_around p]

end Toks

/-! ## The hand-overs -/

/-- A device's ends of the hand-overs of its rings: of its own the one that frees, of the device after the one that takes. -/
def ends (c : Dev nD) : sProp 𝕄 :=
  bigSep Finset.univ fun p : Bool × Bool =>
    iprop((bigSep (Finset.Ico 0 29) fun i => Release.readerAt ES ((c, p.1, p.2, i) : Key) 0)
      ∗ (bigSep (Finset.Ico 0 29) fun i => Release.writeTok ES ((nxt p.2 c, p.1, p.2, i) : Key) 1))

omit [FloatOps F] in
theorem into_keys (Φ : Key × ℕ → sProp 𝕄) : bigSep (keys ×ˢ Finset.range 1) Φ ⊢ bigSep keys fun k => Φ (k, 0) := by
  generalize keys = S
  exact pick (F := F) (S ×ˢ Finset.range 1) S (fun k : Key => ((k, 0) : Key × ℕ)) (fun _ _ _ _ e => (Prod.mk.inj e).1)
    (fun k hk => Finset.mem_product.mpr ⟨hk, Finset.mem_range.mpr Nat.one_pos⟩) Φ

theorem ends_intro :
    iprop((bigSep keys fun k => Release.readerAt ES k 0) ∗ (bigSep (keys ×ˢ Finset.range 1) fun x => Release.writeTok ES x.1 (x.2 + 1)))
      ⊢ (bigSep Finset.univ fun c : Dev nD => ends c : sProp 𝕄) := by
  have h : (bigSep (keys ×ˢ Finset.range 1) fun x => (Release.writeTok ES x.1 (x.2 + 1) : sProp 𝕄)) ⊢ bigSep keys fun k => Release.writeTok ES k 1 :=
    into_keys (fun x => Release.writeTok ES x.1 (x.2 + 1))
  have h1 : (bigSep keys fun k => (Release.readerAt ES k 0 : sProp 𝕄))
      = bigSep Finset.univ fun c : Dev nD => bigSep Finset.univ fun p : Bool × Bool => bigSep (Finset.Ico 0 29) fun i => Release.readerAt ES ((c, p.1, p.2, i) : Key) 0 :=
    over_keys (fun k => Release.readerAt ES k 0)
  have h2 : (bigSep keys fun k => (Release.writeTok ES k 1 : sProp 𝕄))
      = bigSep Finset.univ fun c : Dev nD => bigSep Finset.univ fun p : Bool × Bool => bigSep (Finset.Ico 0 29) fun i => Release.writeTok ES ((nxt p.2 c, p.1, p.2, i) : Key) 1 := by
    refine (over_keys (fun k => Release.writeTok ES k 1)).trans ?_
    rw [bigSep_univ_comm, bigSep_congr (fun (p : Bool × Bool) _ => turned p.2 (fun c => bigSep (Finset.Ico 0 29) fun i => (Release.writeTok ES ((c, p.1, p.2, i) : Key) 1 : sProp 𝕄))),
      bigSep_univ_comm]
  have h3 : (bigSep Finset.univ fun c : Dev nD => (ends c : sProp 𝕄)) = iprop((bigSep keys fun k => Release.readerAt ES k 0) ∗ bigSep keys fun k => Release.writeTok ES k 1) := by
    rw [h1, h2, ← bigSep_sep']
    refine bigSep_congr fun c _ => ?_
    unfold ends
    rw [bigSep_sep']
  rw [h3]
  iintro ⟨HR, HW⟩
  isplitl [HR]; · iexact HR
  iapply h; iexact HW

/-! ## What is owed, gathered by who waits for it -/

def rcvs (ph r : Bool) (c : Dev nD) : T := ∑ i ∈ Finset.Ico 0 31, tallyAt (cell c (.rcv ph r (par i))) i N
def crds (ph r : Bool) (c : Dev nD) : T := ∑ i ∈ Finset.Ico 0 29, tallyAt (cell c (.crd ph r)) i 1
def ringNeed (ph r : Bool) (c : Dev nD) : T := rcvs ph r c + crds ph r c
/-- What a device waits for. -/
def need (c : Dev nD) : T :=
  ((ringNeed false false c + (ringNeed false true c + (ringNeed true false c + ringNeed true true c))) + tallyAt (cell c .bar) 0 1) + tallyAt (cell c .bar) 0 1

theorem sum_nxt (r : Bool) (f : Dev nD → T) : ∑ d, f (nxt r d) = ∑ d, f d := (turn r).sum_comp f
theorem sum_prv (r : Bool) (f : Dev nD → T) : ∑ d, f (prv r d) = ∑ d, f d := (turn r).symm.sum_comp f

theorem ow_eq (ph r : Bool) (c : Dev nD) : ow ph r c 0 0 = rcvs ph r (nxt r c) + crds ph r (prv r c) := rfl

theorem sum_ow (ph r : Bool) : ∑ d, ow ph r d 0 0 = ∑ d, ringNeed ph r d := by
  unfold ringNeed
  simp only [ow_eq, Finset.sum_add_distrib]
  rw [sum_nxt, sum_prv]

theorem sum_owed : ∑ d, O₀ d = ∑ d, need d := by
  unfold O₀ OR OA need
  simp only [Finset.sum_add_distrib]
  rw [sum_ow, sum_ow, sum_ow, sum_ow, sum_prv true (fun c => tallyAt (cell c .bar) 0 1), sum_prv false (fun c => tallyAt (cell c .bar) 0 1)]

/-- Only about `c`'s cells. -/
def Local (c : Dev nD) (O : T) : Prop := ∀ g, g.1 ≠ (c : Thread nD τ) → O g = 0
theorem Local.add {c : Dev nD} {O O' : T} (h : Local c O) (h' : Local c O') : Local c (O + O') := fun g hg => by
  rw [Pi.add_apply, h g hg, h' g hg, add_zero]
theorem Local.zero (c : Dev nD) : Local c 0 := fun g _ => rfl
theorem Local.tally (c : Dev nD) (k : Ce) (i j : ℕ) : Local c (tallyAt (cell c k) i j) := fun g hg =>
  tallyAt_ne_cell (fun h => hg (by rw [h])) _ _
theorem Local.sum {c : Dev nD} (S : Finset ℕ) (f : ℕ → T) (h : ∀ i ∈ S, Local c (f i)) : Local c (∑ i ∈ S, f i) :=
  Finset.sum_induction f (Local c) (fun _ _ => Local.add) (Local.zero c) h

theorem local_ring (ph r : Bool) (c : Dev nD) : Local c (ringNeed ph r c) :=
  (Local.sum _ _ fun _ _ => Local.tally _ _ _ _).add (Local.sum _ _ fun _ _ => Local.tally _ _ _ _)
theorem local_need (c : Dev nD) : Local c (need c) :=
  ((((local_ring _ _ c).add ((local_ring _ _ c).add ((local_ring _ _ c).add (local_ring _ _ c)))).add (Local.tally _ _ _ _)).add (Local.tally _ _ _ _))

theorem gather {c : Dev nD} {O : T} (h : Local c O) :
    ∑ sm : SemLoc sig, tallyOn ((c : Thread nD τ), sm) (O ((c : Thread nD τ), sm)) = O := by
  funext g
  rw [Finset.sum_apply]
  obtain ⟨t, sm⟩ := g
  by_cases ht : t = (c : Thread nD τ)
  · subst ht
    rw [Finset.sum_eq_single sm]
    · unfold tallyOn; rw [Pi.single_eq_same]
    · intro s _ hs
      unfold tallyOn; rw [Pi.single_eq_of_ne (fun e => hs (Prod.mk.inj e).2.symm)]
    · intro hn; exact absurd (Finset.mem_univ _) hn
  · rw [h (t, sm) ht]
    refine Finset.sum_eq_zero fun s _ => ?_
    unfold tallyOn; rw [Pi.single_eq_of_ne (fun e => ht (Prod.mk.inj e).1)]

theorem credit_at (c : Dev nD) (sm : SemLoc sig) :
    launchCredit (Pipeline.owing O₀) 0 ((c : Thread nD τ), sm) = need c ((c : Thread nD τ), sm) := by
  ext u
  have h : ∑ d : Dev nD, O₀ d ((c : Thread nD τ), sm) u = (∑ d : Dev nD, O₀ d) ((c : Thread nD τ), sm) u := by
    rw [Finset.sum_apply, Finsupp.finset_sum_apply]
  rw [Pipeline.launchCredit_owing, h, sum_owed, Finset.sum_apply, Finset.sum_eq_single c]
  · intro d _ hd
    exact local_need d _ (fun e => hd (Prod.mk.inj e).1.symm)
  · intro hn; exact absurd (Finset.mem_univ _) hn

theorem cred_sum {A : Type} [DecidableEq A] (s : Finset A) (f : A → T) : (cred (∑ x ∈ s, f x) : sProp 𝕄) = bigSep s fun x => cred (f x) := by
  induction s using Finset.induction_on with
  | empty => rw [Finset.sum_empty, cred_zero, bigSep_empty]; rfl
  | insert x s hx ih => rw [Finset.sum_insert hx, bigSep_insert hx, BI.Entails.antisymm (cred_add _ _).1 (cred_add _ _).2, ih]; rfl

theorem launch_need (c : Dev nD) : (Pipeline.launchCred O₀ c : sProp 𝕄) = cred (need c) := by
  conv_rhs => rw [← gather (local_need c), cred_sum]
  unfold Pipeline.launchCred
  exact bigSep_congr fun sm _ => by rw [credit_at]

/-- The credits of a ring. -/
def ringCred (p : Bool × Bool) (c : Dev nD) : sProp 𝕄 :=
  iprop((bigSep (Finset.Ico 0 31) fun i => cred (tallyAt (cell c (.rcv p.1 p.2 (par i))) i N)) ∗ (bigSep (Finset.Ico 0 29) fun i => cred (tallyAt (cell c (.crd p.1 p.2)) i 1)))

theorem ring_cred (ph r : Bool) (c : Dev nD) : (cred (ringNeed ph r c) : sProp 𝕄) ⊢ ringCred (ph, r) c := by
  unfold ringNeed ringCred rcvs crds
  rw [← cred_sum, ← cred_sum]
  exact (cred_add _ _).1

theorem creds (c : Dev nD) : (Pipeline.launchCred O₀ c : sProp 𝕄)
    ⊢ iprop(cred (tallyAt (cell c .bar) 0 2) ∗ bigSep Finset.univ fun p : Bool × Bool => ringCred p c) := by
  have e : need c = (ringNeed false false c + (ringNeed false true c + (ringNeed true false c + ringNeed true true c))) + tallyAt (cell c .bar) 0 2 := by
    unfold need; rw [add_assoc, tallyAt_add]
  rw [launch_need, e, bools]
  have h1 := (cred_add (Ix := ℕ) (Val := Elt F) (Name := ℕ) (U := UU) (Lvl := ℕ) (ringNeed false false c + (ringNeed false true c + (ringNeed true false c + ringNeed true true c))) (tallyAt (cell c .bar) 0 2)).1
  have h2 := (cred_add (Ix := ℕ) (Val := Elt F) (Name := ℕ) (U := UU) (Lvl := ℕ) (ringNeed false false c) (ringNeed false true c + (ringNeed true false c + ringNeed true true c))).1
  have h3 := (cred_add (Ix := ℕ) (Val := Elt F) (Name := ℕ) (U := UU) (Lvl := ℕ) (ringNeed false true c) (ringNeed true false c + ringNeed true true c)).1
  have h4 := (cred_add (Ix := ℕ) (Val := Elt F) (Name := ℕ) (U := UU) (Lvl := ℕ) (ringNeed true false c) (ringNeed true true c)).1
  iintro H
  ihave H := h1 $$ H
  icases H with ⟨H, HB⟩
  ihave H := h2 $$ H
  icases H with ⟨A, H⟩
  ihave H := h3 $$ H
  icases H with ⟨B, H⟩
  ihave H := h4 $$ H
  icases H with ⟨C, D⟩
  isplitl [HB]; · iexact HB
  isplitl [A]; · iapply (ring_cred (F := F) false false c); iexact A
  isplitl [B]; · iapply (ring_cred (F := F) false true c); iexact B
  isplitl [C]; · iapply (ring_cred (F := F) true false c); iexact C
  iapply (ring_cred (F := F) true true c); iexact D

/-! ## A device's start -/

/-- A ring's positions. -/
def ringPos (p : Bool × Bool) (c : Dev nD) : sProp 𝕄 :=
  iprop((bigSep Finset.univ fun k : Fin 2 => iprop(atPos ER (cell c (.snd p.1 p.2 k)) 0 ∅ 0 ∗ reached ER (cell c (.snd p.1 p.2 k)) 0))
    ∗ (bigSep Finset.univ fun k : Fin 2 => iprop(atPos ER (cell c (.rcv p.1 p.2 k)) 0 ∅ 0 ∗ reached ER (cell c (.rcv p.1 p.2 k)) 0))
    ∗ atPos ER (cell c (.crd p.1 p.2)) 0 ∅ 0 ∗ reached ER (cell c (.crd p.1 p.2)) 0)

theorem cnt_zero (k : Fin 2) : cnt 0 k = 0 := by have := k.isLt; unfold cnt; omega

omit [FloatOps F] in
theorem pos_zero (c : Dev nD) (f : Fin 2 → Ce) :
    (bigSep Finset.univ fun k : Fin 2 => iprop(atPos ER (cell c (f k)) 0 ∅ 0 ∗ reached ER (cell c (f k)) 0) : sProp 𝕄) ⊢ Pos c f 0 := by
  unfold Pos
  exact Entails.of_eq (bigSep_congr fun k _ => by rw [cnt_zero])

theorem ring_intro (ph r : Bool) (c : Dev nD) :
    iprop(ringPos (ph, r) c ∗ payTok (ph, r) c
        ∗ ((bigSep (Finset.Ico 0 29) fun i => Release.readerAt ES ((c, ph, r, i) : Key) 0) ∗ (bigSep (Finset.Ico 0 29) fun i => Release.writeTok ES ((nxt r c, ph, r, i) : Key) 1))
        ∗ ringCred (ph, r) c) ⊢ (Ring ph r c : sProp 𝕄) := by
  unfold ringPos payTok ringCred Ring Arr Sg Cw Snd
  rw [bigSep_sep' (Finset.Ico 0 29), bigSep_sep' (Finset.Ico 0 29), Finset.range_zero, bigSep_empty, Finset.Ico_self, bigSep_empty]
  iintro ⟨⟨HS, HV, HC, -⟩, ⟨HT, HTc⟩, ⟨HR, HW⟩, HcV, HcC⟩
  isplitl [HV HcV]
  · isplitl [HV]; · iapply (pos_zero (F := F) c (Ce.rcv ph r)); iexact HV
    iexact HcV
  isplitl [HTc HR]
  · isplitr; · iempintro
    isplitl [HTc]; · iexact HTc
    iexact HR
  isplitl [HC HcC HW]
  · isplitl [HC]
    · iexists (∅ : Finset ℕ)
      isplitr; · ipureintro; exact ⟨Finset.empty_subset _, Nat.zero_le _⟩
      isplitl [HC]; · iexact HC
      rw [bigSep_empty]; iempintro
    isplitl [HcC]; · iexact HcC
    iexact HW
  isplitl [HS]; · iapply (pos_zero (F := F) c (Ce.snd ph r)); iexact HS
  isplitr; · iempintro
  iexact HT

/-- A device's positions. -/
def positions (c : Dev nD) : sProp 𝕄 := bigSep Finset.univ fun k : Ce => iprop(atPos ER (cell c k) 0 ∅ 0 ∗ reached ER (cell c k) 0)

theorem ghost_intro (c : Dev nD) :
    iprop((positions c ∗ pays c ∗ ends c) ∗ Pipeline.launchCred O₀ c) ⊢ (ghost c : sProp 𝕄) := by
  have hp : (positions c : sProp 𝕄) ⊢ iprop((atPos ER (cell c .bar) 0 ∅ 0 ∗ reached ER (cell c .bar) 0) ∗ bigSep Finset.univ fun p : Bool × Bool => ringPos p c) := by
    unfold positions; rw [by_ring]; rfl
  unfold pays ends ghost barGhost
  iintro ⟨⟨HP, ⟨⟨Hb0, Hb1⟩, HT⟩, HE⟩, HC⟩
  ihave HP := hp $$ HP
  icases HP with ⟨⟨Hat, -⟩, HP⟩
  ihave HC := (creds (F := F) c) $$ HC
  icases HC with ⟨HcB, HC⟩
  ihave HP := (Entails.of_eq (bools (F := F) _)) $$ HP
  ihave HT := (Entails.of_eq (bools (F := F) _)) $$ HT
  ihave HE := (Entails.of_eq (bools (F := F) _)) $$ HE
  ihave HC := (Entails.of_eq (bools (F := F) _)) $$ HC
  icases HP with ⟨P1, P2, P3, P4⟩
  icases HT with ⟨T1, T2, T3, T4⟩
  icases HE with ⟨E1, E2, E3, E4⟩
  icases HC with ⟨C1, C2, C3, C4⟩
  isplitl [Hb0 Hb1 HcB Hat]
  · isplitl [Hb0]; · iexact Hb0
    isplitl [Hb1]; · iexact Hb1
    isplitl [HcB]; · iexact HcB
    iexact Hat
  isplitl [P1 T1 E1 C1]
  · iapply (ring_intro (F := F) false false c)
    isplitl [P1]; · iexact P1
    isplitl [T1]; · iexact T1
    isplitl [E1]; · iexact E1
    iexact C1
  isplitl [P2 T2 E2 C2]
  · iapply (ring_intro (F := F) false true c)
    isplitl [P2]; · iexact P2
    isplitl [T2]; · iexact T2
    isplitl [E2]; · iexact E2
    iexact C2
  isplitl [P3 T3 E3 C3]
  · iapply (ring_intro (F := F) true false c)
    isplitl [P3]; · iexact P3
    isplitl [T3]; · iexact T3
    isplitl [E3]; · iexact E3
    iexact C3
  iapply (ring_intro (F := F) true true c)
  isplitl [P4]; · iexact P4
  isplitl [T4]; · iexact T4
  isplitl [E4]; · iexact E4
  iexact C4

end Cert.KernelIdeal.Looped

end
-- ==== Proof.Chain.lean ====
/-
  The printed body is the looped one of `Steps.lean`: both are the same sequence of memory operations, so one
  computes to the other.
-/
module

public import proofs.«01_k».proof.Proof.Steps
public import proofs.«01_k».proof.Proof.Gen.KernelIdeal.Points
public import Idealize.ShloMosaic.Lib.Pipeline.Regions

@[expose] public section

noncomputable section

namespace Cert.KernelIdeal.Looped

open Cert.KernelIdeal Cert.KernelIdeal.Gen
open Idealize.ShloMosaic Idealize.ShloMosaic.TcCoe Idealize.SL.Sem

variable {F : FTy → Type} [FloatOps F]

set_option maxRecDepth 65536 in
/-- The printed body, at the launch's one grid point, is the looped one. -/
theorem body_eq_looped : (bodyAt0 (F := F) t0_0 : P F PUnit) = looped := by
  chain_rfl

end Cert.KernelIdeal.Looped

end
-- ==== Proof.Launch.lean ====
/-
  The launch: every device's body runs from what the launch gives it, and the run ends with every device's result as
  described by `outAt`, the operands unchanged and every semaphore at zero.
-/
module

public import proofs.«01_k».proof.Proof.Deal
public import proofs.«01_k».proof.Proof.Chain
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.KernelIdeal.Looped

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## What the operand buffers hold -/

def xstg (c : Dev nD) : (cc0_stg0_0 : Ref sig .tc).ty.Contents (Elt F) :=
  (win0_0.blk (0 : Fin 1)).view.read (Elt F) ((s₀ m ρ).mem (win0_0.arr.view.loc (c : Thread nD τ)))
def wstg (c : Dev nD) : (cc0_stg1_0 : Ref sig .tc).ty.Contents (Elt F) :=
  (win0_1.blk (0 : Fin 1)).view.read (Elt F) ((s₀ m ρ).mem (win0_1.arr.view.loc (c : Thread nD τ)))
def astg (c : Dev nD) : (cc0_stg2_0 : Ref sig .tc).ty.Contents (Elt F) :=
  (win0_2.blk (0 : Fin 1)).view.read (Elt F) ((s₀ m ρ).mem (win0_2.arr.view.loc (c : Thread nD τ)))
def bstg (c : Dev nD) : (cc0_stg3_0 : Ref sig .tc).ty.Contents (Elt F) :=
  (win0_3.blk (0 : Fin 1)).view.read (Elt F) ((s₀ m ρ).mem (win0_3.arr.view.loc (c : Thread nD τ)))

def inp : Inp F where
  x := xstg m ρ
  w := wstg m ρ
  scale c := k0_pay85 (theNum (astg m ρ c)) (theNum (bstg m ρ c))

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's body starts from; -/
def start (c : Dev nD) : sProp 𝕄 := iprop(∃ K J, recs (inp m ρ) K J ∗ ghost c)
def Φ₀ (c : Dev nD) : sProp 𝕄 := iprop(start m ρ c ∗ commAny false c ∗ commAny true c)
/-- what it ends with. -/
def Φ₁ (c : Dev nD) : sProp 𝕄 := iprop(allZero c ∗ commAny false c ∗ commAny true c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => astg m ρ c
    | ⟨3, _⟩ => bstg m ρ c
    | ⟨4, _⟩ => outAt (inp m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

/-- A staging buffer holding `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_out (c : Dev nD) (b : Ref sig .tc) (X : b.ty.Contents (Elt F)) : (stg c b X : sProp 𝕄) ⊢ (((c : Thread nD τ).loc b) ↦{fullShare} X) := by
  unfold stg
  iintro ⟨%f, %h, H⟩
  subst h
  iexact H
omit [FloatOps F] in
theorem stg_in (c : Dev nD) (b : Ref sig .tc) (X : b.ty.Contents (Elt F)) : (((c : Thread nD τ).loc b) ↦{fullShare} X) ⊢ (stg c b X : sProp 𝕄) := by
  unfold stg
  iintro H
  iexists X
  isplitr; · (ipureintro; rfl)
  iexact H

theorem before_0 (c : Dev nD) (d : _) : (dats (F := F) m ρ 0 c).before (0 : Fin 5) t₀ d = xstg m ρ c := by
  unfold Dat.before; rw [if_pos (fetch0_0 t₀)]; rfl
theorem before_1 (c : Dev nD) (d : _) : (dats (F := F) m ρ 0 c).before (1 : Fin 5) t₀ d = wstg m ρ c := by
  unfold Dat.before; rw [if_pos (fetch0_1 t₀)]; rfl
theorem before_2 (c : Dev nD) (d : _) : (dats (F := F) m ρ 0 c).before (2 : Fin 5) t₀ d = astg m ρ c := by
  unfold Dat.before; rw [if_pos (fetch0_2 t₀)]; rfl
theorem before_3 (c : Dev nD) (d : _) : (dats (F := F) m ρ 0 c).before (3 : Fin 5) t₀ d = bstg m ρ c := by
  unfold Dat.before; rw [if_pos (fetch0_3 t₀)]; rfl

set_option maxRecDepth 4000 in
def bodyPre (c : Dev nD) : sProp 𝕄 :=
  iprop(Φ₀ m ρ c ∗ (dats m ρ 0 c).owesAt 0 t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ c ∗ (dats m ρ 0 c).owesAt 0 t₀.succ ∗ stg c cc0_stg0_0 (xstg m ρ c) ∗ stg c cc0_stg1_0 (wstg m ρ c)
    ∗ stg c cc0_stg2_0 (astg m ρ c) ∗ stg c cc0_stg3_0 (bstg m ρ c) ∗ stg c cc0_stg4_0 (outAt (inp m ρ) c))

omit [FloatOps F] in
theorem out_any (c : Dev nD) (X : (cc0_stg4_0 : Ref sig .tc).ty.Contents (Elt F)) :
    (stg c cc0_stg4_0 X : sProp 𝕄) ⊢ iprop(∃ f : Buf (Elt F) (outL c), outL c ↦{fullShare} f) := by
  unfold stg
  iintro ⟨%f, -, H⟩
  iexists f; iexact H

theorem sound_body (c : Dev nD) : bodyPre m ρ c ⊢ WP c looped (fun _ => bodyPost m ρ c) := by
  unfold bodyPre Φ₀ start
  simp only [before_0, before_1, before_2, before_3]
  unfold Dat.owesAt Pipeline.owesWithin
  iintro ⟨⟨⟨%K, %J, #HR, HG⟩, Hc0, Hc1⟩, ⟨%W, %hW, HO⟩, ⟨%d0, Hx⟩, ⟨%d1, Hw⟩, ⟨%d2, Ha⟩, ⟨%d3, Hb⟩, ⟨%d4, Ho⟩⟩
  iapply (looped_op (inp m ρ) K J c (astg m ρ c) (bstg m ρ c) rfl)
  isplitl [HG Hc0 Hc1 HO Hx Hw Ha Hb Ho]
  · isplitr; · iexact HR
    isplitl [HO]; · (unfold Owe; iexists W; iexact HO)
    isplitl [HG]; · iexact HG
    isplitl [Hc0]; · iexact Hc0
    isplitl [Hc1]; · iexact Hc1
    isplitl [Hx Hw Ha Hb]
    · unfold operands
      isplitl [Hx]; · iapply (stg_out c cc0_stg0_0 (xstg m ρ c)); iexact Hx
      isplitl [Hw]; · iapply (stg_out c cc0_stg1_0 (wstg m ρ c)); iexact Hw
      isplitl [Ha]; · iapply (stg_out c cc0_stg2_0 (astg m ρ c)); iexact Ha
      iapply (stg_out c cc0_stg3_0 (bstg m ρ c)); iexact Hb
    iapply (out_any c _); iexact Ho
  unfold Owe operands bodyPost Φ₁ Dat.owesAt Pipeline.owesWithin
  iintro ⟨⟨%W', HO⟩, HZ, Hc0, Hc1, ⟨Hx, Hw, Ha, Hb⟩, Ho⟩
  isplitl [HZ Hc0 Hc1]
  · isplitl [HZ]; · iexact HZ
    isplitl [Hc0] <;> iassumption
  isplitl [HO]
  · iexists W'
    isplitr; · ipureintro; exact fun _ _ => Or.inl trivial
    iexact HO
  isplitl [Hx]; · iapply (stg_in c cc0_stg0_0 (xstg m ρ c)); iexact Hx
  isplitl [Hw]; · iapply (stg_in c cc0_stg1_0 (wstg m ρ c)); iexact Hw
  isplitl [Ha]; · iapply (stg_in c cc0_stg2_0 (astg m ρ c)); iexact Ha
  isplitl [Hb]; · iapply (stg_in c cc0_stg3_0 (bstg m ρ c)); iexact Hb
  iapply (stg_in c cc0_stg4_0 (outAt (inp m ρ) c)); iexact Ho

theorem body_called (c : Dev nD) : (defs₀ (F := F)) .tc cfg0.body (cfg0.bodyArgs t₀ (cfg0.slots t₀)) = looped := body_eq_looped

theorem pre_unfolds (c : Dev nD) :
    iprop((dats m ρ 0 c).Φ t₀.castSucc ∗ (dats m ρ 0 c).owesAt 0 t₀.castSucc
        ∗ bigSep Finset.univ fun w : Fin cfg0.W =>
            iprop(∃ d, owns (c : Thread nD τ) ((cfg0.win w).stage (cfg0.slots t₀ w)) fullShare ((dats m ρ 0 c).before w t₀ d)))
      ⊢ bodyPre m ρ c := by
  rw [bigSep_W]
  unfold bodyPre stg
  simp only [← owns_whole_eq]
  exact BI.Entails.refl _

theorem post_folds (c : Dev nD) :
    bodyPost m ρ c ⊢ iprop((dats m ρ 0 c).Φ t₀.succ ∗ (dats m ρ 0 c).owesAt 0 t₀.succ
        ∗ bigSep Finset.univ fun w : Fin cfg0.W =>
            owns (c : Thread nD τ) ((cfg0.win w).stage (cfg0.slots t₀ w)) fullShare ((dats m ρ 0 c).after w t₀)) := by
  rw [bigSep_W]
  unfold bodyPost stg
  simp only [← owns_whole_eq]
  exact BI.Entails.refl _

/-- The body at the pipeline's one point. -/
theorem body_obligation (c : Dev nD) : BodyObligation (dats (F := F) m ρ 0 c) (defs₀ (F := F)) 𝒱₀ 0 Set.univ := fun t => by
  rw [fin_N t, body_called c]
  have h := Idealize.SL.Sem.wp_mono frame (wpE (defs₀ (F := F)) 𝒱₀ (c : Thread nD τ) none) Set.univ (p := looped)
    (Q := fun _ => bodyPost m ρ c) fun _ => post_folds m ρ c
  have h' := sound_body m ρ c
  unfold WP at h'
  have h'' := (pre_unfolds m ρ c).trans (h'.trans h)
  rw [bigSep_W, bigSep_W] at h'' ⊢
  generalize (looped : P F PUnit) = body at h'' ⊢
  exact h''

end Body

/-! ## The launch -/

/-- The kernel's own semaphores: all but the barrier. -/
abbrev Own : Type := {k : Ce // k ≠ .bar}
def osem (k : Own) : SemLoc sig := csem k.1

theorem ownSemFacts : Pipeline.OwnSemFacts cfg0.spec osem where
  isScoped k := (by decide +kernel : ∀ k : Ce, k ≠ .bar → (csem k).isScoped .tc = true) k.1 k.2
  inj a b h := Subtype.ext (csem_inj _ _ h)
  disj k := (by decide +kernel : ∀ k : Ce, ∀ (w : Fin 5) (s : Fin (spec0 w).nbuf), csem k ≠ .dma ((spec0 w).sem s)) k.1

theorem share_eq (c : Dev nD) (w : Fin cfg0.W) : (dats m ρ 0 c).share w = fullShare := by unfold Dat.share; split <;> rfl

omit [FloatOps F] in
theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
theorem sems0_eq (c : Dev nD) :
    (bigSep Finset.univ fun k : Ce => semVal (cell c k) 0 : sProp 𝕄)
      = iprop(unscopedSems0 c ∗ Pipeline.ownSems0 (Ix := ℕ) (Name := ℕ) (U := UU) (Lvl := ℕ) (Val := Elt F) (τ := τ) osem c) := by
  rw [bigSep_univ_at _ Ce.bar, ← bigSep_subtype_ne, unscopedSems0_eq]; rfl

/-- What the first element splits into, per device. -/
def G (c : Dev nD) : sProp 𝕄 :=
  iprop((bigSep Finset.univ fun k : Ce => roundState ER (Rd (inp m ρ)) (cell c k) 0) ∗ (positions c ∗ pays c ∗ ends c)
    ∗ ∃ J : Key → ℕ, bigSep keys fun k => Release.slotInv ES (J k) k (resK (F := F) k))

/-- What every device knows but the levels. -/
def known (K : Dev nD × Ce → ℕ) (J : Key → ℕ) : sProp 𝕄 :=
  iprop((bigSep Finset.univ fun x : Dev nD × Ce => cellInv ER (Rd (inp m ρ)) (K x) (cell x.1 x.2))
    ∗ (bigSep Finset.univ fun x : Dev nD × Ce => reached ER (cell x.1 x.2) 0)
    ∗ bigSep keys fun k => Release.slotInv ES (J k) k (resK (F := F) k))

instance known_persistent (K : Dev nD × Ce → ℕ) (J : Key → ℕ) : BI.Persistent (known m ρ K J) := by unfold known; infer_instance

/-- What the devices' one step together makes of it. -/
def G' (c : Dev nD) : sProp 𝕄 := iprop(∃ K J, known m ρ K J ∗ (positions c ∗ pays c ∗ ends c))

def uX : UX := (initOf kcells ktoks, Release.initSlots keys 1)
def u₀ : UU := (initOf (Pipeline.cells cfgs cellOf_inj) (Pipeline.launchToks cfgs cellOf_inj), uX)

theorem own_uX : (BI.own ((embR : Emb UX 𝕄) uX) : sProp 𝕄) ⊢ iprop(BI.own (ER (F := F) (initOf kcells ktoks)) ∗ BI.own (ES (F := F) (Release.initSlots keys 1))) :=
  own_pair_emb (embR : Emb UX 𝕄) (initOf kcells ktoks) (Release.initSlots keys 1)

theorem over_cells (Φ : GSem nD τ sig → sProp 𝕄) :
    bigSep kcells Φ = bigSep Finset.univ fun c : Dev nD => bigSep Finset.univ fun k : Ce => Φ (cell c k) := by
  unfold kcells; rw [bigSep_map, bigSep_univ_prod]; rfl

theorem over_toks : (bigSep ktoks fun x => (dutyTok ER x.1 x.2.1 x.2.2 : sProp 𝕄))
    = bigSep Finset.univ fun c : Dev nD => bigSep Finset.univ fun k : Ce => toksOf c k := by
  unfold ktoks toksOf; rw [bigSep_map, bigSep_univ_prod, bigSep_univ_prod]; rfl

theorem fund : (BI.own ((embR : Emb UX 𝕄) uX) : sProp 𝕄) ⊢ |={Set.univ}=> bigSep Finset.univ (G m ρ) := by
  have hS := Release.slots_init (ES (F := F)) (Es := Set.univ) keys 1 (resK (F := F)) ∅
  have hJ (J : Key → ℕ) : iprop((bigSep keys fun k => Release.slotInv ES (J k) k (resK (F := F) k))
        ∗ bigSep Finset.univ fun c : Dev nD => iprop((bigSep Finset.univ fun k : Ce => roundState ER (Rd (inp m ρ)) (cell c k) 0) ∗ positions c ∗ pays c ∗ ends c))
      ⊢ bigSep Finset.univ (G m ρ) := with_known fun c _ => by
    unfold G
    iintro ⟨#HJ, HS, HL⟩
    isplitl [HS]; · iexact HS
    isplitl [HL]; · iexact HL
    iexists J; iexact HJ
  have hX : (bigSep Finset.univ fun c : Dev nD => (positions c : sProp 𝕄))
      = iprop((bigSep kcells fun g => atPos ER g 0 ∅ 0) ∗ bigSep kcells fun g => reached ER g 0) := by
    rw [over_cells, over_cells, ← bigSep_sep']
    unfold positions
    exact bigSep_congr fun c _ => bigSep_sep' _ _ _
  iintro H
  ihave H := (own_uX (F := F)) $$ H
  icases H with ⟨HB, HK⟩
  imod (Rounds.fund ER (Rd (inp m ρ)) kcells ktoks) $$ HB with ⟨Hst, Hr, Hat, Htok⟩
  imod hS $$ HK with ⟨%J, -, HJ, Hrd, Hwr⟩
  imodintro
  iapply (hJ J)
  isplitl [HJ]; · iexact HJ
  rw [bigSep_sep', bigSep_sep', bigSep_sep', hX]
  isplitl [Hst]; · iapply (Entails.of_eq (over_cells fun g => roundState ER (Rd (inp m ρ)) g 0)); iexact Hst
  isplitl [Hat Hr]
  · isplitl [Hat] <;> iassumption
  isplitl [Htok]
  · iapply (toks_around (F := F)); iapply (Entails.of_eq (over_toks (F := F))); iexact Htok
  iapply (ends_intro (F := F))
  isplitl [Hrd] <;> iassumption

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : Ce => iprop(∃ κ : ℕ, cellInv ER (Rd (inp m ρ)) κ (cell c k)))
          ∗ (positions c ∗ pays c ∗ ends c) ∗ ∃ J : Key → ℕ, bigSep keys fun k => Release.slotInv ES (J k) k (resK (F := F) k)) := by
  have h : iprop((bigSep Finset.univ fun k : Ce => semVal (cell c k) 0) ∗ bigSep Finset.univ fun k : Ce => roundState ER (Rd (inp m ρ)) (cell c k) 0)
      ⊢ (|={Set.univ}=> bigSep Finset.univ fun k : Ce => iprop(∃ κ : ℕ, cellInv ER (Rd (inp m ρ)) κ (cell c k)) : sProp 𝕄) := by
    rw [← bigSep_sep']
    exact (bigSep_mono fun k _ => (Rounds.body_intro ER (Rd (inp m ρ)) (cell c k)).trans inv_alloc).trans (bigSep_fupd _ _)
  unfold G
  iintro ⟨Hos, Hus, Hst, HL, HJ⟩
  imod h $$ [Hos Hus Hst] with HI
  · rw [sems0_eq]
    isplitl [Hos Hus]
    · isplitl [Hus] <;> iassumption
    iexact Hst
  imodintro
  isplitl [HI]; · iexact HI
  isplitl [HL]; · iexact HL
  iexact HJ

theorem regroup :
    (bigSep Finset.univ fun c : Dev nD => iprop((bigSep Finset.univ fun k : Ce => iprop(∃ κ : ℕ, cellInv ER (Rd (inp m ρ)) κ (cell c k)))
          ∗ (positions c ∗ pays c ∗ ends c) ∗ ∃ J : Key → ℕ, bigSep keys fun k => Release.slotInv ES (J k) k (resK (F := F) k)) : sProp 𝕄)
      ⊢ bigSep Finset.univ (G' m ρ) := by
  have hR : (bigSep Finset.univ fun c : Dev nD => (positions c : sProp 𝕄))
      = iprop((bigSep Finset.univ fun c : Dev nD => bigSep Finset.univ fun k : Ce => atPos ER (cell c k) 0 ∅ 0)
        ∗ bigSep Finset.univ fun x : Dev nD × Ce => reached ER (cell x.1 x.2) 0) := by
    rw [bigSep_univ_prod, ← bigSep_sep']
    unfold positions
    exact bigSep_congr fun c _ => bigSep_sep' _ _ _
  have hK (K : Dev nD × Ce → ℕ) (J : Key → ℕ) : iprop(known m ρ K J ∗ bigSep Finset.univ fun c : Dev nD => iprop(positions c ∗ pays c ∗ ends c))
      ⊢ bigSep Finset.univ (G' m ρ) := with_known fun c _ => by
    unfold G'
    iintro ⟨#HK, HL⟩
    iexists K; iexists J
    isplitr; · iexact HK
    iexact HL
  have hJ : (bigSep Finset.univ fun c : Dev nD => (iprop(∃ J : Key → ℕ, bigSep keys fun k => Release.slotInv ES (J k) k (resK (F := F) k)) : sProp 𝕄))
      ⊢ iprop(∃ J : Key → ℕ, bigSep keys fun k => Release.slotInv ES (J k) k (resK (F := F) k)) :=
    bigSep_elim (Finset.mem_univ (0 : Dev nD)) (Φ := fun _ : Dev nD => (iprop(∃ J : Key → ℕ, bigSep keys fun k => Release.slotInv ES (J k) k (resK (F := F) k)) : sProp 𝕄))
  have hP : (bigSep Finset.univ fun c : Dev nD => (positions c : sProp 𝕄))
      ⊢ iprop((bigSep Finset.univ fun x : Dev nD × Ce => reached ER (cell x.1 x.2) 0) ∗ bigSep Finset.univ fun c : Dev nD => positions c) := by
    rw [hR]
    iintro ⟨HA, #HR⟩
    isplitr; · iexact HR
    isplitl [HA]; · iexact HA
    iexact HR
  rw [bigSep_sep', bigSep_sep', ← bigSep_univ_prod (fun x : Dev nD × Ce => iprop(∃ κ : ℕ, cellInv ER (Rd (inp m ρ)) κ (cell x.1 x.2)))]
  iintro ⟨HI, HL, HJ⟩
  ihave HI := (BI.bigSep_exists_pi Finset.univ (fun (x : Dev nD × Ce) (κ : ℕ) => (cellInv ER (Rd (inp m ρ)) κ (cell x.1 x.2) : sProp 𝕄))) $$ HI
  icases HI with ⟨%K, #HI⟩
  ihave HJ := hJ $$ HJ
  icases HJ with ⟨%J, #HJ⟩
  ihave HL := (Entails.of_eq (bigSep_sep' Finset.univ (fun c : Dev nD => (positions c : sProp 𝕄)) (fun c => iprop(pays c ∗ ends c)))) $$ HL
  icases HL with ⟨HP, HL⟩
  ihave HP := hP $$ HP
  icases HP with ⟨#HR, HP⟩
  iapply (hK K J)
  isplitr
  · unfold known
    isplitr; · iexact HI
    isplitr; · iexact HR
    iexact HJ
  · iapply (Entails.of_eq (bigSep_sep' Finset.univ (fun c : Dev nD => (positions c : sProp 𝕄)) (fun c => iprop(pays c ∗ ends c))).symm)
    isplitl [HP]; · iexact HP
    iexact HL

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  unfold G' known
  icases HG with ⟨%K, %J, ⟨HI, HR, HJ⟩, HL⟩
  imodintro
  isplitl
  · unfold start
    iexists K; iexists J
    isplitl [HI HR HJ Hlev]
    · unfold recs
      isplitl [HI]; · iexact HI
      isplitl [HR]; · iexact HR
      isplitl [HJ]; · iexact HJ
      iexact Hlev
    iapply (ghost_intro (F := F) c)
    isplitl [HL]; · iexact HL
    iexact Hcr
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, H0⟩, ⟨%g, H1⟩⟩
  isplitl [Hs]; · iexact Hs
  unfold commAny
  isplitl [H0]; · (iexists f; iexact H0)
  iexists g; iexact H1

omit [FloatOps F] in
theorem zero_all (c : Dev nD) : (allZero c : sProp 𝕄) ⊢ bigSep Finset.univ fun k : Ce => semVal (cell c k) 0 := by
  rw [by_ring, bools]
  simp only [pairs]
  exact BI.Entails.refl _

theorem phi1_exit (c : Dev nD) :
    (dats m ρ 0 c).Φ (Fin.last cfg0.N) ⊢ iprop(unscopedSems0 c ∗ Pipeline.ownSems0 osem c ∗ Pipeline.scopedRest cfg0.spec c) := by
  have h : (allZero c : sProp 𝕄) ⊢ iprop(unscopedSems0 c ∗ Pipeline.ownSems0 osem c) := (zero_all c).trans (Entails.of_eq (sems0_eq c))
  rw [show (dats m ρ 0 c).Φ (Fin.last cfg0.N) = Φ₁ c from rfl, scopedRest0_eq]
  unfold Φ₁ commAny
  iintro ⟨HZ, ⟨%f, H0⟩, ⟨%g, H1⟩⟩
  ihave HZ := h $$ HZ
  icases HZ with ⟨HU, HO⟩
  isplitl [HU]; · iexact HU
  isplitl [HO]; · iexact HO
  isplitl [H0]; · (iexists f; iexact H0)
  iexists g; iexact H1

theorem above_O₀ (c : Dev nD) : Above 0 (O₀ c) :=
  (((above_OR c).mono (Nat.zero_le 1)).add (Above.tally 0 _ .bar 0 1 (by decide) Nat.one_pos)).add (Above.tally 0 _ .bar 0 1 (by decide) Nat.one_pos)

omit [FloatOps F] in
theorem mayWait_stage (c : Dev nD) (q : DmaSem sig) (hq : ∀ k, csem k ≠ .dma q) (O : T) (hO : Above 0 O) :
    (levAts L lv : sProp 𝕄) ⊢ MayWait (c : Thread nD τ) (.dma q) 0 O :=
  MayOwe.of_cut (L := L) (lev := lv) 0 (fun p hp => by rw [Finset.mem_singleton.mp hp, L_tc]; exact Finset.mem_range.mpr (show 0 < 32 by decide))
    (fun g u hg => (hO g u hg).1)
    (fun p hp => by rw [Finset.mem_singleton.mp hp]; unfold lv; rw [ofSem_none _ hq])
    (fun g u hg => (hO g u hg).2)

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (fun k => (by decide +kernel : ∀ k : Ce, ∀ (w : Fin 5) (s : Fin (spec0 w).nbuf), csem k ≠ .dma ((spec0 w).sem s)) k w s) _ (by
      rcases t with ⟨_ | _, ht⟩
      · exact above_O₀ c
      · exact Above.zero 0)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem first_split : (ownU (u₀ : UU) : sProp 𝕄) ⊢ |={Set.univ}=> iprop(BI.own (EP (F := F) (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund m ρ) $$ HX with HG
  imodintro
  isplitl [HP] <;> iassumption

theorem main_eq (c : Dev nD) : main (F := F) c = .op (.customCall (Pipeline.entry 0) ()) fun _ => .ret ⟨⟩ := rfl
theorem owed_first (c : Dev nD) : (dats m ρ 0 c).owed 0 = O₀ c := rfl
theorem owed_last (c : Dev nD) : (dats m ρ 0 c).owed (Fin.last _) = 0 := rfl
theorem arr_first (c : Dev nD) (w : Fin 5) : (dats m ρ 0 c).A w = m ((cfg0.win w).arr.view.loc (c : Thread nD τ)) := rfl

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := main_eq)
    (hbody := fun c => (body_obligation m ρ c).loose) (hne := block_pos0) (harr := arr_whole0) (hstage := stage_whole0) (hshare := share_eq m ρ)
    (hdistinct := winFacts0.arr_inj)
    (O₀ := O₀) (howed₀ := owed_first m ρ) (howedN := owed_last m ρ)
    (L := L) (lv := lv) (hL := L_of_ne) (hwaits := waits m ρ)
    (G := G m ρ) (G' := G' m ρ) (u₀ := u₀)
    (hu₀ := first_split m ρ)
    (hglob := glob m ρ)
    (hA := arr_first m ρ) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ### What the final memory holds -/

theorem finalA_0 (c : Dev nD) : finalA m ρ c (0 : Fin 5) = m ((c : Thread nD τ).loc main_arg0) := (dats (F := F) m ρ 0 c).arrAt_in (0 : Fin 5) rfl _
theorem finalA_1 (c : Dev nD) : finalA m ρ c (1 : Fin 5) = m ((c : Thread nD τ).loc main_arg1) := (dats (F := F) m ρ 0 c).arrAt_in (1 : Fin 5) rfl _
theorem finalA_2 (c : Dev nD) : finalA m ρ c (2 : Fin 5) = m ((c : Thread nD τ).loc main_arg2) := (dats (F := F) m ρ 0 c).arrAt_in (2 : Fin 5) rfl _
theorem finalA_3 (c : Dev nD) : finalA m ρ c (3 : Fin 5) = m ((c : Thread nD τ).loc main_arg3) := (dats (F := F) m ρ 0 c).arrAt_in (3 : Fin 5) rfl _

/-- The run leaves the operands as they were and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c (0 : Fin 5)).trans (finalA_0 m ρ c), (h.1 c (1 : Fin 5)).trans (finalA_1 m ρ c),
    (h.1 c (2 : Fin 5)).trans (finalA_2 m ρ c), (h.1 c (3 : Fin 5)).trans (finalA_3 m ρ c)⟩, h.2⟩) (run_main m ρ)

end Cert.KernelIdeal.Looped

end
-- ==== Proof.Device.Chain.lean ====
/-
  The printed body is the looped one of `Steps.lean`: both are the same sequence of memory operations, so one
  computes to the other.
-/
module

public import proofs.«01_k».proof.Proof.Device.Steps
public import proofs.«01_k».proof.Proof.Gen.Kernel.Points
public import Idealize.ShloMosaic.Lib.Pipeline.Regions

@[expose] public section

noncomputable section

namespace Cert.Kernel.Looped

open Cert.Kernel Cert.Kernel.Gen
open Idealize.ShloMosaic Idealize.ShloMosaic.TcCoe Idealize.SL.Sem

variable {F : FTy → Type} [FloatOps F]

set_option maxRecDepth 65536 in
/-- The printed body, at the launch's one grid point, is the looped one. -/
theorem body_eq_looped : (bodyAt0 (F := F) t0_0 : P F PUnit) = looped := by
  chain_rfl

end Cert.Kernel.Looped

end
-- ==== Proof.Values.lean ====
/-
  What the run computes: on every device, in every element, the sum over all the devices of their own products there,
  scaled and cut off below at zero.
-/
module

public import proofs.«01_k».proof.Proof.Launch
public import Idealize.ShloMosaic.Lib.MatmulPlain
public import Idealize.ShloMosaic.Lib.ValueIdx

@[expose] public section

noncomputable section

namespace Cert.KernelIdeal.Looped

open Cert.KernelIdeal Cert.KernelIdeal.Gen
open Idealize.ShloMosaic Idealize.ShloMosaic.TcCoe Idealize.SL.Sem
open Idealize.ShloMosaic.ValueIdx

/-! ## Each window is its whole array -/

section Windows

variable {F : FTy → Type} [FloatOps F]
variable (m : (ℓ : Loc nD τ sig) → Buf (Elt F) ℓ) (ρ : Dev nD → PrngReg)

theorem widx0 : ∀ t : Fin cfg0.N, win0_0.index t (0 : Fin 2) = 0 ∧ win0_0.index t (1 : Fin 2) = 0 := (by decide +kernel : ∀ t : Fin grid0.N, _)
theorem widx1 : ∀ t : Fin cfg0.N, win0_1.index t (0 : Fin 2) = 0 ∧ win0_1.index t (1 : Fin 2) = 0 := (by decide +kernel : ∀ t : Fin grid0.N, _)
theorem widx4 : ∀ t : Fin cfg0.N, win0_4.index t (0 : Fin 2) = 0 ∧ win0_4.index t (1 : Fin 2) = 0 := (by decide +kernel : ∀ t : Fin grid0.N, _)

theorem wemb0 (t : Fin cfg0.N) (j : S4096x128.Idx) : ((cfg0.win 0).blk t).view.emb j = j := by
  obtain ⟨e0, e1⟩ := widx0 t
  funext a; apply Fin.ext
  match a with
  | ⟨0, _⟩ => show win0_0.index t (0 : Fin 2) * 4096 + 1 * (j 0).val = (j 0).val; omega
  | ⟨1, _⟩ => show win0_0.index t (1 : Fin 2) * 128 + 1 * (j 1).val = (j 1).val; omega

theorem wemb1 (t : Fin cfg0.N) (j : S128x2048.Idx) : ((cfg0.win 1).blk t).view.emb j = j := by
  obtain ⟨e0, e1⟩ := widx1 t
  funext a; apply Fin.ext
  match a with
  | ⟨0, _⟩ => show win0_1.index t (0 : Fin 2) * 128 + 1 * (j 0).val = (j 0).val; omega
  | ⟨1, _⟩ => show win0_1.index t (1 : Fin 2) * 2048 + 1 * (j 1).val = (j 1).val; omega

theorem wemb4 (t : Fin cfg0.N) (j : S4096x2048.Idx) : ((cfg0.win 4).blk t).view.emb j = j := by
  obtain ⟨e0, e1⟩ := widx4 t
  funext a; apply Fin.ext
  match a with
  | ⟨0, _⟩ => show win0_4.index t (0 : Fin 2) * 4096 + 1 * (j 0).val = (j 0).val; omega
  | ⟨1, _⟩ => show win0_4.index t (1 : Fin 2) * 2048 + 1 * (j 1).val = (j 1).val; omega

theorem xstg_eq (c : Dev nD) : xstg m ρ c = m ((c : Thread nD τ).loc main_arg0) := by
  funext j
  show m ((c : Thread nD τ).loc main_arg0) (((cfg0.win 0).blk t₀).view.emb j) = _
  rw [wemb0]
theorem wstg_eq (c : Dev nD) : wstg m ρ c = m ((c : Thread nD τ).loc main_arg1) := by
  funext j
  show m ((c : Thread nD τ).loc main_arg1) (((cfg0.win 1).blk t₀).view.emb j) = _
  rw [wemb1]
theorem astg_eq (c : Dev nD) : astg m ρ c = m ((c : Thread nD τ).loc main_arg2) := by
  funext j
  show m ((c : Thread nD τ).loc main_arg2) (((cfg0.win 2).blk t₀).view.emb j) = _
  exact congrArg (m ((c : Thread nD τ).loc main_arg2)) (idx1 _ j)
theorem bstg_eq (c : Dev nD) : bstg m ρ c = m ((c : Thread nD τ).loc main_arg3) := by
  funext j
  show m ((c : Thread nD τ).loc main_arg3) (((cfg0.win 3).blk t₀).view.emb j) = _
  exact congrArg (m ((c : Thread nD τ).loc main_arg3)) (idx1 _ j)

theorem wcut4 (t : Fin cfg0.N) (X : Vec F S4096x2048 .f32) :
    (cfg0.win 4).cut (grid0.coords t) X = ((cfg0.win 4).blk t).view.read (Elt F) X := by
  funext j
  show X j = X (((cfg0.win 4).blk t).view.emb j)
  rw [wemb4]

theorem wcovered4 (i : S4096x2048.Idx) :
    ∃ t : Fin cfg0.N, (cfg0.win 4).flush t = true ∧ i ∈ ((cfg0.win 4).blk t).view.set :=
  ⟨t₀, flush0_4 _, by have h := ((cfg0.win 4).blk t₀).view.emb_mem_set i; rwa [wemb4] at h⟩

/-- The result's array ends as what the body leaves in its buffer. -/
theorem finalA_4 (c : Dev nD) : finalA m ρ c (4 : Fin 5) = outAt (inp m ρ) c :=
  (dats m ρ 0 c).arrAt_eq_of_cover 4 (outAt (inp m ρ) c) (fun t _ => wcut4 t _) wcovered4

/-- The run, with what the result holds. -/
theorem run_values : θ_run defs (onTc (τ := τ) (main (F := F))) ⟨m, fun _ => 0, ρ⟩ (fun r => ∀ c : Dev nD,
      r.2.mem ((c.tc : Thread nD τ).loc main_v1) = outAt (inp m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c (4 : Fin 5)).trans (finalA_4 m ρ c), (h.1 c (0 : Fin 5)).trans (finalA_0 m ρ c),
    (h.1 c (1 : Fin 5)).trans (finalA_1 m ρ c), (h.1 c (2 : Fin 5)).trans (finalA_2 m ρ c),
    (h.1 c (3 : Fin 5)).trans (finalA_3 m ρ c)⟩) (run_main m ρ)

end Windows

/-! ## Going round a ring -/

theorem row_back (r : Bool) (k : ℕ) : ∀ (c : Dev nD) (l : ℕ), k + l ≤ 32 → row r ((prv r)^[k] c) l = row r c (k + l) := by
  induction k with
  | zero => intro c l _; rw [Function.iterate_zero, id_eq, Nat.zero_add]
  | succ k ih =>
    intro c l h
    rw [Function.iterate_succ_apply, ih (prv r c) l (by omega), row_prv r c (k + l) (by omega)]
    congr 1; omega

/-- The devices met by stepping back 32 times are all the devices, each once. -/
theorem back_bij (r : Bool) (c : Dev nD) : Function.Bijective (fun k : Fin 32 => (prv r)^[k.val] c) := by
  have hi : Function.Injective (fun k : Fin 32 => (prv r)^[k.val] c) := fun k l h => by
    have h' := congrArg (fun d => row r d 0) h
    have h' : row r ((prv r)^[k.val] c) 0 = row r ((prv r)^[l.val] c) 0 := h'
    rw [row_back r k.val c 0 (by omega), row_back r l.val c 0 (by omega)] at h'
    exact Fin.ext (row_inj r c _ _ (by omega) (by omega) h')
  exact (Fintype.bijective_iff_injective_and_card _).mpr ⟨hi, by decide⟩

theorem sum_back {A : Type} [AddCommMonoid A] (r : Bool) (c : Dev nD) (f : Dev nD → A) :
    ∑ k ∈ Finset.range 32, f ((prv r)^[k] c) = ∑ d : Dev nD, f d := by
  rw [Finset.sum_range (fun k => f ((prv r)^[k] c))]
  exact (back_bij r c).sum_comp f

theorem spot_of_row (r : Bool) (c d : Dev nD) (k l : ℕ) (h : row r c k = row r d l) : spot r c k = spot r d l := by
  funext j a
  refine Fin.ext ?_
  rw [emb_chunk, emb_chunk]
  unfold chO
  rw [h]

theorem row_fwd (r : Bool) (c : Dev nD) (k : ℕ) (hk : k < 32) : row r ((prv r)^[fwd k] c) 31 = row r c k := by
  unfold fwd
  by_cases h : k = 31
  · rw [if_pos h, h]; rfl
  · rw [if_neg h, Function.iterate_succ_apply', row_prv r _ 31 (by decide), row_32, row_back r k c 0 (by omega), Nat.add_zero]

/-- Every element lies in the block that its place names. -/
theorem stepOf_lt (c : Dev nD) (i : S4096x2048.Idx) : stepOf c i < 32 := by
  unfold stepOf; split <;> exact Nat.mod_lt _ (by decide)

theorem spot_self (c : Dev nD) (i : S4096x2048.Idx) : spot (ringOf i) c (stepOf c i) (locOf i) = i := by
  obtain ⟨r, k, hk, hm⟩ := chunk_cover c i
  obtain ⟨j, -, e⟩ := Finset.mem_map.mp hm
  have e : spot r c k j = i := e
  subst e
  rw [ringOf_chunk, stepOf_chunk r c k hk, locOf_chunk]

theorem spot_fwd (c : Dev nD) (i : S4096x2048.Idx) :
    spot (ringOf i) ((prv (ringOf i))^[fwd (stepOf c i)] c) 31 (locOf i) = i := by
  rw [spot_of_row _ _ _ _ _ (row_fwd (ringOf i) c _ (stepOf_lt c i)), spot_self]

theorem fin_eq {F : FTy → Type} [FloatOps F] (I : Inp F) (r : Bool) (t : ℕ) : ∀ c : Dev nD,
    fin I r c t = k0_pay87 (I.scale ((prv r)^[t] c)) (acc I r ((prv r)^[t] c) 31) := by
  induction t with
  | zero => intro c; rfl
  | succ t ih => intro c; exact ih (prv r c)

/-! ## Over the extended reals -/

/-- A partial sum is the sum of the products of the devices met so far. -/
theorem acc_sum (I : Inp Ideal) (r : Bool) (s : ℕ) : ∀ (c : Dev nD), s < 32 → ∀ j : S128x1024.Idx,
    acc I r c s j = ∑ k ∈ Finset.range (s + 1), (own I ((prv r)^[k] c) (spot r c s j) : EReal) := by
  induction s with
  | zero => intro c _ j; rw [Finset.sum_range_one]; rfl
  | succ s ih =>
    intro c hs j
    rw [Finset.sum_range_succ', add_comm (∑ k ∈ Finset.range (s + 1), _)]
    have h := ih (prv r c) (by omega) j
    have e : spot r (prv r c) s = spot r c (s + 1) := spot_of_row _ _ _ _ _ (row_prv r c s (by omega))
    rw [e] at h
    exact congrArg (fun y : EReal => own I c (spot r c (s + 1) j) + y) h

/-- One element of the result, the scale being the same everywhere. -/
theorem outAt_apply (I : Inp Ideal) (a : EReal) (ha : ∀ d, I.scale d = a) (c : Dev nD) (i : S4096x2048.Idx) :
    outAt I c i = max ((∑ d : Dev nD, (own I d i : EReal)) * a) 0 := by
  show fin I (ringOf i) c (fwd (stepOf c i)) (locOf i) = _
  rw [fin_eq, ha]
  have h := acc_sum I (ringOf i) 31 ((prv (ringOf i))^[fwd (stepOf c i)] c) (by decide) (locOf i)
  rw [spot_fwd, sum_back (ringOf i) _ fun d => (own I d i : EReal)] at h
  unfold k0_pay87
  rw [shapeCast_self]
  show max (acc I (ringOf i) ((prv (ringOf i))^[fwd (stepOf c i)] c) 31 (locOf i) * a) (Ideal.ofBits .f32 0x00000000#32) = _
  rw [h, Ideal.ofBits_zero_f32]

theorem own_dot : dot_S4096x128_S128x2048_S4096x2048_1_0_0_1_n_n = DotDims.plain 4096 128 2048 := rfl

/-- One element of a device's own product. -/
theorem own_apply (I : Inp Ideal) (d : Dev nD) (p : Fin 4096) (q : Fin 2048) :
    own I d (ix2 p q) = ∑ l : Fin 128, (I.x d (ix2 p l) * I.w d (ix2 l q) : EReal) := by
  unfold own k0_pay1
  rw [shapeCast_self, shapeCast_self]
  have h := Ideal.matmul_plain_apply (M := 4096) (K := 128) (N := 2048) none (extf (F := Ideal) .bf16 (I.x d) bitsLt_fp8e5m2_bf16)
    (extf (F := Ideal) .bf16 (I.w d) bitsLt_fp8e5m2_bf16) (constant (F := Ideal) S4096x2048 .f32 0x00000000#32) p q
  refine h.trans ?_
  show Ideal.ofBits .f32 0x00000000#32 + ∑ l : Fin 128, (I.x d (ix2 p l) * I.w d (ix2 l q) : EReal) = _
  rw [Ideal.ofBits_zero_f32, zero_add]

end Cert.KernelIdeal.Looped

end
-- ==== Proof.RefValue.lean ====
/-
  The reference's result as one function of its four arguments.
-/
module

public import proofs.«01_k».proof.Proof.Gen.ReferenceIdeal.Value
public import Idealize.ShloMosaic.Lib.MatmulPlain
public import Idealize.ShloMosaic.Lib.ValueIdx

@[expose] public section

noncomputable section

namespace Cert.ReferenceIdeal.Spec

open Cert.ReferenceIdeal Cert.ReferenceIdeal.Gen Cert.ReferenceIdeal.Value Idealize.ShloMosaic Idealize.ShloMosaic.TcCoe Idealize.SL.Sem
open Idealize.ShloMosaic.ValueIdx

variable {F : FTy → Type} [FloatOps F]

/-- The one place of a scale. -/
def only : S1.Idx := fun a => ⟨0, by fin_cases a; decide⟩

theorem only_eq (i : S1.Idx) : i = only := funext fun a => Fin.ext (by
  have hi := (i a).isLt
  have hs : S1.size a = 1 := by fin_cases a; rfl
  show (i a).val = 0
  omega)

/-- The result as a function of the arguments. -/
def G (x : Vec F S4096x4096 .fp8e5m2) (w : Vec F S4096x2048 .fp8e5m2) (a b : Vec F S1 .f32) : Vec F S4096x2048 .f32 :=
  k0_pay1 x w (a only) (b only)

theorem hz : (![0, 0] : Fin 2 → Nat) = fun _ => 0 := funext fun a => by fin_cases a <;> rfl

/-- The body leaves that function of what its operands' buffers hold in the result's buffer. -/
theorem out_eq (c : Dev nD) (arg0 : Memref sig .tc .vmem S4096x4096 .fp8e5m2) (h0 : arg0.IsWhole)
    (arg1 : Memref sig .tc .vmem S4096x2048 .fp8e5m2) (h1 : arg1.IsWhole) (arg2 : Memref sig .tc .smem S1 .f32) (h2 : arg2.IsWhole)
    (arg3 : Memref sig .tc .smem S1 .f32) (h3 : arg3.IsWhole) (arg4 : Memref sig .tc .vmem S4096x2048 .f32) (h4 : arg4.IsWhole)
    (x0 : Vec F S4096x4096 .fp8e5m2) (x1 : Vec F S4096x2048 .fp8e5m2) (x2 x3 : Vec F S1 .f32) :
    out0_A_4 c arg0 h0 arg1 h1 arg2 h2 arg3 h3 arg4 h4 x0 x1 x2 x3 = G x0 x1 x2 x3 := by
  unfold out0_A_4
  rw [View.read_writes_junk_eq_canon]
  show View.canon ([⟨Rect.unit ![0, 0] S4096x2048.size inb_S4096x2048_S4096x2048_0_0,
      k0_pay1
        (View.readAt (Elt F) arg0.view (Rect.unit ![0, 0] S4096x4096.size inb_S4096x4096_S4096x4096_0_0).toLoadRect (h0.unread x0))
        (View.readAt (Elt F) arg1.view (Rect.unit ![0, 0] S4096x2048.size inb_S4096x2048_S4096x2048_0_0).toLoadRect (h1.unread x1))
        (View.readAt (Elt F) arg2.view (Rect.unit (s := S1) ![0] S1.size inb_S1_S1_0).toLoadRect (h2.unread x2) _)
        (View.readAt (Elt F) arg3.view (Rect.unit (s := S1) ![0] S1.size inb_S1_S1_0).toLoadRect (h3.unread x3) _)⟩] :
      List (View.Piece (Elt F) S4096x2048 .f32)) = _
  rw [View.canon_unit_zero hz, View.readAt_eq_ld, View.readAt_eq_ld, View.readAt_eq_ld, View.readAt_eq_ld, h0.read_unread,
    h1.read_unread, h2.read_unread, h3.read_unread, View.ld_unit_zero hz, View.ld_unit_zero hz]
  exact congrArg₂ (k0_pay1 x0 x1) (congrArg x2 (only_eq _)) (congrArg x3 (only_eq _))

variable (m : (ℓ : Loc nD τ sig) → Buf (Elt F) ℓ) (ρ : Dev nD → PrngReg)

/-! ## Each window is its whole array -/

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)

theorem emb0 (t : Fin cfg0.N) (j : S4096x4096.Idx) : ((cfg0.win 0).blk t).view.emb j = j := by
  obtain ⟨e0, e1⟩ := idx0 t
  funext a; apply Fin.ext
  match a with
  | ⟨0, _⟩ => show win0_0.index t (0 : Fin 2) * 4096 + 1 * (j 0).val = (j 0).val; omega
  | ⟨1, _⟩ => show win0_0.index t (1 : Fin 2) * 4096 + 1 * (j 1).val = (j 1).val; omega

theorem emb1 (t : Fin cfg0.N) (j : S4096x2048.Idx) : ((cfg0.win 1).blk t).view.emb j = j := by
  obtain ⟨e0, e1⟩ := idx1 t
  funext a; apply Fin.ext
  match a with
  | ⟨0, _⟩ => show win0_1.index t (0 : Fin 2) * 4096 + 1 * (j 0).val = (j 0).val; omega
  | ⟨1, _⟩ => show win0_1.index t (1 : Fin 2) * 2048 + 1 * (j 1).val = (j 1).val; omega

theorem emb4 (t : Fin cfg0.N) (j : S4096x2048.Idx) : ((cfg0.win 4).blk t).view.emb j = j := by
  obtain ⟨e0, e1⟩ := idx4 t
  funext a; apply Fin.ext
  match a with
  | ⟨0, _⟩ => show win0_4.index t (0 : Fin 2) * 4096 + 1 * (j 0).val = (j 0).val; omega
  | ⟨1, _⟩ => show win0_4.index t (1 : Fin 2) * 2048 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]
theorem iblk1_eq (c : Dev nD) (t : Fin cfg0.N) : iblk m c 1 t = V m c main_arg1 := by
  funext j; show V m c main_arg1 (((cfg0.win 1).blk t).view.emb j) = V m c main_arg1 j; rw [emb1]
theorem iblk2_eq (c : Dev nD) (t : Fin cfg0.N) : iblk m c 2 t = V m c main_arg2 := by
  funext j
  show V m c main_arg2 (((cfg0.win 2).blk t).view.emb j) = V m c main_arg2 j
  exact congrArg (V m c main_arg2) ((only_eq _).trans (only_eq j).symm)
theorem iblk3_eq (c : Dev nD) (t : Fin cfg0.N) : iblk m c 3 t = V m c main_arg3 := by
  funext j
  show V m c main_arg3 (((cfg0.win 3).blk t).view.emb j) = V m c main_arg3 j
  exact congrArg (V m c main_arg3) ((only_eq _).trans (only_eq j).symm)

theorem cut4_eq (t : Fin cfg0.N) (X : Vec F S4096x2048 .f32) :
    (cfg0.win 4).cut (grid0.coords t) X = ((cfg0.win 4).blk t).view.read (Elt F) X := by
  funext j
  show X j = X (((cfg0.win 4).blk t).view.emb j)
  rw [emb4]

theorem flushed4_eq (c : Dev nD) (t : Fin cfg0.N) : (dats m 0 c).flushed 4 t
    = ((cfg0.win 4).blk t).view.read (Elt F) (G (V m c main_arg0) (V m c main_arg1) (V m c main_arg2) (V m c main_arg3)) := by
  rw [flushed4_A, out_eq, iblk0_eq, iblk1_eq, iblk2_eq, iblk3_eq]
  exact cut4_eq t _

theorem covered4 (i : S4096x2048.Idx) :
    ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

/-- The result array after the run. -/
theorem final4 (c : Dev nD) : (dats m 0 c).arrAt 4 cfg0.N
    = G (m ((c : Thread nD τ).loc main_arg0)) (m ((c : Thread nD τ).loc main_arg1)) (m ((c : Thread nD τ).loc main_arg2))
      (m ((c : Thread nD τ).loc main_arg3)) :=
  ((dats m 0 c).arrAt_eq_of_cover 4 (G (V m c main_arg0) (V m c main_arg1) (V m c main_arg2) (V m c main_arg3))
    (fun t _ => flushed4_eq m c t) covered4).trans (by rw [V_main_arg0, V_main_arg1, V_main_arg2, V_main_arg3])

/-! ## Over the extended reals -/

theorem dot_plain : dot_S4096x4096_S4096x2048_S4096x2048_1_0_0_1_n_n = DotDims.plain 4096 4096 2048 := rfl

/-- One element of the result: the scaled inner product, cut off below at zero. -/
theorem G_apply (x : Vec Ideal S4096x4096 .fp8e5m2) (w : Vec Ideal S4096x2048 .fp8e5m2) (a b : Vec Ideal S1 .f32)
    (p : Fin 4096) (q : Fin 2048) :
    G x w a b (ix2 p q) = max ((∑ k : Fin 4096, x (ix2 p k) * w (ix2 k q)) * (a only * b only)) 0 := by
  have h := Ideal.matmul_plain_apply (M := 4096) (K := 4096) (N := 2048) none (extf (F := Ideal) .f32 x bitsLt_fp8e5m2_f32)
    (extf (F := Ideal) .f32 w bitsLt_fp8e5m2_f32) (constant (F := Ideal) S4096x2048 .f32 0x00000000#32) p q
  refine (congrArg (fun y : EReal => max (y * (a only * b only)) (Ideal.ofBits .f32 0x00000000#32)) h).trans ?_
  show max ((Ideal.ofBits .f32 0x00000000#32 + ∑ k : Fin 4096, x (ix2 p k) * w (ix2 k q)) * (a only * b only))
      (Ideal.ofBits .f32 0x00000000#32) = _
  rw [Ideal.ofBits_zero_f32, zero_add]

end Cert.ReferenceIdeal.Spec

end
-- ==== Proof.Equation.lean ====
/-
  The two programs compute the same: the sum of the devices' own products over their blocks of the contracted axis is
  the reference's product over the whole axis.
-/
module

public import proofs.«01_k».proof.Defs
public import proofs.«01_k».proof.Proof.Values
public import proofs.«01_k».proof.Proof.RefValue
public import proofs.«01_k».proof.Proof.Gen.ReferenceIdeal

@[expose] public section

noncomputable section

namespace Cert.Equation

open Idealize.ShloMosaic Idealize.ShloMosaic.TcCoe Idealize.SL.Sem
open Idealize.ShloMosaic.ValueIdx
open Cert.KernelIdeal.Looped (Inp inp outAt outAt_apply own own_apply run_values xstg_eq wstg_eq astg_eq bstg_eq theNum)

/-- A sum over the whole axis, cut into 32 blocks of 128. -/
theorem sum_blocks (f : Fin 4096 → EReal) :
    ∑ d : Fin 32, ∑ l : Fin 128, f ⟨d.val * 128 + l.val, by omega⟩ = ∑ k : Fin 4096, f k := by
  rw [← Fintype.sum_prod_type']
  refine Fintype.sum_equiv (finProdFinEquiv (m := 32) (n := 128)) _ _ fun x => congrArg f (Fin.ext ?_)
  show x.1.val * 128 + x.2.val = x.2.val + 128 * x.1.val
  omega

variable (m : (ℓ : Loc Cert.KernelIdeal.nD Cert.KernelIdeal.τ Cert.KernelIdeal.sig) → Buf (Elt Ideal) ℓ)
  (ρ : Dev Cert.KernelIdeal.nD → PrngReg)
  (X : Vec Ideal ⟨2, ![4096, 4096]⟩ .fp8e5m2) (W : Vec Ideal ⟨2, ![4096, 2048]⟩ .fp8e5m2) (A B : Vec Ideal ⟨1, ![1]⟩ .f32)

theorem scale_eq (d : Dev Cert.KernelIdeal.nD)
    (hA : m ((d.tc : Thread Cert.KernelIdeal.nD Cert.KernelIdeal.τ).loc Cert.KernelIdeal.main_arg2) = A)
    (hB : m ((d.tc : Thread Cert.KernelIdeal.nD Cert.KernelIdeal.τ).loc Cert.KernelIdeal.main_arg3) = B) :
    (inp m ρ).scale d = (A Cert.ReferenceIdeal.Spec.only * B Cert.ReferenceIdeal.Spec.only : EReal) := by
  show Cert.KernelIdeal.Gen.k0_pay85 (theNum (Cert.KernelIdeal.Looped.astg m ρ d)) (theNum (Cert.KernelIdeal.Looped.bstg m ρ d)) = _
  rw [astg_eq, bstg_eq]
  exact congrArg₂ (fun a b : Vec Ideal ⟨1, ![1]⟩ .f32 => (a Cert.ReferenceIdeal.Spec.only * b Cert.ReferenceIdeal.Spec.only : EReal)) hA hB

theorem own_eq (d : Dev Cert.KernelIdeal.nD)
    (hX : m ((d.tc : Thread Cert.KernelIdeal.nD Cert.KernelIdeal.τ).loc Cert.KernelIdeal.main_arg0)
      = Layout.block ⟨2, ![4096, 128]⟩ ⟨2, ![4096, 4096]⟩ 1 32 d X)
    (hW : m ((d.tc : Thread Cert.KernelIdeal.nD Cert.KernelIdeal.τ).loc Cert.KernelIdeal.main_arg1)
      = Layout.block ⟨2, ![128, 2048]⟩ ⟨2, ![4096, 2048]⟩ 0 32 d W) (p : Fin 4096) (q : Fin 2048) :
    own (inp m ρ) d (ix2 p q) = ∑ l : Fin 128, ((X (ix2 p ⟨d.val * 128 + l.val, by have := d.isLt; have : d.val < 32 := this; omega⟩)
      * W (ix2 ⟨d.val * 128 + l.val, by have := d.isLt; have : d.val < 32 := this; omega⟩ q) : EReal)) := by
  rw [own_apply]
  refine Finset.sum_congr rfl fun l _ => ?_
  have e0 : (inp m ρ).x d = Layout.block ⟨2, ![4096, 128]⟩ ⟨2, ![4096, 4096]⟩ 1 32 d X := (xstg_eq m ρ d).trans hX
  have e1 : (inp m ρ).w d = Layout.block ⟨2, ![128, 2048]⟩ ⟨2, ![4096, 2048]⟩ 0 32 d W := (wstg_eq m ρ d).trans hW
  rw [e0, e1]
  refine congrArg₂ (fun a b : EReal => a * b) (congrArg X ?_) (congrArg W ?_)
  · funext a; match a with | ⟨0, _⟩ => rfl | ⟨1, _⟩ => rfl
  · funext a; match a with | ⟨0, _⟩ => rfl | ⟨1, _⟩ => rfl

/-- What each device ends with is the reference's result. -/
theorem outAt_eq
    (h : ∀ d : Dev Cert.KernelIdeal.nD,
      m ((d.tc : Thread Cert.KernelIdeal.nD Cert.KernelIdeal.τ).loc Cert.KernelIdeal.main_arg0)
          = Layout.block ⟨2, ![4096, 128]⟩ ⟨2, ![4096, 4096]⟩ 1 32 d X
      ∧ m ((d.tc : Thread Cert.KernelIdeal.nD Cert.KernelIdeal.τ).loc Cert.KernelIdeal.main_arg1)
          = Layout.block ⟨2, ![128, 2048]⟩ ⟨2, ![4096, 2048]⟩ 0 32 d W
      ∧ m ((d.tc : Thread Cert.KernelIdeal.nD Cert.KernelIdeal.τ).loc Cert.KernelIdeal.main_arg2) = A
      ∧ m ((d.tc : Thread Cert.KernelIdeal.nD Cert.KernelIdeal.τ).loc Cert.KernelIdeal.main_arg3) = B)
    (c : Dev Cert.KernelIdeal.nD) : outAt (inp m ρ) c = Cert.ReferenceIdeal.Spec.G X W A B := by
  funext i
  obtain ⟨p, q, rfl⟩ : ∃ (p : Fin 4096) (q : Fin 2048), i = ix2 p q := ⟨i 0, i 1, eq_ix2 i⟩
  rw [outAt_apply (inp m ρ) _ (fun d => scale_eq m ρ A B d (h d).2.2.1 (h d).2.2.2) c, Cert.ReferenceIdeal.Spec.G_apply]
  refine congrArg (fun y : EReal => max (y * _) 0) ?_
  refine (Finset.sum_congr rfl fun d _ => own_eq m ρ X W d (h d).1 (h d).2.1 p q).trans ?_
  exact sum_blocks fun k => (X (ix2 p k) * W (ix2 k q) : EReal)

theorem algebraic : Cert.algebraic_KernelIdeal_ReferenceIdeal := by
  intro m ρ m' ρ' _ h
  refine ⟨_, (θ_run _ _ _).mono (fun r hr c => ⟨(hr c).1.trans (outAt_eq m ρ _ _ _ _ h c), (hr c).2⟩) (run_values m ρ), ?_⟩
  exact (θ_run _ _ _).mono (fun r hr => ⟨(hr 0).1.trans (Cert.ReferenceIdeal.Spec.final4 m' 0), (hr 0).2⟩)
    (Cert.ReferenceIdeal.Value.run_blocks m' ρ')

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Device.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Looped.run_frame m ρ,
  fun m ρ _ => Cert.KernelIdeal.Looped.run_frame m ρ,
  fun m ρ _ => Cert.ReferenceIdeal.Gen.frame m ρ,
  trivial,
  Cert.Equation.algebraic⟩

end Cert.Proof

end
